-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_KernelXIdeal_tame_x [hPre_tame_x : Cert.Pre_tame_x.Facts] (m : (ℓ : Loc Cert.KernelXIdeal.nD Cert.KernelXIdeal.τ Cert.KernelXIdeal.sig) → Buf (Elt Ideal) ℓ) : Prop :=
  ∀ c : Dev Cert.KernelXIdeal.nD,
    (Cert.Pre_tame_x.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1))) = (fun _ => 1#1)

def Pre_ReferenceXIdeal (m : (ℓ : Loc Cert.ReferenceXIdeal.nD Cert.ReferenceXIdeal.τ Cert.ReferenceXIdeal.sig) → Buf (Elt Ideal) ℓ) : Prop :=
  True

def Pre_ReferenceXIdeal_tame_x [hPre_tame_x : Cert.Pre_tame_x.Facts] (m : (ℓ : Loc Cert.ReferenceXIdeal.nD Cert.ReferenceXIdeal.τ Cert.ReferenceXIdeal.sig) → Buf (Elt Ideal) ℓ) : Prop :=
  ∀ c : Dev Cert.ReferenceXIdeal.nD,
    (Cert.Pre_tame_x.fn (F := Ideal) (m ((c.tc : Thread Cert.ReferenceXIdeal.nD Cert.ReferenceXIdeal.τ).loc Cert.ReferenceXIdeal.main_arg0)) (m ((c.tc : Thread Cert.ReferenceXIdeal.nD Cert.ReferenceXIdeal.τ).loc Cert.ReferenceXIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1))
      ∧ r.2.sem = fun _ => 0)

def quiescent_KernelXIdeal_pre_tame_x [hKernelXIdeal : Cert.KernelXIdeal.Facts] [hPre_tame_x : Cert.Pre_tame_x.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal_tame_x m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1))
      ∧ r.2.sem = fun _ => 0)

def quiescent_ReferenceXIdeal_pre_tame_x [hReferenceXIdeal : Cert.ReferenceXIdeal.Facts] [hPre_tame_x : Cert.Pre_tame_x.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal_tame_x m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29_2)) (v1 : (c : Dev Cert.KernelIdeal.nD) → Buf (Elt Ideal) ((c.tc : Thread Cert.KernelIdeal.nD Cert.KernelIdeal.τ).loc Cert.KernelIdeal.main_v29_0)) (v2 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_2) = v0 c
          ∧ r.2.mem ((c.tc : Thread Cert.KernelIdeal.nD Cert.KernelIdeal.τ).loc Cert.KernelIdeal.main_v29_0) = v1 c
          ∧ r.2.mem ((c.tc : Thread Cert.KernelIdeal.nD Cert.KernelIdeal.τ).loc Cert.KernelIdeal.main_v29_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_v193) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelX_KernelXIdeal : Prop :=
  True

def algebraic_KernelXIdeal_ReferenceXIdeal_pre_tame_x [hKernelXIdeal : Cert.KernelXIdeal.Facts] [hReferenceXIdeal : Cert.ReferenceXIdeal.Facts] [hPre_tame_x : Cert.Pre_tame_x.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal_tame_x m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)) →
    ∃ (v0 : (c : Dev Cert.KernelXIdeal.nD) → Buf (Elt Ideal) ((c.tc : Thread Cert.KernelXIdeal.nD Cert.KernelXIdeal.τ).loc Cert.KernelXIdeal.main_v28_2)) (v1 : (c : Dev Cert.KernelXIdeal.nD) → Buf (Elt Ideal) ((c.tc : Thread Cert.KernelXIdeal.nD Cert.KernelXIdeal.τ).loc Cert.KernelXIdeal.main_v28_0)) (v2 : (c : Dev Cert.KernelXIdeal.nD) → Buf (Elt Ideal) ((c.tc : Thread Cert.KernelXIdeal.nD Cert.KernelXIdeal.τ).loc Cert.KernelXIdeal.main_v28_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v28_2) = v0 c
          ∧ r.2.mem ((c.tc : Thread Cert.KernelXIdeal.nD Cert.KernelXIdeal.τ).loc Cert.KernelXIdeal.main_v28_0) = v1 c
          ∧ r.2.mem ((c.tc : Thread Cert.KernelXIdeal.nD Cert.KernelXIdeal.τ).loc Cert.KernelXIdeal.main_v28_1) = v2 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v176) = v0 c
          ∧ r.2.mem ((c.tc : Thread Cert.ReferenceXIdeal.nD Cert.ReferenceXIdeal.τ).loc Cert.ReferenceXIdeal.main_v177) = v1 c
          ∧ r.2.mem ((c.tc : Thread Cert.ReferenceXIdeal.nD Cert.ReferenceXIdeal.τ).loc Cert.ReferenceXIdeal.main_v178) = v2 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1))

def Claim : Prop :=
  ∃ (hKernel : Cert.Kernel.Facts) (hKernelIdeal : Cert.KernelIdeal.Facts) (hReferenceIdeal : Cert.ReferenceIdeal.Facts) (hKernelX : Cert.KernelX.Facts) (hKernelXIdeal : Cert.KernelXIdeal.Facts) (hReferenceXIdeal : Cert.ReferenceXIdeal.Facts) (hPre_tame : Cert.Pre_tame.Facts) (hPre_tame_x : Cert.Pre_tame_x.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_KernelX (hKernelX := hKernelX)
    ∧ quiescent_KernelXIdeal (hKernelXIdeal := hKernelXIdeal)
    ∧ quiescent_KernelXIdeal_pre_tame_x (hKernelXIdeal := hKernelXIdeal) (hPre_tame_x := hPre_tame_x)
    ∧ quiescent_ReferenceXIdeal (hReferenceXIdeal := hReferenceXIdeal)
    ∧ quiescent_ReferenceXIdeal_pre_tame_x (hReferenceXIdeal := hReferenceXIdeal) (hPre_tame_x := hPre_tame_x)
    ∧ preserves_Kernel_KernelIdeal
    ∧ algebraic_KernelIdeal_ReferenceIdeal_pre_tame (hKernelIdeal := hKernelIdeal) (hReferenceIdeal := hReferenceIdeal) (hPre_tame := hPre_tame)
    ∧ preserves_KernelX_KernelXIdeal
    ∧ algebraic_KernelXIdeal_ReferenceXIdeal_pre_tame_x (hKernelXIdeal := hKernelXIdeal) (hReferenceXIdeal := hReferenceXIdeal) (hPre_tame_x := hPre_tame_x)
-- ==== Pre_tame.lean ====
abbrev S5x6144x10240 : Shape := ⟨3, ![5, 6144, 10240]⟩
abbrev S64 : Shape := ⟨1, ![64]⟩
abbrev S2560x30720 : Shape := ⟨2, ![2560, 30720]⟩
abbrev S_ : Shape := ⟨0, ![]⟩

class Facts : Prop where
  bitsLt_bf16_f32 : FTy.bits .bf16 < FTy.bits .f32
  bcast_S_S5x6144x10240 : S_.BroadcastsInDim S5x6144x10240 (![] : Fin 0 → Fin S5x6144x10240.rank)
  reducesTo_S5x6144x10240_S_d0_1_2 : S5x6144x10240.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S5x6144x10240 .bf16) (main_arg1 : FVec F S64 .f32) (main_arg2 : IVec S5x6144x10240 8) (main_arg3 : FVec F S2560x30720 .bf16) : IVec S_ 1 :=
  let main_v0 : FVec F S5x6144x10240 .f32 := (extf .f32 · bitsLt_bf16_f32) main_arg0
  let main_v1 : FVec F S5x6144x10240 .f32 := Host.absf main_v0
  let main_cst : FVec F S_ .f32 := constant S_ .f32 0x7E000000#32
  let main_v2 : FVec F S5x6144x10240 .f32 := broadcastInDim S5x6144x10240 ![] bcast_S_S5x6144x10240 main_cst
  let main_v3 : IVec S5x6144x10240 1 := cmpf .ole main_v1 main_v2
  let main_c : IVec S_ 1 := constantI S_ 1 1#1
  let main_v4 : IVec S_ 1 := (fun x v => Host.reduce IntOp.andi x v reducesTo_S5x6144x10240_S_d0_1_2 h_S_) main_v3 main_c
  let main_v5 : FVec F S64 .f32 := Host.absf main_arg1
  let main_cst_0 : FVec F S_ .f32 := constant S_ .f32 0x3F800000#32
  let main_v6 : FVec F S64 .f32 := broadcastInDim S64 ![] bcast_S_S64 main_cst_0
  let main_v7 : IVec S64 1 := cmpf .ole main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  main_v9
-- ==== Pre_tame_x.lean ====
abbrev S5x6144x2560 : Shape := ⟨3, ![5, 6144, 2560]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S5x96x64x2560 : Shape := ⟨4, ![5, 96, 64, 2560]⟩
abbrev S5x96x2560x64 : Shape := ⟨4, ![5, 96, 2560, 64]⟩
abbrev S5x192x32x2560 : Shape := ⟨4, ![5, 192, 32, 2560]⟩
abbrev S5x192x2560 : Shape := ⟨3, ![5, 192, 2560]⟩

class Facts : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bitsLt_bf16_f32 : FTy.bits .bf16 < FTy.bits .f32
  shapeCasts_S5x6144x2560_S5x96x64x2560 : S5x6144x2560.ShapeCasts S5x96x64x2560
  transposes_S5x96x2560x64_S5x96x64x2560_0_1_3_2 : S5x96x2560x64.Transposes [0, 1, 3, 2] S5x96x64x2560
  shapeCasts_S5x96x64x2560_S5x6144x2560 : S5x96x64x2560.ShapeCasts S5x6144x2560
  shapeCasts_S5x6144x2560_S5x192x32x2560 : S5x6144x2560.ShapeCasts S5x192x32x2560
  reducesTo_S5x192x32x2560_S5x192x2560_d2 : S5x192x32x2560.ReducesTo [2] S5x192x2560
  h_S_ : 0 < S_.numel
  bcast_S_S5x192x2560 : S_.BroadcastsInDim S5x192x2560 (![] : Fin 0 → Fin S5x192x2560.rank)
  reducesTo_S5x192x2560_S_d0_1_2 : S5x192x2560.ReducesTo [0, 1, 2] S_
  dot_S5x96x64x2560_S64x64_S5x96x2560x64_2_1_013_0_n_n_wf : DotDims.WF S5x96x64x2560 S64x64 S5x96x2560x64 [2] [1] [0, 1, 3] [0] [] []

variable [Facts]

def dot_S5x96x64x2560_S64x64_S5x96x2560x64_2_1_013_0_n_n : DotDims S5x96x64x2560 S64x64 S5x96x2560x64 where
  lhsContracting := [2]
  rhsContracting := [1]
  lhsNonContracting := [0, 1, 3]
  rhsNonContracting := [0]
  lhsBatch := []
  rhsBatch := []
  wf := dot_S5x96x64x2560_S64x64_S5x96x2560x64_2_1_013_0_n_n_wf
def fn_part1 {F : FTy → Type} [FloatOps F] (main_v18 : FVec F S64x64 .f32) (main_v19 : FVec F S5x6144x2560 .f32) : IVec S_ 1 :=
  let main_v20 : FVec F S5x96x64x2560 .f32 := shapeCast S5x96x64x2560 main_v19 shapeCasts_S5x6144x2560_S5x96x64x2560
  let main_v21 : FVec F S5x96x2560x64 .f32 := (fun l r => Host.dotGeneral dot_S5x96x64x2560_S64x64_S5x96x2560x64_2_1_013_0_n_n (some .fp32) l r) main_v20 main_v18
  let main_v22 : FVec F S5x96x64x2560 .f32 := (transpose S5x96x64x2560 [0, 1, 3, 2] · transposes_S5x96x2560x64_S5x96x64x2560_0_1_3_2) main_v21
  let main_v23 : FVec F S5x6144x2560 .f32 := shapeCast S5x6144x2560 main_v22 shapeCasts_S5x96x64x2560_S5x6144x2560
  let main_v24 : FVec F S5x192x32x2560 .f32 := shapeCast S5x192x32x2560 main_v23 shapeCasts_S5x6144x2560_S5x192x32x2560
  let main_v25 : FVec F S5x192x32x2560 .f32 := Host.absf main_v24
  let main_cst_2 : FVec F S_ .f32 := constant S_ .f32 0xFF800000#32
  let main_v26 : FVec F S5x192x2560 .f32 := (fun x v => Host.reduce FloatOps.maximumf x v reducesTo_S5x192x32x2560_S5x192x2560_d2 h_S_) main_v25 main_cst_2
  let main_cst_3 : FVec F S_ .f32 := constant S_ .f32 0x00000000#32
  let main_v27 : FVec F S5x192x2560 .f32 := broadcastInDim S5x192x2560 ![] bcast_S_S5x192x2560 main_cst_3
  let main_v28 : IVec S5x192x2560 1 := cmpf .oeq main_v26 main_v27
  let main_cst_4 : FVec F S_ .f32 := constant S_ .f32 0x01800000#32
  let main_v29 : FVec F S5x192x2560 .f32 := broadcastInDim S5x192x2560 ![] bcast_S_S5x192x2560 main_cst_4
  let main_v30 : IVec S5x192x2560 1 := cmpf .oge main_v26 main_v29
  let main_cst_5 : FVec F S_ .f32 := constant S_ .f32 0x7E000000#32
  let main_v31 : FVec F S5x192x2560 .f32 := broadcastInDim S5x192x2560 ![] bcast_S_S5x192x2560 main_cst_5
  let main_v32 : IVec S5x192x2560 1 := cmpf .ole main_v26 main_v31
  let main_v33 : IVec S5x192x2560 1 := andi main_v30 main_v32
  let main_v34 : IVec S5x192x2560 1 := ori main_v28 main_v33
  let main_c_6 : IVec S_ 1 := constantI S_ 1 1#1
  let main_v35 : IVec S_ 1 := (fun x v => Host.reduce IntOp.andi x v reducesTo_S5x192x2560_S_d0_1_2 h_S_) main_v34 main_c_6
  main_v35

def fn {F : FTy → Type} [FloatOps F] (main_arg0 : FVec F S5x6144x2560 .bf16) (main_arg1 : FVec F S64 .f32) : IVec S_ 1 :=
  let main_v0 : IVec S64 32 := iotaInDim S64 32 0
  let main_v1 : IVec S64x1 32 := broadcastInDim S64x1 ![0] bcast_S64_S64x1_0 main_v0
  let main_v2 : IVec S1x64 32 := broadcastInDim S1x64 ![1] bcast_S64_S1x64_1 main_v0
  let main_v3 : IVec S64x64 32 := broadcastInDim S64x64 ![0, 1] bcast_S64x1_S64x64_0_1 main_v1
  let main_v4 : IVec S64x64 32 := broadcastInDim S64x64 ![0, 1] bcast_S1x64_S64x64_0_1 main_v2
  let main_v5 : IVec S64x64 32 := andi main_v3 main_v4
  let main_v6 : IVec S64x64 32 := ctpop main_v5
  let main_c : IVec S_ 32 := constantI S_ 32 1#32
  let main_v7 : IVec S64x64 32 := broadcastInDim S64x64 ![] bcast_S_S64x64 main_c
  let main_v8 : IVec S64x64 32 := andi main_v6 main_v7
  let main_c_0 : IVec S_ 32 := constantI S_ 32 2#32
  let main_v9 : IVec S64x64 32 := broadcastInDim S64x64 ![] bcast_S_S64x64 main_c_0
  let main_v10 : IVec S64x64 32 := muli main_v9 main_v8
  let main_c_1 : IVec S_ 32 := constantI S_ 32 1#32
  let main_v11 : IVec S64x64 32 := broadcastInDim S64x64 ![] bcast_S_S64x64 main_c_1
  let main_v12 : IVec S64x64 32 := subi main_v11 main_v10
  let main_v13 : FVec F S64x64 .f32 := sitofp .f32 main_v12
  let main_v14 : FVec F S1x64 .f32 := broadcastInDim S1x64 ![1] bcast_S64_S1x64_1 main_arg1
  let main_v15 : FVec F S64x64 .f32 := broadcastInDim S64x64 ![0, 1] bcast_S1x64_S64x64_0_1 main_v14
  let main_v16 : FVec F S64x64 .f32 := mulf main_v13 main_v15
  let main_cst : FVec F S_ .f32 := constant S_ .f32 0x3E000000#32
  let main_v17 : FVec F S64x64 .f32 := broadcastInDim S64x64 ![] bcast_S_S64x64 main_cst
  let main_v18 : FVec F S64x64 .f32 := mulf main_v16 main_v17
  let main_v19 : FVec F S5x6144x2560 .f32 := (extf .f32 · bitsLt_bf16_f32) main_arg0
  fn_part1 (F := F) main_v18 main_v19
-- ==== Kernel.lean ====
abbrev S5x6144x10240 : Shape := ⟨3, ![5, 6144, 10240]⟩
abbrev S64 : Shape := ⟨1, ![64]⟩
abbrev S2560x30720 : Shape := ⟨2, ![2560, 30720]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S30720x10240 : Shape := ⟨2, ![30720, 10240]⟩
abbrev S15360x10240 : Shape := ⟨2, ![15360, 10240]⟩
abbrev S960x10240 : Shape := ⟨2, ![960, 10240]⟩
abbrev S10240x2560 : Shape := ⟨2, ![10240, 2560]⟩
abbrev S512x1024 : Shape := ⟨2, ![512, 1024]⟩
abbrev S2560x512 : Shape := ⟨2, ![2560, 512]⟩
abbrev S256x1024 : Shape := ⟨2, ![256, 1024]⟩
abbrev S16x1024 : Shape := ⟨2, ![16, 1024]⟩
abbrev S1024x2560 : Shape := ⟨2, ![1024, 2560]⟩
abbrev S2560x1024 : Shape := ⟨2, ![2560, 1024]⟩
abbrev S8x32x256 : Shape := ⟨3, ![8, 32, 256]⟩
abbrev S8x256 : Shape := ⟨2, ![8, 256]⟩
abbrev S8x1x256 : Shape := ⟨3, ![8, 1, 256]⟩
abbrev S32x8x256 : Shape := ⟨3, ![32, 8, 256]⟩
abbrev S32x1x256 : Shape := ⟨3, ![32, 1, 256]⟩
abbrev S32x256 : Shape := ⟨2, ![32, 256]⟩
abbrev S128x256 : Shape := ⟨2, ![128, 256]⟩
abbrev S256x512 : Shape := ⟨2, ![256, 512]⟩
abbrev S512x256 : Shape := ⟨2, ![512, 256]⟩

abbrev nBuf : Space → Nat
  | .hbm => 46
  | .vmem => 15
  | .smem => 0
  | _ => 0

abbrev bufTy : (tb : Table) → Fin (tcTables nBuf tb) → BufTy
  | .hbm, ⟨0, _⟩ => ⟨S5x6144x10240, .bf16⟩
  | .hbm, ⟨1, _⟩ => ⟨S64, .f32⟩
  | .hbm, ⟨2, _⟩ => ⟨S5x6144x10240, .i8⟩
  | .hbm, ⟨3, _⟩ => ⟨S2560x30720, .bf16⟩
  | .hbm, ⟨4, _⟩ => ⟨S64, .i32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .f32⟩
  | .hbm, ⟨21, _⟩ => ⟨S1x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S4x4, .i32⟩
  | .hbm, ⟨28, _⟩ => ⟨S4x4, .i32⟩
  | .hbm, ⟨29, _⟩ => ⟨S_, .i32⟩
  | .hbm, ⟨30, _⟩ => ⟨S4x4, .i32⟩
  | .hbm, ⟨31, _⟩ => ⟨S4x4, .i32⟩
  | .hbm, ⟨32, _⟩ => ⟨S4x4, .i1⟩
  | .hbm, ⟨33, _⟩ => ⟨S4x4, .f32⟩
  | .hbm, ⟨34, _⟩ => ⟨S4x1x4x1, .f32⟩
  | .hbm, ⟨35, _⟩ => ⟨S1x64x1x64, .f32⟩
  | .hbm, ⟨36, _⟩ => ⟨S4x64x4x64, .f32⟩
  | .hbm, ⟨37, _⟩ => ⟨S4x64x4x64, .f32⟩
  | .hbm, ⟨38, _⟩ => ⟨S4x64x4x64, .f32⟩
  | .hbm, ⟨39, _⟩ => ⟨S256x256, .f32⟩
  | .hbm, ⟨40, _⟩ => ⟨S256x256, .bf16⟩
  | .hbm, ⟨41, _⟩ => ⟨S30720x10240, .bf16⟩
  | .hbm, ⟨42, _⟩ => ⟨S30720x10240, .i8⟩
  | .hbm, ⟨43, _⟩ => ⟨S15360x10240, .i8⟩
  | .hbm, ⟨44, _⟩ => ⟨S960x10240, .i8⟩
  | .hbm, ⟨45, _⟩ => ⟨S10240x2560, .f32⟩
  | .local _ .vmem, ⟨0, _⟩ => ⟨S256x256, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .i8⟩
  | .local _ .vmem, ⟨4, _⟩ => ⟨S512x1024, .i8⟩
  | .local _ .vmem, ⟨5, _⟩ => ⟨S2560x512, .bf16⟩
  | .local _ .vmem, ⟨6, _⟩ => ⟨S2560x512, .bf16⟩
  | .local _ .vmem, ⟨7, _⟩ => ⟨S256x1024, .i8⟩
  | .local _ .vmem, ⟨8, _⟩ => ⟨S256x1024, .i8⟩
  | .local _ .vmem, ⟨9, _⟩ => ⟨S16x1024, .i8⟩
  | .local _ .vmem, ⟨10, _⟩ => ⟨S16x1024, .i8⟩
  | .local _ .vmem, ⟨11, _⟩ => ⟨S1024x2560, .f32⟩
  | .local _ .vmem, ⟨12, _⟩ => ⟨S1024x2560, .f32⟩
  | .local _ .vmem, ⟨13, _⟩ => ⟨S512x1024, .bf16⟩
  | .local _ .vmem, ⟨14, _⟩ => ⟨S2560x1024, .f32⟩
  | _, _ => ⟨S5x6144x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![10, 60], ![false, false]⟩

def k0_cond2 (i : grid0.Coords) : BitVec 1 :=
  let arg1 : BitVec 32 := BitVec.ofNat 32 (i 1).val
  let c59_i32 : BitVec 32 := 59#32
  let v2357 : BitVec 1 := Scalar.cmpi .eq arg1 c59_i32
  let v2358 : BitVec 32 := Scalar.extui v2357
  let c0_i32_1062 : BitVec 32 := 0#32
  let v2359 : BitVec 1 := Scalar.cmpi .ne v2358 c0_i32_1062
  v2359

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2560x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S5x6144x10240 : Shape := ⟨3, ![5, 6144, 10240]⟩
abbrev S64 : Shape := ⟨1, ![64]⟩
abbrev S2560x30720 : Shape := ⟨2, ![2560, 30720]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S5x96x64x10240 : Shape := ⟨4, ![5, 96, 64, 10240]⟩
abbrev S5x96x10240x64 : Shape := ⟨4, ![5, 96, 10240, 64]⟩
abbrev S5x192x32x10240 : Shape := ⟨4, ![5, 192, 32, 10240]⟩
abbrev S5x192x10240 : Shape := ⟨3, ![5, 192, 10240]⟩
abbrev S5x192x1x10240 : Shape := ⟨4, ![5, 192, 1, 10240]⟩
abbrev S5x3072x2x10240 : Shape := ⟨4, ![5, 3072, 2, 10240]⟩
abbrev S5x3072x1x10240 : Shape := ⟨4, ![5, 3072, 1, 10240]⟩
abbrev S5x3072x10240 : Shape := ⟨3, ![5, 3072, 10240]⟩
abbrev S5x192x16x10240 : Shape := ⟨4, ![5, 192, 16, 10240]⟩
abbrev S30720x2560 : Shape := ⟨2, ![30720, 2560]⟩
abbrev S5x3072x2x2560 : Shape := ⟨4, ![5, 3072, 2, 2560]⟩
abbrev S5x3072x1x2560 : Shape := ⟨4, ![5, 3072, 1, 2560]⟩
abbrev S5x3072x2560 : Shape := ⟨3, ![5, 3072, 2560]⟩
abbrev S10240x2560 : Shape := ⟨2, ![10240, 2560]⟩
abbrev S15360x10240 : Shape := ⟨2, ![15360, 10240]⟩
abbrev S960x10240 : Shape := ⟨2, ![960, 10240]⟩

abbrev nBuf : Space → Nat
  | .hbm => 289
  | .vmem => 0
  | .smem => 0
  | _ => 0

abbrev hbmTy0_0 (i : Nat) : BufTy := match i % 128 with
  | 0 => ⟨S5x6144x10240, .bf16⟩
  | 1 => ⟨S64, .f32⟩
  | 2 => ⟨S5x6144x10240, .i8⟩
  | 3 => ⟨S2560x30720, .bf16⟩
  | 4 => ⟨S64, .i32⟩
  | 5 => ⟨S64x1, .i32⟩
  | 6 => ⟨S1x64, .i32⟩
  | 7 => ⟨S64x64, .i32⟩
  | 8 => ⟨S64x64, .i32⟩
  | 9 => ⟨S64x64, .i32⟩
  | 10 => ⟨S64x64, .i32⟩
  | 11 => ⟨S_, .i32⟩
  | 12 => ⟨S64x64, .i32⟩
  | 13 => ⟨S64x64, .i32⟩
  | 14 => ⟨S_, .i32⟩
  | 15 => ⟨S64x64, .i32⟩
  | 16 => ⟨S64x64, .i32⟩
  | 17 => ⟨S_, .i32⟩
  | 18 => ⟨S64x64, .i32⟩
  | 19 => ⟨S64x64, .i32⟩
  | 20 => ⟨S64x64, .f32⟩
  | 21 => ⟨S1x64, .f32⟩
  | 22 => ⟨S64x64, .f32⟩
  | 23 => ⟨S64x64, .f32⟩
  | 24 => ⟨S_, .f32⟩
  | 25 => ⟨S64x64, .f32⟩
  | 26 => ⟨S64x64, .f32⟩
  | 27 => ⟨S5x6144x10240, .f32⟩
  | 28 => ⟨S5x96x64x10240, .f32⟩
  | 29 => ⟨S5x96x10240x64, .f32⟩
  | 30 => ⟨S5x96x64x10240, .f32⟩
  | 31 => ⟨S5x6144x10240, .f32⟩
  | 32 => ⟨S5x192x32x10240, .f32⟩
  | 33 => ⟨S5x192x32x10240, .f32⟩
  | 34 => ⟨S_, .f32⟩
  | 35 => ⟨S5x192x10240, .f32⟩
  | 36 => ⟨S_, .f32⟩
  | 37 => ⟨S5x192x10240, .f32⟩
  | 38 => ⟨S5x192x10240, .f32⟩
  | 39 => ⟨S5x192x10240, .f32⟩
  | 40 => ⟨S_, .f32⟩
  | 41 => ⟨S_, .f32⟩
  | 42 => ⟨S5x192x10240, .f32⟩
  | 43 => ⟨S5x192x10240, .f32⟩
  | 44 => ⟨S5x192x10240, .f32⟩
  | 45 => ⟨S_, .f32⟩
  | 46 => ⟨S5x192x10240, .f32⟩
  | 47 => ⟨S5x192x10240, .f32⟩
  | 48 => ⟨S_, .f32⟩
  | 49 => ⟨S5x192x10240, .f32⟩
  | 50 => ⟨S5x192x10240, .i1⟩
  | 51 => ⟨S_, .f32⟩
  | 52 => ⟨S_, .f32⟩
  | 53 => ⟨S5x192x10240, .f32⟩
  | 54 => ⟨S5x192x10240, .f32⟩
  | 55 => ⟨S5x192x10240, .i32⟩
  | 56 => ⟨S_, .f32⟩
  | 57 => ⟨S5x192x10240, .f32⟩
  | 58 => ⟨S5x192x10240, .i1⟩
  | 59 => ⟨S_, .i32⟩
  | 60 => ⟨S_, .i32⟩
  | 61 => ⟨S5x192x10240, .i32⟩
  | 62 => ⟨S5x192x10240, .i32⟩
  | 63 => ⟨S5x192x10240, .i32⟩
  | 64 => ⟨S5x192x10240, .f32⟩
  | 65 => ⟨S_, .f32⟩
  | 66 => ⟨S5x192x10240, .f32⟩
  | 67 => ⟨S5x192x10240, .f32⟩
  | 68 => ⟨S5x192x1x10240, .f32⟩
  | 69 => ⟨S5x192x32x10240, .f32⟩
  | 70 => ⟨S5x192x32x10240, .f32⟩
  | 71 => ⟨S5x192x32x10240, .f32⟩
  | 72 => ⟨S_, .f32⟩
  | 73 => ⟨S5x192x32x10240, .f32⟩
  | 74 => ⟨S5x192x32x10240, .i1⟩
  | 75 => ⟨S_, .f32⟩
  | 76 => ⟨S5x192x32x10240, .f32⟩
  | 77 => ⟨S5x192x32x10240, .i1⟩
  | 78 => ⟨S_, .f32⟩
  | 79 => ⟨S_, .f32⟩
  | 80 => ⟨S5x192x32x10240, .f32⟩
  | 81 => ⟨S5x192x32x10240, .f32⟩
  | 82 => ⟨S5x192x32x10240, .f32⟩
  | 83 => ⟨S_, .f32⟩
  | 84 => ⟨S5x192x32x10240, .f32⟩
  | 85 => ⟨S5x192x32x10240, .f32⟩
  | 86 => ⟨S5x192x32x10240, .f32⟩
  | 87 => ⟨S5x192x32x10240, .f32⟩
  | 88 => ⟨S5x192x32x10240, .f32⟩
  | 89 => ⟨S5x192x32x10240, .i8⟩
  | 90 => ⟨S5x192x32x10240, .i32⟩
  | 91 => ⟨S5x192x32x10240, .f32⟩
  | 92 => ⟨S_, .f32⟩
  | 93 => ⟨S5x192x32x10240, .f32⟩
  | 94 => ⟨S5x192x32x10240, .f32⟩
  | 95 => ⟨S_, .f32⟩
  | 96 => ⟨S5x192x32x10240, .f32⟩
  | 97 => ⟨S5x192x32x10240, .f32⟩
  | 98 => ⟨S5x192x32x10240, .i1⟩
  | 99 => ⟨S5x192x32x10240, .f32⟩
  | 100 => ⟨S5x192x32x10240, .f32⟩
  | 101 => ⟨S5x192x32x10240, .f32⟩
  | 102 => ⟨S_, .f32⟩
  | 103 => ⟨S5x192x32x10240, .f32⟩
  | 104 => ⟨S5x192x32x10240, .f32⟩
  | 105 => ⟨S_, .f32⟩
  | 106 => ⟨S5x192x32x10240, .f32⟩
  | 107 => ⟨S5x192x32x10240, .i1⟩
  | 108 => ⟨S_, .f32⟩
  | 109 => ⟨S5x192x32x10240, .f32⟩
  | 110 => ⟨S5x192x32x10240, .f32⟩
  | 111 => ⟨S_, .f32⟩
  | 112 => ⟨S5x192x32x10240, .f32⟩
  | 113 => ⟨S5x192x32x10240, .i1⟩
  | 114 => ⟨S_, .f32⟩
  | 115 => ⟨S5x192x32x10240, .f32⟩
  | 116 => ⟨S5x192x32x10240, .f32⟩
  | 117 => ⟨S_, .f32⟩
  | 118 => ⟨S5x192x32x10240, .f32⟩
  | 119 => ⟨S5x192x32x10240, .f32⟩
  | 120 => ⟨S_, .f32⟩
  | 121 => ⟨S5x192x32x10240, .f32⟩
  | 122 => ⟨S5x192x32x10240, .f32⟩
  | 123 => ⟨S5x192x32x10240, .f32⟩
  | 124 => ⟨S5x192x32x10240, .f32⟩
  | 125 => ⟨S5x192x32x10240, .i32⟩
  | 126 => ⟨S_, .f32⟩
  | 127 => ⟨S5x192x32x10240, .f32⟩
  | _ => ⟨S5x6144x10240, .bf16⟩

abbrev hbmTy0_1 (i : Nat) : BufTy := match i % 128 with
  | 0 => ⟨S5x192x32x10240, .i1⟩
  | 1 => ⟨S_, .f32⟩
  | 2 => ⟨S5x192x32x10240, .f32⟩
  | 3 => ⟨S5x192x32x10240, .i1⟩
  | 4 => ⟨S5x192x32x10240, .i1⟩
  | 5 => ⟨S5x192x32x10240, .i32⟩
  | 6 => ⟨S_, .i32⟩
  | 7 => ⟨S5x192x32x10240, .i32⟩
  | 8 => ⟨S5x192x32x10240, .i32⟩
  | 9 => ⟨S5x192x32x10240, .i32⟩
  | 10 => ⟨S5x3072x2x10240, .i32⟩
  | 11 => ⟨S5x3072x1x10240, .i32⟩
  | 12 => ⟨S5x3072x10240, .i32⟩
  | 13 => ⟨S5x3072x1x10240, .i32⟩
  | 14 => ⟨S5x3072x10240, .i32⟩
  | 15 => ⟨S_, .i32⟩
  | 16 => ⟨S5x3072x10240, .i32⟩
  | 17 => ⟨S5x3072x10240, .i32⟩
  | 18 => ⟨S5x3072x10240, .i32⟩
  | 19 => ⟨S5x3072x10240, .i8⟩
  | 20 => ⟨S_, .i32⟩
  | 21 => ⟨S5x192x10240, .i32⟩
  | 22 => ⟨S5x192x10240, .i32⟩
  | 23 => ⟨S5x192x10240, .i8⟩
  | 24 => ⟨S5x192x10240, .i32⟩
  | 25 => ⟨S_, .i32⟩
  | 26 => ⟨S5x192x10240, .i32⟩
  | 27 => ⟨S5x192x10240, .i32⟩
  | 28 => ⟨S5x192x10240, .f32⟩
  | 29 => ⟨S_, .f32⟩
  | 30 => ⟨S5x192x10240, .f32⟩
  | 31 => ⟨S5x192x10240, .f32⟩
  | 32 => ⟨S5x192x10240, .bf16⟩
  | 33 => ⟨S5x3072x10240, .i32⟩
  | 34 => ⟨S_, .i32⟩
  | 35 => ⟨S5x3072x10240, .i32⟩
  | 36 => ⟨S5x3072x10240, .i32⟩
  | 37 => ⟨S_, .i32⟩
  | 38 => ⟨S5x3072x10240, .i32⟩
  | 39 => ⟨S5x3072x10240, .i32⟩
  | 40 => ⟨S_, .i32⟩
  | 41 => ⟨S5x3072x10240, .i32⟩
  | 42 => ⟨S5x3072x10240, .i1⟩
  | 43 => ⟨S_, .i32⟩
  | 44 => ⟨S5x3072x10240, .i32⟩
  | 45 => ⟨S5x3072x10240, .i32⟩
  | 46 => ⟨S_, .i32⟩
  | 47 => ⟨S5x3072x10240, .i32⟩
  | 48 => ⟨S5x3072x10240, .i1⟩
  | 49 => ⟨S_, .i32⟩
  | 50 => ⟨S5x3072x10240, .i32⟩
  | 51 => ⟨S5x3072x10240, .i32⟩
  | 52 => ⟨S_, .i32⟩
  | 53 => ⟨S5x3072x10240, .i32⟩
  | 54 => ⟨S5x3072x10240, .i1⟩
  | 55 => ⟨S_, .i32⟩
  | 56 => ⟨S5x3072x10240, .i32⟩
  | 57 => ⟨S5x3072x10240, .i32⟩
  | 58 => ⟨S_, .i32⟩
  | 59 => ⟨S5x3072x10240, .i32⟩
  | 60 => ⟨S5x3072x10240, .i1⟩
  | 61 => ⟨S_, .f32⟩
  | 62 => ⟨S_, .f32⟩
  | 63 => ⟨S5x3072x10240, .f32⟩
  | 64 => ⟨S5x3072x10240, .f32⟩
  | 65 => ⟨S5x3072x10240, .f32⟩
  | 66 => ⟨S_, .f32⟩
  | 67 => ⟨S_, .f32⟩
  | 68 => ⟨S5x3072x10240, .f32⟩
  | 69 => ⟨S5x3072x10240, .f32⟩
  | 70 => ⟨S5x3072x10240, .f32⟩
  | 71 => ⟨S5x3072x10240, .f32⟩
  | 72 => ⟨S_, .f32⟩
  | 73 => ⟨S_, .f32⟩
  | 74 => ⟨S5x3072x10240, .f32⟩
  | 75 => ⟨S5x3072x10240, .f32⟩
  | 76 => ⟨S5x3072x10240, .f32⟩
  | 77 => ⟨S_, .f32⟩
  | 78 => ⟨S_, .f32⟩
  | 79 => ⟨S5x3072x10240, .f32⟩
  | 80 => ⟨S5x3072x10240, .f32⟩
  | 81 => ⟨S5x3072x10240, .f32⟩
  | 82 => ⟨S5x3072x10240, .f32⟩
  | 83 => ⟨S5x3072x10240, .f32⟩
  | 84 => ⟨S5x3072x10240, .f32⟩
  | 85 => ⟨S5x3072x10240, .f32⟩
  | 86 => ⟨S5x3072x10240, .bf16⟩
  | 87 => ⟨S5x192x16x10240, .bf16⟩
  | 88 => ⟨S5x192x1x10240, .bf16⟩
  | 89 => ⟨S5x192x16x10240, .bf16⟩
  | 90 => ⟨S5x192x16x10240, .bf16⟩
  | 91 => ⟨S5x3072x10240, .bf16⟩
  | 92 => ⟨S_, .i32⟩
  | 93 => ⟨S5x3072x10240, .i32⟩
  | 94 => ⟨S5x3072x10240, .i32⟩
  | 95 => ⟨S_, .i32⟩
  | 96 => ⟨S5x3072x10240, .i32⟩
  | 97 => ⟨S5x3072x10240, .i32⟩
  | 98 => ⟨S_, .i32⟩
  | 99 => ⟨S5x3072x10240, .i32⟩
  | 100 => ⟨S5x3072x10240, .i1⟩
  | 101 => ⟨S_, .i32⟩
  | 102 => ⟨S5x3072x10240, .i32⟩
  | 103 => ⟨S5x3072x10240, .i32⟩
  | 104 => ⟨S_, .i32⟩
  | 105 => ⟨S5x3072x10240, .i32⟩
  | 106 => ⟨S5x3072x10240, .i1⟩
  | 107 => ⟨S_, .i32⟩
  | 108 => ⟨S5x3072x10240, .i32⟩
  | 109 => ⟨S5x3072x10240, .i32⟩
  | 110 => ⟨S_, .i32⟩
  | 111 => ⟨S5x3072x10240, .i32⟩
  | 112 => ⟨S5x3072x10240, .i1⟩
  | 113 => ⟨S_, .i32⟩
  | 114 => ⟨S5x3072x10240, .i32⟩
  | 115 => ⟨S5x3072x10240, .i32⟩
  | 116 => ⟨S_, .i32⟩
  | 117 => ⟨S5x3072x10240, .i32⟩
  | 118 => ⟨S5x3072x10240, .i1⟩
  | 119 => ⟨S_, .f32⟩
  | 120 => ⟨S_, .f32⟩
  | 121 => ⟨S5x3072x10240, .f32⟩
  | 122 => ⟨S5x3072x10240, .f32⟩
  | 123 => ⟨S5x3072x10240, .f32⟩
  | 124 => ⟨S_, .f32⟩
  | 125 => ⟨S_, .f32⟩
  | 126 => ⟨S5x3072x10240, .f32⟩
  | 127 => ⟨S5x3072x10240, .f32⟩
  | _ => ⟨S5x6144x10240, .bf16⟩

abbrev hbmTy0_2 (i : Nat) : BufTy := match i % 128 with
  | 0 => ⟨S5x3072x10240, .f32⟩
  | 1 => ⟨S5x3072x10240, .f32⟩
  | 2 => ⟨S_, .f32⟩
  | 3 => ⟨S_, .f32⟩
  | 4 => ⟨S5x3072x10240, .f32⟩
  | 5 => ⟨S5x3072x10240, .f32⟩
  | 6 => ⟨S5x3072x10240, .f32⟩
  | 7 => ⟨S_, .f32⟩
  | 8 => ⟨S_, .f32⟩
  | 9 => ⟨S5x3072x10240, .f32⟩
  | 10 => ⟨S5x3072x10240, .f32⟩
  | 11 => ⟨S5x3072x10240, .f32⟩
  | 12 => ⟨S5x3072x10240, .f32⟩
  | 13 => ⟨S5x3072x10240, .f32⟩
  | 14 => ⟨S5x3072x10240, .f32⟩
  | 15 => ⟨S5x3072x10240, .f32⟩
  | 16 => ⟨S5x3072x10240, .bf16⟩
  | 17 => ⟨S5x192x16x10240, .bf16⟩
  | 18 => ⟨S5x192x1x10240, .bf16⟩
  | 19 => ⟨S5x192x16x10240, .bf16⟩
  | 20 => ⟨S5x192x16x10240, .bf16⟩
  | 21 => ⟨S5x3072x10240, .bf16⟩
  | 22 => ⟨S30720x2560, .bf16⟩
  | 23 => ⟨S5x3072x2x2560, .bf16⟩
  | 24 => ⟨S5x3072x1x2560, .bf16⟩
  | 25 => ⟨S5x3072x2560, .bf16⟩
  | 26 => ⟨S5x3072x1x2560, .bf16⟩
  | 27 => ⟨S5x3072x2560, .bf16⟩
  | 28 => ⟨S10240x2560, .f32⟩
  | 29 => ⟨S10240x2560, .f32⟩
  | 30 => ⟨S10240x2560, .f32⟩
  | 31 => ⟨S15360x10240, .i8⟩
  | 32 => ⟨S960x10240, .i8⟩
  | _ => ⟨S5x6144x10240, .bf16⟩

abbrev hbmTy (i : Nat) : BufTy := match i / 128 with
  | 0 => hbmTy0_0 i
  | 1 => hbmTy0_1 i
  | 2 => hbmTy0_2 i
  | _ => ⟨S5x6144x10240, .bf16⟩

abbrev bufTy : (tb : Table) → Fin (tcTables nBuf tb) → BufTy
  | .hbm, ⟨i, _⟩ => hbmTy i
  | _, _ => ⟨S5x6144x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_call1_v0 : Ref sig .tc := ⟨.hbm, 60, rfl⟩
abbrev main_call1_v1 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_cst_14 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_cst_15 : Ref sig .tc := ⟨.hbm, 83, rfl⟩
abbrev main_call3_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_16 : Ref sig .tc := ⟨.hbm, 92, rfl⟩
abbrev main_v63 : Ref sig .tc := ⟨.hbm, 93, rfl⟩
abbrev main_v64 : Ref sig .tc := ⟨.hbm, 94, rfl⟩
abbrev main_cst_17 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_18 : Ref sig .tc := ⟨.hbm, 102, rfl⟩
abbrev main_v71 : Ref sig .tc := ⟨.hbm, 103, rfl⟩
abbrev main_v72 : Ref sig .tc := ⟨.hbm, 104, rfl⟩
abbrev main_cst_19 : Ref sig .tc := ⟨.hbm, 105, rfl⟩
abbrev main_v73 : Ref sig .tc := ⟨.hbm, 106, rfl⟩
abbrev main_v74 : Ref sig .tc := ⟨.hbm, 107, rfl⟩
abbrev main_cst_20 : Ref sig .tc := ⟨.hbm, 108, rfl⟩
abbrev main_v75 : Ref sig .tc := ⟨.hbm, 109, rfl⟩
abbrev main_v76 : Ref sig .tc := ⟨.hbm, 110, rfl⟩
abbrev main_cst_21 : Ref sig .tc := ⟨.hbm, 111, rfl⟩
abbrev main_v77 : Ref sig .tc := ⟨.hbm, 112, rfl⟩
abbrev main_v78 : Ref sig .tc := ⟨.hbm, 113, rfl⟩
abbrev main_cst_22 : Ref sig .tc := ⟨.hbm, 114, rfl⟩
abbrev main_v79 : Ref sig .tc := ⟨.hbm, 115, rfl⟩
abbrev main_v80 : Ref sig .tc := ⟨.hbm, 116, rfl⟩
abbrev main_cst_23 : Ref sig .tc := ⟨.hbm, 117, rfl⟩
abbrev main_v81 : Ref sig .tc := ⟨.hbm, 118, rfl⟩
abbrev main_v82 : Ref sig .tc := ⟨.hbm, 119, rfl⟩
abbrev main_cst_24 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_25 : Ref sig .tc := ⟨.hbm, 126, rfl⟩
abbrev main_v88 : Ref sig .tc := ⟨.hbm, 127, rfl⟩
abbrev main_v89 : Ref sig .tc := ⟨.hbm, 128, rfl⟩
abbrev main_cst_26 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_27 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_c_28 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_29 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_c_30 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_31 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_32 : Ref sig .tc := ⟨.hbm, 162, rfl⟩
abbrev main_v117 : Ref sig .tc := ⟨.hbm, 163, rfl⟩
abbrev main_v118 : Ref sig .tc := ⟨.hbm, 164, rfl⟩
abbrev main_c_33 : Ref sig .tc := ⟨.hbm, 165, rfl⟩
abbrev main_v119 : Ref sig .tc := ⟨.hbm, 166, rfl⟩
abbrev main_v120 : Ref sig .tc := ⟨.hbm, 167, rfl⟩
abbrev main_c_34 : Ref sig .tc := ⟨.hbm, 168, rfl⟩
abbrev main_v121 : Ref sig .tc := ⟨.hbm, 169, rfl⟩
abbrev main_v122 : Ref sig .tc := ⟨.hbm, 170, rfl⟩
abbrev main_c_35 : Ref sig .tc := ⟨.hbm, 171, rfl⟩
abbrev main_v123 : Ref sig .tc := ⟨.hbm, 172, rfl⟩
abbrev main_v124 : Ref sig .tc := ⟨.hbm, 173, rfl⟩
abbrev main_c_36 : Ref sig .tc := ⟨.hbm, 174, rfl⟩
abbrev main_v125 : Ref sig .tc := ⟨.hbm, 175, rfl⟩
abbrev main_v126 : Ref sig .tc := ⟨.hbm, 176, rfl⟩
abbrev main_c_37 : Ref sig .tc := ⟨.hbm, 177, rfl⟩
abbrev main_v127 : Ref sig .tc := ⟨.hbm, 178, rfl⟩
abbrev main_v128 : Ref sig .tc := ⟨.hbm, 179, rfl⟩
abbrev main_c_38 : Ref sig .tc := ⟨.hbm, 180, rfl⟩
abbrev main_v129 : Ref sig .tc := ⟨.hbm, 181, rfl⟩
abbrev main_v130 : Ref sig .tc := ⟨.hbm, 182, rfl⟩
abbrev main_c_39 : Ref sig .tc := ⟨.hbm, 183, rfl⟩
abbrev main_v131 : Ref sig .tc := ⟨.hbm, 184, rfl⟩
abbrev main_v132 : Ref sig .tc := ⟨.hbm, 185, rfl⟩
abbrev main_c_40 : Ref sig .tc := ⟨.hbm, 186, rfl⟩
abbrev main_v133 : Ref sig .tc := ⟨.hbm, 187, rfl⟩
abbrev main_v134 : Ref sig .tc := ⟨.hbm, 188, rfl⟩
abbrev main_cst_41 : Ref sig .tc := ⟨.hbm, 189, rfl⟩
abbrev main_cst_42 : Ref sig .tc := ⟨.hbm, 190, rfl⟩
abbrev main_call6_v0 : Ref sig .tc := ⟨.hbm, 191, rfl⟩
abbrev main_call6_v1 : Ref sig .tc := ⟨.hbm, 192, rfl⟩
abbrev main_v135 : Ref sig .tc := ⟨.hbm, 193, rfl⟩
abbrev main_cst_43 : Ref sig .tc := ⟨.hbm, 194, rfl⟩
abbrev main_cst_44 : Ref sig .tc := ⟨.hbm, 195, rfl⟩
abbrev main_call7_v0 : Ref sig .tc := ⟨.hbm, 196, rfl⟩
abbrev main_call7_v1 : Ref sig .tc := ⟨.hbm, 197, rfl⟩
abbrev main_v136 : Ref sig .tc := ⟨.hbm, 198, rfl⟩
abbrev main_v137 : Ref sig .tc := ⟨.hbm, 199, rfl⟩
abbrev main_cst_45 : Ref sig .tc := ⟨.hbm, 200, rfl⟩
abbrev main_cst_46 : Ref sig .tc := ⟨.hbm, 201, rfl⟩
abbrev main_call9_v0 : Ref sig .tc := ⟨.hbm, 202, rfl⟩
abbrev main_call9_v1 : Ref sig .tc := ⟨.hbm, 203, rfl⟩
abbrev main_v138 : Ref sig .tc := ⟨.hbm, 204, rfl⟩
abbrev main_cst_47 : Ref sig .tc := ⟨.hbm, 205, rfl⟩
abbrev main_cst_48 : Ref sig .tc := ⟨.hbm, 206, rfl⟩
abbrev main_call10_v0 : Ref sig .tc := ⟨.hbm, 207, rfl⟩
abbrev main_call10_v1 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_c_49 : Ref sig .tc := ⟨.hbm, 220, rfl⟩
abbrev main_v150 : Ref sig .tc := ⟨.hbm, 221, rfl⟩
abbrev main_v151 : Ref sig .tc := ⟨.hbm, 222, rfl⟩
abbrev main_c_50 : Ref sig .tc := ⟨.hbm, 223, rfl⟩
abbrev main_v152 : Ref sig .tc := ⟨.hbm, 224, rfl⟩
abbrev main_v153 : Ref sig .tc := ⟨.hbm, 225, rfl⟩
abbrev main_c_51 : Ref sig .tc := ⟨.hbm, 226, rfl⟩
abbrev main_v154 : Ref sig .tc := ⟨.hbm, 227, rfl⟩
abbrev main_v155 : Ref sig .tc := ⟨.hbm, 228, rfl⟩
abbrev main_c_52 : Ref sig .tc := ⟨.hbm, 229, rfl⟩
abbrev main_v156 : Ref sig .tc := ⟨.hbm, 230, rfl⟩
abbrev main_v157 : Ref sig .tc := ⟨.hbm, 231, rfl⟩
abbrev main_c_53 : Ref sig .tc := ⟨.hbm, 232, rfl⟩
abbrev main_v158 : Ref sig .tc := ⟨.hbm, 233, rfl⟩
abbrev main_v159 : Ref sig .tc := ⟨.hbm, 234, rfl⟩
abbrev main_c_54 : Ref sig .tc := ⟨.hbm, 235, rfl⟩
abbrev main_v160 : Ref sig .tc := ⟨.hbm, 236, rfl⟩
abbrev main_v161 : Ref sig .tc := ⟨.hbm, 237, rfl⟩
abbrev main_c_55 : Ref sig .tc := ⟨.hbm, 238, rfl⟩
abbrev main_v162 : Ref sig .tc := ⟨.hbm, 239, rfl⟩
abbrev main_v163 : Ref sig .tc := ⟨.hbm, 240, rfl⟩
abbrev main_c_56 : Ref sig .tc := ⟨.hbm, 241, rfl⟩
abbrev main_v164 : Ref sig .tc := ⟨.hbm, 242, rfl⟩
abbrev main_v165 : Ref sig .tc := ⟨.hbm, 243, rfl⟩
abbrev main_c_57 : Ref sig .tc := ⟨.hbm, 244, rfl⟩
abbrev main_v166 : Ref sig .tc := ⟨.hbm, 245, rfl⟩
abbrev main_v167 : Ref sig .tc := ⟨.hbm, 246, rfl⟩
abbrev main_cst_58 : Ref sig .tc := ⟨.hbm, 247, rfl⟩
abbrev main_cst_59 : Ref sig .tc := ⟨.hbm, 248, rfl⟩
abbrev main_call14_v0 : Ref sig .tc := ⟨.hbm, 249, rfl⟩
abbrev main_call14_v1 : Ref sig .tc := ⟨.hbm, 250, rfl⟩
abbrev main_v168 : Ref sig .tc := ⟨.hbm, 251, rfl⟩
abbrev main_cst_60 : Ref sig .tc := ⟨.hbm, 252, rfl⟩
abbrev main_cst_61 : Ref sig .tc := ⟨.hbm, 253, rfl⟩
abbrev main_call15_v0 : Ref sig .tc := ⟨.hbm, 254, rfl⟩
abbrev main_call15_v1 : Ref sig .tc := ⟨.hbm, 255, rfl⟩
abbrev main_v169 : Ref sig .tc := ⟨.hbm, 256, rfl⟩
abbrev main_v170 : Ref sig .tc := ⟨.hbm, 257, rfl⟩
abbrev main_cst_62 : Ref sig .tc := ⟨.hbm, 258, rfl⟩
abbrev main_cst_63 : Ref sig .tc := ⟨.hbm, 259, rfl⟩
abbrev main_call17_v0 : Ref sig .tc := ⟨.hbm, 260, rfl⟩
abbrev main_call17_v1 : Ref sig .tc := ⟨.hbm, 261, rfl⟩
abbrev main_v171 : Ref sig .tc := ⟨.hbm, 262, rfl⟩
abbrev main_cst_64 : Ref sig .tc := ⟨.hbm, 263, rfl⟩
abbrev main_cst_65 : Ref sig .tc := ⟨.hbm, 264, rfl⟩
abbrev main_call18_v0 : Ref sig .tc := ⟨.hbm, 265, rfl⟩
abbrev main_call18_v1 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩

abbrev nD : Nat := 1
abbrev τ : Topo := Topo.v7x

variable {F : FTy → Type} [FloatOps F]
-- ==== KernelX.lean ====
abbrev S5x6144x2560 : Shape := ⟨3, ![5, 6144, 2560]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S30720x2560 : Shape := ⟨2, ![30720, 2560]⟩
abbrev S15360x2560 : Shape := ⟨2, ![15360, 2560]⟩
abbrev S960x2560 : Shape := ⟨2, ![960, 2560]⟩
abbrev S2560x30720 : Shape := ⟨2, ![2560, 30720]⟩
abbrev S512x2560 : Shape := ⟨2, ![512, 2560]⟩
abbrev S256x2560 : Shape := ⟨2, ![256, 2560]⟩
abbrev S16x2560 : Shape := ⟨2, ![16, 2560]⟩
abbrev S2560x512 : Shape := ⟨2, ![2560, 512]⟩
abbrev S8x32x256 : Shape := ⟨3, ![8, 32, 256]⟩
abbrev S8x256 : Shape := ⟨2, ![8, 256]⟩
abbrev S8x1x256 : Shape := ⟨3, ![8, 1, 256]⟩
abbrev S32x8x256 : Shape := ⟨3, ![32, 8, 256]⟩
abbrev S32x1x256 : Shape := ⟨3, ![32, 1, 256]⟩
abbrev S32x256 : Shape := ⟨2, ![32, 256]⟩
abbrev S128x256 : Shape := ⟨2, ![128, 256]⟩

abbrev nBuf : Space → Nat
  | .hbm => 43
  | .vmem => 9
  | .smem => 0
  | _ => 0

abbrev bufTy : (tb : Table) → Fin (tcTables nBuf tb) → BufTy
  | .hbm, ⟨0, _⟩ => ⟨S5x6144x2560, .bf16⟩
  | .hbm, ⟨1, _⟩ => ⟨S64, .f32⟩
  | .hbm, ⟨2, _⟩ => ⟨S64, .i32⟩
  | .hbm, ⟨3, _⟩ => ⟨S64x1, .i32⟩
  | .hbm, ⟨4, _⟩ => ⟨S1x64, .i32⟩
  | .hbm, ⟨5, _⟩ => ⟨S64x64, .i32⟩
  | .hbm, ⟨6, _⟩ => ⟨S64x64, .i32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .f32⟩
  | .hbm, ⟨19, _⟩ => ⟨S1x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S4x4, .i32⟩
  | .hbm, ⟨26, _⟩ => ⟨S4x4, .i32⟩
  | .hbm, ⟨27, _⟩ => ⟨S_, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .f32⟩
  | .hbm, ⟨32, _⟩ => ⟨S4x1x4x1, .f32⟩
  | .hbm, ⟨33, _⟩ => ⟨S1x64x1x64, .f32⟩
  | .hbm, ⟨34, _⟩ => ⟨S4x64x4x64, .f32⟩
  | .hbm, ⟨35, _⟩ => ⟨S4x64x4x64, .f32⟩
  | .hbm, ⟨36, _⟩ => ⟨S4x64x4x64, .f32⟩
  | .hbm, ⟨37, _⟩ => ⟨S256x256, .f32⟩
  | .hbm, ⟨38, _⟩ => ⟨S256x256, .bf16⟩
  | .hbm, ⟨39, _⟩ => ⟨S30720x2560, .bf16⟩
  | .hbm, ⟨40, _⟩ => ⟨S15360x2560, .i8⟩
  | .hbm, ⟨41, _⟩ => ⟨S960x2560, .i8⟩
  | .hbm, ⟨42, _⟩ => ⟨S2560x30720, .bf16⟩
  | .local _ .vmem, ⟨0, _⟩ => ⟨S256x256, .bf16⟩
  | .local _ .vmem, ⟨1, _⟩ => ⟨S512x2560, .bf16⟩
  | .local _ .vmem, ⟨2, _⟩ => ⟨S512x2560, .bf16⟩
  | .local _ .vmem, ⟨3, _⟩ => ⟨S256x2560, .i8⟩
  | .local _ .vmem, ⟨4, _⟩ => ⟨S256x2560, .i8⟩
  | .local _ .vmem, ⟨5, _⟩ => ⟨S16x2560, .i8⟩
  | .local _ .vmem, ⟨6, _⟩ => ⟨S16x2560, .i8⟩
  | .local _ .vmem, ⟨7, _⟩ => ⟨S2560x512, .bf16⟩
  | .local _ .vmem, ⟨8, _⟩ => ⟨S2560x512, .bf16⟩
  | _, _ => ⟨S5x6144x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2560 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2560 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceXIdeal.lean ====
abbrev S5x6144x2560 : Shape := ⟨3, ![5, 6144, 2560]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S5x96x64x2560 : Shape := ⟨4, ![5, 96, 64, 2560]⟩
abbrev S5x96x2560x64 : Shape := ⟨4, ![5, 96, 2560, 64]⟩
abbrev S5x192x32x2560 : Shape := ⟨4, ![5, 192, 32, 2560]⟩
abbrev S5x192x2560 : Shape := ⟨3, ![5, 192, 2560]⟩
abbrev S5x192x1x2560 : Shape := ⟨4, ![5, 192, 1, 2560]⟩
abbrev S5x3072x2x2560 : Shape := ⟨4, ![5, 3072, 2, 2560]⟩
abbrev S5x3072x1x2560 : Shape := ⟨4, ![5, 3072, 1, 2560]⟩
abbrev S5x3072x2560 : Shape := ⟨3, ![5, 3072, 2560]⟩
abbrev S5x192x16x2560 : Shape := ⟨4, ![5, 192, 16, 2560]⟩
abbrev S30720x2560 : Shape := ⟨2, ![30720, 2560]⟩
abbrev S2560x30720 : Shape := ⟨2, ![2560, 30720]⟩
abbrev S15360x2560 : Shape := ⟨2, ![15360, 2560]⟩
abbrev S960x2560 : Shape := ⟨2, ![960, 2560]⟩

abbrev nBuf : Space → Nat
  | .hbm => 270
  | .vmem => 0
  | .smem => 0
  | _ => 0

abbrev hbmTy0_0 (i : Nat) : BufTy := match i % 128 with
  | 0 => ⟨S5x6144x2560, .bf16⟩
  | 1 => ⟨S64, .f32⟩
  | 2 => ⟨S64, .i32⟩
  | 3 => ⟨S64x1, .i32⟩
  | 4 => ⟨S1x64, .i32⟩
  | 5 => ⟨S64x64, .i32⟩
  | 6 => ⟨S64x64, .i32⟩
  | 7 => ⟨S64x64, .i32⟩
  | 8 => ⟨S64x64, .i32⟩
  | 9 => ⟨S_, .i32⟩
  | 10 => ⟨S64x64, .i32⟩
  | 11 => ⟨S64x64, .i32⟩
  | 12 => ⟨S_, .i32⟩
  | 13 => ⟨S64x64, .i32⟩
  | 14 => ⟨S64x64, .i32⟩
  | 15 => ⟨S_, .i32⟩
  | 16 => ⟨S64x64, .i32⟩
  | 17 => ⟨S64x64, .i32⟩
  | 18 => ⟨S64x64, .f32⟩
  | 19 => ⟨S1x64, .f32⟩
  | 20 => ⟨S64x64, .f32⟩
  | 21 => ⟨S64x64, .f32⟩
  | 22 => ⟨S_, .f32⟩
  | 23 => ⟨S64x64, .f32⟩
  | 24 => ⟨S64x64, .f32⟩
  | 25 => ⟨S5x6144x2560, .f32⟩
  | 26 => ⟨S5x96x64x2560, .f32⟩
  | 27 => ⟨S5x96x2560x64, .f32⟩
  | 28 => ⟨S5x96x64x2560, .f32⟩
  | 29 => ⟨S5x6144x2560, .f32⟩
  | 30 => ⟨S5x192x32x2560, .f32⟩
  | 31 => ⟨S5x192x32x2560, .f32⟩
  | 32 => ⟨S_, .f32⟩
  | 33 => ⟨S5x192x2560, .f32⟩
  | 34 => ⟨S5x192x2560, .f32⟩
  | 35 => ⟨S_, .f32⟩
  | 36 => ⟨S_, .f32⟩
  | 37 => ⟨S5x192x2560, .f32⟩
  | 38 => ⟨S5x192x2560, .f32⟩
  | 39 => ⟨S5x192x2560, .f32⟩
  | 40 => ⟨S_, .f32⟩
  | 41 => ⟨S5x192x2560, .f32⟩
  | 42 => ⟨S5x192x2560, .f32⟩
  | 43 => ⟨S_, .f32⟩
  | 44 => ⟨S5x192x2560, .f32⟩
  | 45 => ⟨S5x192x2560, .i1⟩
  | 46 => ⟨S_, .f32⟩
  | 47 => ⟨S_, .f32⟩
  | 48 => ⟨S5x192x2560, .f32⟩
  | 49 => ⟨S5x192x2560, .f32⟩
  | 50 => ⟨S5x192x2560, .i32⟩
  | 51 => ⟨S_, .f32⟩
  | 52 => ⟨S5x192x2560, .f32⟩
  | 53 => ⟨S5x192x2560, .i1⟩
  | 54 => ⟨S_, .i32⟩
  | 55 => ⟨S5x192x2560, .i32⟩
  | 56 => ⟨S5x192x2560, .i32⟩
  | 57 => ⟨S_, .i32⟩
  | 58 => ⟨S_, .i32⟩
  | 59 => ⟨S5x192x2560, .i32⟩
  | 60 => ⟨S5x192x2560, .i32⟩
  | 61 => ⟨S5x192x2560, .i32⟩
  | 62 => ⟨S5x192x2560, .f32⟩
  | 63 => ⟨S_, .f32⟩
  | 64 => ⟨S5x192x2560, .f32⟩
  | 65 => ⟨S5x192x2560, .f32⟩
  | 66 => ⟨S5x192x1x2560, .f32⟩
  | 67 => ⟨S5x192x32x2560, .f32⟩
  | 68 => ⟨S5x192x32x2560, .f32⟩
  | 69 => ⟨S5x192x32x2560, .f32⟩
  | 70 => ⟨S_, .f32⟩
  | 71 => ⟨S5x192x32x2560, .f32⟩
  | 72 => ⟨S5x192x32x2560, .f32⟩
  | 73 => ⟨S_, .f32⟩
  | 74 => ⟨S5x192x32x2560, .f32⟩
  | 75 => ⟨S5x192x32x2560, .i1⟩
  | 76 => ⟨S_, .f32⟩
  | 77 => ⟨S5x192x32x2560, .f32⟩
  | 78 => ⟨S5x192x32x2560, .i1⟩
  | 79 => ⟨S_, .f32⟩
  | 80 => ⟨S_, .f32⟩
  | 81 => ⟨S5x192x32x2560, .f32⟩
  | 82 => ⟨S5x192x32x2560, .f32⟩
  | 83 => ⟨S5x192x32x2560, .f32⟩
  | 84 => ⟨S_, .f32⟩
  | 85 => ⟨S5x192x32x2560, .f32⟩
  | 86 => ⟨S5x192x32x2560, .f32⟩
  | 87 => ⟨S5x192x32x2560, .f32⟩
  | 88 => ⟨S5x192x32x2560, .f32⟩
  | 89 => ⟨S5x192x32x2560, .f32⟩
  | 90 => ⟨S_, .f32⟩
  | 91 => ⟨S5x192x32x2560, .f32⟩
  | 92 => ⟨S5x192x32x2560, .i1⟩
  | 93 => ⟨S_, .f32⟩
  | 94 => ⟨S5x192x32x2560, .f32⟩
  | 95 => ⟨S5x192x32x2560, .f32⟩
  | 96 => ⟨S_, .f32⟩
  | 97 => ⟨S5x192x32x2560, .f32⟩
  | 98 => ⟨S5x192x32x2560, .i1⟩
  | 99 => ⟨S_, .f32⟩
  | 100 => ⟨S5x192x32x2560, .f32⟩
  | 101 => ⟨S5x192x32x2560, .f32⟩
  | 102 => ⟨S_, .f32⟩
  | 103 => ⟨S5x192x32x2560, .f32⟩
  | 104 => ⟨S5x192x32x2560, .f32⟩
  | 105 => ⟨S_, .f32⟩
  | 106 => ⟨S5x192x32x2560, .f32⟩
  | 107 => ⟨S5x192x32x2560, .f32⟩
  | 108 => ⟨S5x192x32x2560, .f32⟩
  | 109 => ⟨S5x192x32x2560, .f32⟩
  | 110 => ⟨S5x192x32x2560, .i32⟩
  | 111 => ⟨S_, .f32⟩
  | 112 => ⟨S5x192x32x2560, .f32⟩
  | 113 => ⟨S5x192x32x2560, .i1⟩
  | 114 => ⟨S_, .f32⟩
  | 115 => ⟨S5x192x32x2560, .f32⟩
  | 116 => ⟨S5x192x32x2560, .i1⟩
  | 117 => ⟨S5x192x32x2560, .i1⟩
  | 118 => ⟨S5x192x32x2560, .i32⟩
  | 119 => ⟨S_, .i32⟩
  | 120 => ⟨S5x192x32x2560, .i32⟩
  | 121 => ⟨S5x192x32x2560, .i32⟩
  | 122 => ⟨S5x192x32x2560, .i32⟩
  | 123 => ⟨S5x3072x2x2560, .i32⟩
  | 124 => ⟨S5x3072x1x2560, .i32⟩
  | 125 => ⟨S5x3072x2560, .i32⟩
  | 126 => ⟨S5x3072x1x2560, .i32⟩
  | 127 => ⟨S5x3072x2560, .i32⟩
  | _ => ⟨S5x6144x2560, .bf16⟩

abbrev hbmTy0_1 (i : Nat) : BufTy := match i % 128 with
  | 0 => ⟨S_, .i32⟩
  | 1 => ⟨S5x3072x2560, .i32⟩
  | 2 => ⟨S5x3072x2560, .i32⟩
  | 3 => ⟨S5x3072x2560, .i32⟩
  | 4 => ⟨S5x3072x2560, .i8⟩
  | 5 => ⟨S_, .i32⟩
  | 6 => ⟨S5x192x2560, .i32⟩
  | 7 => ⟨S5x192x2560, .i32⟩
  | 8 => ⟨S5x192x2560, .i8⟩
  | 9 => ⟨S5x192x2560, .i32⟩
  | 10 => ⟨S_, .i32⟩
  | 11 => ⟨S5x192x2560, .i32⟩
  | 12 => ⟨S5x192x2560, .i32⟩
  | 13 => ⟨S5x192x2560, .f32⟩
  | 14 => ⟨S_, .f32⟩
  | 15 => ⟨S5x192x2560, .f32⟩
  | 16 => ⟨S5x192x2560, .f32⟩
  | 17 => ⟨S5x192x2560, .bf16⟩
  | 18 => ⟨S5x3072x2560, .i32⟩
  | 19 => ⟨S_, .i32⟩
  | 20 => ⟨S5x3072x2560, .i32⟩
  | 21 => ⟨S5x3072x2560, .i32⟩
  | 22 => ⟨S_, .i32⟩
  | 23 => ⟨S5x3072x2560, .i32⟩
  | 24 => ⟨S5x3072x2560, .i32⟩
  | 25 => ⟨S_, .i32⟩
  | 26 => ⟨S5x3072x2560, .i32⟩
  | 27 => ⟨S5x3072x2560, .i1⟩
  | 28 => ⟨S_, .i32⟩
  | 29 => ⟨S5x3072x2560, .i32⟩
  | 30 => ⟨S5x3072x2560, .i32⟩
  | 31 => ⟨S_, .i32⟩
  | 32 => ⟨S5x3072x2560, .i32⟩
  | 33 => ⟨S5x3072x2560, .i1⟩
  | 34 => ⟨S_, .i32⟩
  | 35 => ⟨S5x3072x2560, .i32⟩
  | 36 => ⟨S5x3072x2560, .i32⟩
  | 37 => ⟨S_, .i32⟩
  | 38 => ⟨S5x3072x2560, .i32⟩
  | 39 => ⟨S5x3072x2560, .i1⟩
  | 40 => ⟨S_, .i32⟩
  | 41 => ⟨S5x3072x2560, .i32⟩
  | 42 => ⟨S5x3072x2560, .i32⟩
  | 43 => ⟨S_, .i32⟩
  | 44 => ⟨S5x3072x2560, .i32⟩
  | 45 => ⟨S5x3072x2560, .i1⟩
  | 46 => ⟨S_, .f32⟩
  | 47 => ⟨S_, .f32⟩
  | 48 => ⟨S5x3072x2560, .f32⟩
  | 49 => ⟨S5x3072x2560, .f32⟩
  | 50 => ⟨S5x3072x2560, .f32⟩
  | 51 => ⟨S_, .f32⟩
  | 52 => ⟨S_, .f32⟩
  | 53 => ⟨S5x3072x2560, .f32⟩
  | 54 => ⟨S5x3072x2560, .f32⟩
  | 55 => ⟨S5x3072x2560, .f32⟩
  | 56 => ⟨S5x3072x2560, .f32⟩
  | 57 => ⟨S_, .f32⟩
  | 58 => ⟨S_, .f32⟩
  | 59 => ⟨S5x3072x2560, .f32⟩
  | 60 => ⟨S5x3072x2560, .f32⟩
  | 61 => ⟨S5x3072x2560, .f32⟩
  | 62 => ⟨S_, .f32⟩
  | 63 => ⟨S_, .f32⟩
  | 64 => ⟨S5x3072x2560, .f32⟩
  | 65 => ⟨S5x3072x2560, .f32⟩
  | 66 => ⟨S5x3072x2560, .f32⟩
  | 67 => ⟨S5x3072x2560, .f32⟩
  | 68 => ⟨S5x3072x2560, .f32⟩
  | 69 => ⟨S5x3072x2560, .f32⟩
  | 70 => ⟨S5x3072x2560, .f32⟩
  | 71 => ⟨S5x3072x2560, .bf16⟩
  | 72 => ⟨S5x192x16x2560, .bf16⟩
  | 73 => ⟨S5x192x1x2560, .bf16⟩
  | 74 => ⟨S5x192x16x2560, .bf16⟩
  | 75 => ⟨S5x192x16x2560, .bf16⟩
  | 76 => ⟨S5x3072x2560, .bf16⟩
  | 77 => ⟨S_, .i32⟩
  | 78 => ⟨S5x3072x2560, .i32⟩
  | 79 => ⟨S5x3072x2560, .i32⟩
  | 80 => ⟨S_, .i32⟩
  | 81 => ⟨S5x3072x2560, .i32⟩
  | 82 => ⟨S5x3072x2560, .i32⟩
  | 83 => ⟨S_, .i32⟩
  | 84 => ⟨S5x3072x2560, .i32⟩
  | 85 => ⟨S5x3072x2560, .i1⟩
  | 86 => ⟨S_, .i32⟩
  | 87 => ⟨S5x3072x2560, .i32⟩
  | 88 => ⟨S5x3072x2560, .i32⟩
  | 89 => ⟨S_, .i32⟩
  | 90 => ⟨S5x3072x2560, .i32⟩
  | 91 => ⟨S5x3072x2560, .i1⟩
  | 92 => ⟨S_, .i32⟩
  | 93 => ⟨S5x3072x2560, .i32⟩
  | 94 => ⟨S5x3072x2560, .i32⟩
  | 95 => ⟨S_, .i32⟩
  | 96 => ⟨S5x3072x2560, .i32⟩
  | 97 => ⟨S5x3072x2560, .i1⟩
  | 98 => ⟨S_, .i32⟩
  | 99 => ⟨S5x3072x2560, .i32⟩
  | 100 => ⟨S5x3072x2560, .i32⟩
  | 101 => ⟨S_, .i32⟩
  | 102 => ⟨S5x3072x2560, .i32⟩
  | 103 => ⟨S5x3072x2560, .i1⟩
  | 104 => ⟨S_, .f32⟩
  | 105 => ⟨S_, .f32⟩
  | 106 => ⟨S5x3072x2560, .f32⟩
  | 107 => ⟨S5x3072x2560, .f32⟩
  | 108 => ⟨S5x3072x2560, .f32⟩
  | 109 => ⟨S_, .f32⟩
  | 110 => ⟨S_, .f32⟩
  | 111 => ⟨S5x3072x2560, .f32⟩
  | 112 => ⟨S5x3072x2560, .f32⟩
  | 113 => ⟨S5x3072x2560, .f32⟩
  | 114 => ⟨S5x3072x2560, .f32⟩
  | 115 => ⟨S_, .f32⟩
  | 116 => ⟨S_, .f32⟩
  | 117 => ⟨S5x3072x2560, .f32⟩
  | 118 => ⟨S5x3072x2560, .f32⟩
  | 119 => ⟨S5x3072x2560, .f32⟩
  | 120 => ⟨S_, .f32⟩
  | 121 => ⟨S_, .f32⟩
  | 122 => ⟨S5x3072x2560, .f32⟩
  | 123 => ⟨S5x3072x2560, .f32⟩
  | 124 => ⟨S5x3072x2560, .f32⟩
  | 125 => ⟨S5x3072x2560, .f32⟩
  | 126 => ⟨S5x3072x2560, .f32⟩
  | 127 => ⟨S5x3072x2560, .f32⟩
  | _ => ⟨S5x6144x2560, .bf16⟩

abbrev hbmTy0_2 (i : Nat) : BufTy := match i % 128 with
  | 0 => ⟨S5x3072x2560, .f32⟩
  | 1 => ⟨S5x3072x2560, .bf16⟩
  | 2 => ⟨S5x192x16x2560, .bf16⟩
  | 3 => ⟨S5x192x1x2560, .bf16⟩
  | 4 => ⟨S5x192x16x2560, .bf16⟩
  | 5 => ⟨S5x192x16x2560, .bf16⟩
  | 6 => ⟨S5x3072x2560, .bf16⟩
  | 7 => ⟨S5x3072x1x2560, .bf16⟩
  | 8 => ⟨S5x3072x1x2560, .bf16⟩
  | 9 => ⟨S5x3072x2x2560, .bf16⟩
  | 10 => ⟨S30720x2560, .bf16⟩
  | 11 => ⟨S2560x30720, .bf16⟩
  | 12 => ⟨S15360x2560, .i8⟩
  | 13 => ⟨S960x2560, .i8⟩
  | _ => ⟨S5x6144x2560, .bf16⟩

abbrev hbmTy (i : Nat) : BufTy := match i / 128 with
  | 0 => hbmTy0_0 i
  | 1 => hbmTy0_1 i
  | 2 => hbmTy0_2 i
  | _ => ⟨S5x6144x2560, .bf16⟩

abbrev bufTy : (tb : Table) → Fin (tcTables nBuf tb) → BufTy
  | .hbm, ⟨i, _⟩ => hbmTy i
  | _, _ => ⟨S5x6144x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_call1_v0 : Ref sig .tc := ⟨.hbm, 58, rfl⟩
abbrev main_call1_v1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_cst_15 : Ref sig .tc := ⟨.hbm, 80, rfl⟩
abbrev main_call2_v0 : Ref sig .tc := ⟨.hbm, 81, rfl⟩
abbrev main_call2_v1 : Ref sig .tc := ⟨.hbm, 82, rfl⟩
abbrev main_v57 : Ref sig .tc := ⟨.hbm, 83, rfl⟩
abbrev main_cst_16 : Ref sig .tc := ⟨.hbm, 84, rfl⟩
abbrev main_call3_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_cst_18 : Ref sig .tc := ⟨.hbm, 93, rfl⟩
abbrev main_v64 : Ref sig .tc := ⟨.hbm, 94, rfl⟩
abbrev main_v65 : Ref sig .tc := ⟨.hbm, 95, rfl⟩
abbrev main_cst_19 : Ref sig .tc := ⟨.hbm, 96, rfl⟩
abbrev main_v66 : Ref sig .tc := ⟨.hbm, 97, rfl⟩
abbrev main_v67 : Ref sig .tc := ⟨.hbm, 98, rfl⟩
abbrev main_cst_20 : Ref sig .tc := ⟨.hbm, 99, rfl⟩
abbrev main_v68 : Ref sig .tc := ⟨.hbm, 100, rfl⟩
abbrev main_v69 : Ref sig .tc := ⟨.hbm, 101, rfl⟩
abbrev main_cst_21 : Ref sig .tc := ⟨.hbm, 102, rfl⟩
abbrev main_v70 : Ref sig .tc := ⟨.hbm, 103, rfl⟩
abbrev main_v71 : Ref sig .tc := ⟨.hbm, 104, rfl⟩
abbrev main_cst_22 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_23 : Ref sig .tc := ⟨.hbm, 111, rfl⟩
abbrev main_v77 : Ref sig .tc := ⟨.hbm, 112, rfl⟩
abbrev main_v78 : Ref sig .tc := ⟨.hbm, 113, rfl⟩
abbrev main_cst_24 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_25 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_26 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_27 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_28 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_29 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_30 : Ref sig .tc := ⟨.hbm, 147, rfl⟩
abbrev main_v106 : Ref sig .tc := ⟨.hbm, 148, rfl⟩
abbrev main_v107 : Ref sig .tc := ⟨.hbm, 149, rfl⟩
abbrev main_c_31 : Ref sig .tc := ⟨.hbm, 150, rfl⟩
abbrev main_v108 : Ref sig .tc := ⟨.hbm, 151, rfl⟩
abbrev main_v109 : Ref sig .tc := ⟨.hbm, 152, rfl⟩
abbrev main_c_32 : Ref sig .tc := ⟨.hbm, 153, rfl⟩
abbrev main_v110 : Ref sig .tc := ⟨.hbm, 154, rfl⟩
abbrev main_v111 : Ref sig .tc := ⟨.hbm, 155, rfl⟩
abbrev main_c_33 : Ref sig .tc := ⟨.hbm, 156, rfl⟩
abbrev main_v112 : Ref sig .tc := ⟨.hbm, 157, rfl⟩
abbrev main_v113 : Ref sig .tc := ⟨.hbm, 158, rfl⟩
abbrev main_c_34 : Ref sig .tc := ⟨.hbm, 159, rfl⟩
abbrev main_v114 : Ref sig .tc := ⟨.hbm, 160, rfl⟩
abbrev main_v115 : Ref sig .tc := ⟨.hbm, 161, rfl⟩
abbrev main_c_35 : Ref sig .tc := ⟨.hbm, 162, rfl⟩
abbrev main_v116 : Ref sig .tc := ⟨.hbm, 163, rfl⟩
abbrev main_v117 : Ref sig .tc := ⟨.hbm, 164, rfl⟩
abbrev main_c_36 : Ref sig .tc := ⟨.hbm, 165, rfl⟩
abbrev main_v118 : Ref sig .tc := ⟨.hbm, 166, rfl⟩
abbrev main_v119 : Ref sig .tc := ⟨.hbm, 167, rfl⟩
abbrev main_c_37 : Ref sig .tc := ⟨.hbm, 168, rfl⟩
abbrev main_v120 : Ref sig .tc := ⟨.hbm, 169, rfl⟩
abbrev main_v121 : Ref sig .tc := ⟨.hbm, 170, rfl⟩
abbrev main_c_38 : Ref sig .tc := ⟨.hbm, 171, rfl⟩
abbrev main_v122 : Ref sig .tc := ⟨.hbm, 172, rfl⟩
abbrev main_v123 : Ref sig .tc := ⟨.hbm, 173, rfl⟩
abbrev main_cst_39 : Ref sig .tc := ⟨.hbm, 174, rfl⟩
abbrev main_cst_40 : Ref sig .tc := ⟨.hbm, 175, rfl⟩
abbrev main_call7_v0 : Ref sig .tc := ⟨.hbm, 176, rfl⟩
abbrev main_call7_v1 : Ref sig .tc := ⟨.hbm, 177, rfl⟩
abbrev main_v124 : Ref sig .tc := ⟨.hbm, 178, rfl⟩
abbrev main_cst_41 : Ref sig .tc := ⟨.hbm, 179, rfl⟩
abbrev main_cst_42 : Ref sig .tc := ⟨.hbm, 180, rfl⟩
abbrev main_call8_v0 : Ref sig .tc := ⟨.hbm, 181, rfl⟩
abbrev main_call8_v1 : Ref sig .tc := ⟨.hbm, 182, rfl⟩
abbrev main_v125 : Ref sig .tc := ⟨.hbm, 183, rfl⟩
abbrev main_v126 : Ref sig .tc := ⟨.hbm, 184, rfl⟩
abbrev main_cst_43 : Ref sig .tc := ⟨.hbm, 185, rfl⟩
abbrev main_cst_44 : Ref sig .tc := ⟨.hbm, 186, rfl⟩
abbrev main_call10_v0 : Ref sig .tc := ⟨.hbm, 187, rfl⟩
abbrev main_call10_v1 : Ref sig .tc := ⟨.hbm, 188, rfl⟩
abbrev main_v127 : Ref sig .tc := ⟨.hbm, 189, rfl⟩
abbrev main_cst_45 : Ref sig .tc := ⟨.hbm, 190, rfl⟩
abbrev main_cst_46 : Ref sig .tc := ⟨.hbm, 191, rfl⟩
abbrev main_call11_v0 : Ref sig .tc := ⟨.hbm, 192, rfl⟩
abbrev main_call11_v1 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_c_47 : Ref sig .tc := ⟨.hbm, 205, rfl⟩
abbrev main_v139 : Ref sig .tc := ⟨.hbm, 206, rfl⟩
abbrev main_v140 : Ref sig .tc := ⟨.hbm, 207, rfl⟩
abbrev main_c_48 : Ref sig .tc := ⟨.hbm, 208, rfl⟩
abbrev main_v141 : Ref sig .tc := ⟨.hbm, 209, rfl⟩
abbrev main_v142 : Ref sig .tc := ⟨.hbm, 210, rfl⟩
abbrev main_c_49 : Ref sig .tc := ⟨.hbm, 211, rfl⟩
abbrev main_v143 : Ref sig .tc := ⟨.hbm, 212, rfl⟩
abbrev main_v144 : Ref sig .tc := ⟨.hbm, 213, rfl⟩
abbrev main_c_50 : Ref sig .tc := ⟨.hbm, 214, rfl⟩
abbrev main_v145 : Ref sig .tc := ⟨.hbm, 215, rfl⟩
abbrev main_v146 : Ref sig .tc := ⟨.hbm, 216, rfl⟩
abbrev main_c_51 : Ref sig .tc := ⟨.hbm, 217, rfl⟩
abbrev main_v147 : Ref sig .tc := ⟨.hbm, 218, rfl⟩
abbrev main_v148 : Ref sig .tc := ⟨.hbm, 219, rfl⟩
abbrev main_c_52 : Ref sig .tc := ⟨.hbm, 220, rfl⟩
abbrev main_v149 : Ref sig .tc := ⟨.hbm, 221, rfl⟩
abbrev main_v150 : Ref sig .tc := ⟨.hbm, 222, rfl⟩
abbrev main_c_53 : Ref sig .tc := ⟨.hbm, 223, rfl⟩
abbrev main_v151 : Ref sig .tc := ⟨.hbm, 224, rfl⟩
abbrev main_v152 : Ref sig .tc := ⟨.hbm, 225, rfl⟩
abbrev main_c_54 : Ref sig .tc := ⟨.hbm, 226, rfl⟩
abbrev main_v153 : Ref sig .tc := ⟨.hbm, 227, rfl⟩
abbrev main_v154 : Ref sig .tc := ⟨.hbm, 228, rfl⟩
abbrev main_c_55 : Ref sig .tc := ⟨.hbm, 229, rfl⟩
abbrev main_v155 : Ref sig .tc := ⟨.hbm, 230, rfl⟩
abbrev main_v156 : Ref sig .tc := ⟨.hbm, 231, rfl⟩
abbrev main_cst_56 : Ref sig .tc := ⟨.hbm, 232, rfl⟩
abbrev main_cst_57 : Ref sig .tc := ⟨.hbm, 233, rfl⟩
abbrev main_call15_v0 : Ref sig .tc := ⟨.hbm, 234, rfl⟩
abbrev main_call15_v1 : Ref sig .tc := ⟨.hbm, 235, rfl⟩
abbrev main_v157 : Ref sig .tc := ⟨.hbm, 236, rfl⟩
abbrev main_cst_58 : Ref sig .tc := ⟨.hbm, 237, rfl⟩
abbrev main_cst_59 : Ref sig .tc := ⟨.hbm, 238, rfl⟩
abbrev main_call16_v0 : Ref sig .tc := ⟨.hbm, 239, rfl⟩
abbrev main_call16_v1 : Ref sig .tc := ⟨.hbm, 240, rfl⟩
abbrev main_v158 : Ref sig .tc := ⟨.hbm, 241, rfl⟩
abbrev main_v159 : Ref sig .tc := ⟨.hbm, 242, rfl⟩
abbrev main_cst_60 : Ref sig .tc := ⟨.hbm, 243, rfl⟩
abbrev main_cst_61 : Ref sig .tc := ⟨.hbm, 244, rfl⟩
abbrev main_call18_v0 : Ref sig .tc := ⟨.hbm, 245, rfl⟩
abbrev main_call18_v1 : Ref sig .tc := ⟨.hbm, 246, rfl⟩
abbrev main_v160 : Ref sig .tc := ⟨.hbm, 247, rfl⟩
abbrev main_cst_62 : Ref sig .tc := ⟨.hbm, 248, rfl⟩
abbrev main_cst_63 : Ref sig .tc := ⟨.hbm, 249, rfl⟩
abbrev main_call19_v0 : Ref sig .tc := ⟨.hbm, 250, rfl⟩
abbrev main_call19_v1 : Ref sig .tc := ⟨.hbm, 251, rfl⟩
abbrev main_v161 : Ref sig .tc := ⟨.hbm, 252, rfl⟩
abbrev main_v162 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩

abbrev nD : Nat := 1
abbrev τ : Topo := Topo.v7x

variable {F : FTy → Type} [FloatOps F]
-- ==== Proof.Tile.lean ====
/- One 256 × 256 tile of the kernel's block, as a function of the rotation matrix, the tile of the gradient and the
   tile of random bytes: the stages of the first tile, by which the other seven of a block are read too. -/
module

public import proofs.«01_k».proof.Proof.Gen.KernelIdeal.Skeleton
public import Idealize.ShloMosaic.PureOps.Ideal

@[expose] public section

set_option maxRecDepth 16384

noncomputable section

namespace Cert.KernelIdeal.Value

open Cert.KernelIdeal Cert.KernelIdeal.Gen Idealize.ShloMosaic Idealize.ShloMosaic.TcCoe

/-- the exponent field of a group's largest size over six, but for its last bit -/
def tField (x0 : Vec Ideal S256x256 .bf16) (d : Vec Ideal S256x256 .bf16) : IVec S8x256 32 :=
  k0_pay52 (k0_pay49 x0 d) (k0_pay50 x0 d) k0_pay51

/-- the exponent of a group's scale -/
def tExp (x0 : Vec Ideal S256x256 .bf16) (d : Vec Ideal S256x256 .bf16) : IVec S8x256 32 :=
  k0_pay54 (k0_pay48 x0 d) (k0_pay49 x0 d) (tField x0 d) k0_pay53

/-- the scaled values -/
def tY (x0 : Vec Ideal S256x256 .bf16) (d : Vec Ideal S256x256 .bf16) : FVec Ideal S256x256 .f32 :=
  k0_pay55 (k0_pay46 x0 d) (k0_pay48 x0 d) (k0_pay49 x0 d) (tField x0 d) k0_pay53

/-- the shift by one of a value of size below one, away from zero -/
def tC (x0 : Vec Ideal S256x256 .bf16) (d : Vec Ideal S256x256 .bf16) : FVec Ideal S256x256 .f32 :=
  k0_pay56 (k0_pay46 x0 d) (k0_pay48 x0 d) (k0_pay49 x0 d) (tField x0 d) k0_pay53

/-- the shifted values -/
def tS (x0 : Vec Ideal S256x256 .bf16) (d : Vec Ideal S256x256 .bf16) : FVec Ideal S256x256 .f32 :=
  k0_pay57 (k0_pay46 x0 d) (k0_pay48 x0 d) (k0_pay49 x0 d) (tField x0 d) k0_pay53

/-- the sizes of the shifted values -/
def tT (x0 : Vec Ideal S256x256 .bf16) (d : Vec Ideal S256x256 .bf16) : FVec Ideal S256x256 .f32 :=
  k0_pay59 (k0_pay46 x0 d) (k0_pay48 x0 d) (k0_pay49 x0 d) (tField x0 d) k0_pay53

/-- which of them are below two -/
def tLow (x0 : Vec Ideal S256x256 .bf16) (d : Vec Ideal S256x256 .bf16) : IVec S256x256 1 :=
  k0_pay60 (k0_pay46 x0 d) (k0_pay48 x0 d) (k0_pay49 x0 d) (tField x0 d) k0_pay53

/-- the stochastically rounded values, clipped -/
def tClip (x0 : Vec Ideal S256x256 .bf16) (d : Vec Ideal S256x256 .bf16) (r : Vec Ideal S256x256 .i8) :
    FVec Ideal S256x256 .f32 :=
  k0_pay62 (tC x0 d) (tS x0 d) (k0_pay58 (k0_pay45 r)) (tT x0 d) (tLow x0 d) k0_pay61

/-- their sizes on the four-bit grid -/
def tMag (x0 : Vec Ideal S256x256 .bf16) (d : Vec Ideal S256x256 .bf16) (r : Vec Ideal S256x256 .i8) :
    FVec Ideal S256x256 .f32 :=
  k0_pay63 (tC x0 d) (tS x0 d) (k0_pay58 (k0_pay45 r)) (tT x0 d) (tLow x0 d) k0_pay61

/-- which of those sizes are below two -/
def tMagLow (x0 : Vec Ideal S256x256 .bf16) (d : Vec Ideal S256x256 .bf16) (r : Vec Ideal S256x256 .i8) :
    IVec S256x256 1 :=
  k0_pay64 (tC x0 d) (tS x0 d) (k0_pay58 (k0_pay45 r)) (tT x0 d) (tLow x0 d) k0_pay61

/-- the tile's bytes of codes -/
def tCodes (x0 : Vec Ideal S256x256 .bf16) (d : Vec Ideal S256x256 .bf16) (r : Vec Ideal S256x256 .i8) :
    Vec Ideal S128x256 .i8 :=
  k0_pay69 (k0_pay66 (tClip x0 d r) (tMag x0 d r) (tMagLow x0 d r))
    (k0_pay67 (tClip x0 d r) (tMag x0 d r) (tMagLow x0 d r)) (k0_pay68 (tClip x0 d r) (tMag x0 d r) (tMagLow x0 d r))

/-- the tile's bytes of scales -/
def tScales (x0 : Vec Ideal S256x256 .bf16) (d : Vec Ideal S256x256 .bf16) : Vec Ideal S8x256 .i8 :=
  k0_pay70 (tExp x0 d)

/-- the tile's values read back from codes and scales -/
def tDq (x0 : Vec Ideal S256x256 .bf16) (d : Vec Ideal S256x256 .bf16) (r : Vec Ideal S256x256 .i8) :
    Vec Ideal S256x256 .bf16 :=
  k0_pay71 (tExp x0 d) (k0_pay65 (tClip x0 d r) (tMag x0 d r))

end Cert.KernelIdeal.Value

end

end
-- ==== Proof.Expo.lean ====
/- The exponent of a group's scale, on one number. The kernel finds the exponent field of `v` by comparing `v` with the eight
   powers of two it could still reach; the reference takes the floor of `v`'s base-two logarithm. Both are the integer
   `gexp v`: `0` below the smallest normal number, else the `e` with `2^(e-1) ≤ v < 2^e`. -/
module

public import Idealize.ShloMosaic.PureOps.Ideal

@[expose] public section

noncomputable section

namespace Cert.Mx

open Idealize.ShloMosaic

/-- the number with exponent field `n` and no fraction -/
def fieldVal (n : ℕ) : ℝ := if n = 0 then 0 else (2 : ℝ) ^ ((n : ℤ) - 127)

theorem field_parts : ∀ n : Fin 255, (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by
  decide +kernel

theorem ieee_parts (b : BitVec 32) (n : ℕ) (h : n ≤ 254) (e3 : b.extractLsb' 31 1 = 0#1)
    (e1 : (b.extractLsb' 23 8).toNat = n) (e2 : (b.extractLsb' 0 23).toNat = 0) :
    Ideal.ieee 8 23 b = ((fieldVal n : ℝ) : EReal) := by
  unfold Ideal.ieee
  simp only [Nat.reduceAdd, e1, e2, e3]
  rw [if_neg (by norm_num; omega)]
  unfold fieldVal
  by_cases hn : n = 0
  · subst hn; simp
  · rw [if_neg hn, if_neg hn]
    have h2 : ((2 ^ 23 + 0 : ℕ) : ℝ) = (2 : ℝ) ^ (23 : ℤ) := by norm_num
    have h3 : (n : ℤ) - 127 = 23 + ((n : ℤ) - ((2 ^ (8 - 1) - 1 : ℕ) : ℤ) - ((23 : ℕ) : ℤ)) := by norm_num
    rw [h2, h3, zpow_add₀ (by norm_num : (2 : ℝ) ≠ 0)]
    simp

theorem ieee_field (n : ℕ) (h : n ≤ 254) :
    Ideal.ofBits .f32 (IntOp.shli .vector (BitVec.ofNat 32 n) 23#32) = ((fieldVal n : ℝ) : EReal) := by
  obtain ⟨e3, e1, e2⟩ := field_parts ⟨n, by omega⟩
  exact ieee_parts _ n h e3 e1 e2

theorem ieee_field_top :
    Ideal.ofBits .f32 (IntOp.shli .vector (BitVec.ofNat 32 255) 23#32) = (⊤ : EReal) := by
  have hb : IntOp.shli .vector (BitVec.ofNat 32 255) 23#32 = 0x7F800000#32 := by decide
  rw [hb]; simp [Ideal.ofBits, Ideal.ieee]

theorem fieldVal_mono {a b : ℕ} (h : a ≤ b) : fieldVal a ≤ fieldVal b := by
  unfold fieldVal
  by_cases ha : a = 0
  · rw [if_pos ha]
    split_ifs
    · exact le_rfl
    · positivity
  · rw [if_neg ha, if_neg (by omega)]
    exact zpow_le_zpow_right₀ (by norm_num) (by omega)

/-- one comparison of the search: the bit is kept if the number so reached is no larger than `v` -/
def fstep (v : EReal) (eb bit : BitVec 32) : BitVec 32 :=
  if Ideal.ofBits .f32 (IntOp.shli .vector (IntOp.addi eb bit) 23#32) ≤ v then IntOp.addi eb bit else eb

/-- the exponent field found -/
def field (v : EReal) : BitVec 32 :=
  fstep v (fstep v (fstep v (fstep v (fstep v (fstep v (fstep v (fstep v 0#32 128#32) 64#32) 32#32) 16#32) 8#32) 4#32) 2#32) 1#32

theorem fstep_spec (v : ℝ) (hv : v < (2 : ℝ) ^ (126 : ℤ)) (n b : ℕ) (hb : 0 < b) (hn : n + 2 * b ≤ 256)
    (h0 : fieldVal n ≤ v) (h1 : v < fieldVal (n + 2 * b)) :
    ∃ n' : ℕ, fstep (v : EReal) (BitVec.ofNat 32 n) (BitVec.ofNat 32 b) = BitVec.ofNat 32 n' ∧ n' + b ≤ 256
      ∧ fieldVal n' ≤ v ∧ v < fieldVal (n' + b) := by
  have ha : IntOp.addi (BitVec.ofNat 32 n) (BitVec.ofNat 32 b) = BitVec.ofNat 32 (n + b) := by
    show BitVec.ofNat 32 n + BitVec.ofNat 32 b = _
    rw [BitVec.ofNat_add]
  unfold fstep
  rw [ha]
  by_cases h255 : n + b = 255
  · rw [h255, ieee_field_top, if_neg (by simp)]
    refine ⟨n, rfl, by omega, h0, ?_⟩
    rw [h255]
    refine lt_trans hv ?_
    unfold fieldVal
    rw [if_neg (by norm_num)]
    exact zpow_lt_zpow_right₀ (by norm_num) (by norm_num)
  · rw [ieee_field (n + b) (by omega)]
    by_cases hc : fieldVal (n + b) ≤ v
    · rw [if_pos (EReal.coe_le_coe_iff.mpr hc)]
      exact ⟨n + b, rfl, by omega, hc, by rw [show n + b + b = n + 2 * b by ring]; exact h1⟩
    · rw [if_neg (fun h => hc (EReal.coe_le_coe_iff.mp h))]
      exact ⟨n, rfl, by omega, h0, not_le.mp hc⟩

/-- the search's answer brackets `v` -/
theorem field_spec (v : ℝ) (h0 : 0 ≤ v) (hv : v < (2 : ℝ) ^ (126 : ℤ)) :
    ∃ n : ℕ, field (v : EReal) = BitVec.ofNat 32 n ∧ n ≤ 252 ∧ fieldVal n ≤ v ∧ v < fieldVal (n + 1) := by
  have s0 : v < fieldVal (0 + 2 * 128) := by
    refine lt_trans hv ?_
    unfold fieldVal
    rw [if_neg (by norm_num)]
    exact zpow_lt_zpow_right₀ (by norm_num) (by norm_num)
  obtain ⟨n1, e1, b1, l1, u1⟩ := fstep_spec v hv 0 128 (by norm_num) (by norm_num) (by simpa [fieldVal] using h0) s0
  obtain ⟨n2, e2, b2, l2, u2⟩ := fstep_spec v hv n1 64 (by norm_num) (by omega) l1 u1
  obtain ⟨n3, e3, b3, l3, u3⟩ := fstep_spec v hv n2 32 (by norm_num) (by omega) l2 u2
  obtain ⟨n4, e4, b4, l4, u4⟩ := fstep_spec v hv n3 16 (by norm_num) (by omega) l3 u3
  obtain ⟨n5, e5, b5, l5, u5⟩ := fstep_spec v hv n4 8 (by norm_num) (by omega) l4 u4
  obtain ⟨n6, e6, b6, l6, u6⟩ := fstep_spec v hv n5 4 (by norm_num) (by omega) l5 u5
  obtain ⟨n7, e7, b7, l7, u7⟩ := fstep_spec v hv n6 2 (by norm_num) (by omega) l6 u6
  obtain ⟨n8, e8, b8, l8, u8⟩ := fstep_spec v hv n7 1 (by norm_num) (by omega) l7 u7
  refine ⟨n8, ?_, ?_, l8, u8⟩
  · unfold field
    rw [e1, e2, e3, e4, e5, e6, e7, e8]
  · by_contra hc
    have h253 : fieldVal 253 ≤ fieldVal n8 := fieldVal_mono (by omega)
    have : fieldVal 253 = (2 : ℝ) ^ (126 : ℤ) := by unfold fieldVal; norm_num
    linarith

/-- the exponent of a scale -/
def gexp (v : ℝ) : ℤ := if v < (2 : ℝ) ^ (-126 : ℤ) then 0 else ⌊Real.log v / Real.log 2⌋ + 1

theorem gexp_of_field (v : ℝ) (n : ℕ) (l : fieldVal n ≤ v) (u : v < fieldVal (n + 1)) :
    gexp v = if n = 0 then 0 else (n : ℤ) - 126 := by
  unfold gexp
  unfold fieldVal at l u
  rw [if_neg (by omega)] at u
  by_cases hn : n = 0
  · subst hn
    rw [if_pos (by simpa using u), if_pos rfl]
  · rw [if_neg hn] at l
    rw [if_neg hn, if_neg]
    · have hv : 0 < v := lt_of_lt_of_le (by positivity) l
      have hl : (0 : ℝ) < Real.log 2 := Real.log_pos (by norm_num)
      have e : ⌊Real.log v / Real.log 2⌋ = (n : ℤ) - 127 := by
        rw [Int.floor_eq_iff]
        constructor
        · rw [le_div_iff₀ hl]
          have := Real.log_le_log (by positivity) l
          rw [Real.log_zpow] at this
          exact_mod_cast this
        · rw [div_lt_iff₀ hl]
          have := Real.log_lt_log hv u
          rw [Real.log_zpow] at this
          push_cast at this ⊢
          linarith
      rw [e]; ring
    · rw [not_lt]
      refine le_trans ?_ l
      exact zpow_le_zpow_right₀ (by norm_num) (by omega)

/-- what the kernel computes of the field -/
def kexp (z : BitVec 1) (v : EReal) : BitVec 32 :=
  Scalar.select z 0#32 (Scalar.select (IntOp.cmpi .eq (field v) 0#32) 0#32 (IntOp.subi (field v) 126#32))

/-- what the reference computes of the logarithm -/
def rexp (z : BitVec 1) (v : EReal) : BitVec 32 :=
  Scalar.select z 0#32 (Ideal.fptosi 32 (if v < ((2 : ℝ) ^ (-126 : ℤ) : ℝ) then 0
    else Ideal.liftRound Int.floor (Ideal.div (Ideal.log v) ((Real.log 2 : ℝ) : EReal)) + 1))

theorem gexp_range (v : ℝ) (h0 : 0 ≤ v) (hv : v < (2 : ℝ) ^ (126 : ℤ)) : -125 ≤ gexp v ∧ gexp v ≤ 126 := by
  obtain ⟨n, -, hn, l, u⟩ := field_spec v h0 hv
  rw [gexp_of_field v n l u]
  split_ifs <;> omega

theorem kexp_eq (z : BitVec 1) (v : ℝ) (h0 : 0 ≤ v) (hv : v < (2 : ℝ) ^ (126 : ℤ)) :
    kexp z v = BitVec.ofInt 32 (if z = 1#1 then 0 else gexp v) := by
  obtain ⟨n, hf, hn, l, u⟩ := field_spec v h0 hv
  unfold kexp Scalar.select
  by_cases hz : z = 1#1
  · simp [hz]
  · have hz' : ¬ z = 1 := hz
    rw [if_neg hz', if_neg hz, gexp_of_field v n l u, hf]
    by_cases hn0 : n = 0
    · subst hn0; rfl
    · have hne : (BitVec.ofNat 32 n) ≠ 0#32 := by
        intro h
        have := congrArg BitVec.toNat h
        simp at this
        omega
      have : IntOp.cmpi .eq (BitVec.ofNat 32 n) 0#32 = 0#1 := by
        show BitVec.ofBool (BitVec.ofNat 32 n == 0#32) = 0#1
        rw [beq_eq_false_iff_ne.mpr hne]; rfl
      rw [this, if_neg (by decide), if_neg hn0]
      show BitVec.ofNat 32 n - 126#32 = _
      have h : BitVec.ofNat 32 n = BitVec.ofInt 32 (n : ℤ) := (BitVec.ofInt_natCast ..).symm
      rw [h, sub_eq_add_neg (n : ℤ) 126, BitVec.ofInt_add, BitVec.sub_eq_add_neg]
      rfl

theorem rexp_eq (z : BitVec 1) (v : ℝ) (h0 : 0 ≤ v) (hv : v < (2 : ℝ) ^ (126 : ℤ)) :
    rexp z v = BitVec.ofInt 32 (if z = 1#1 then 0 else gexp v) := by
  unfold rexp Scalar.select
  by_cases hz : z = 1#1
  · simp [hz]
  · have hz' : ¬ z = 1 := hz
    rw [if_neg hz', if_neg hz]
    have hr := gexp_range v h0 hv
    by_cases hc : v < (2 : ℝ) ^ (-126 : ℤ)
    · rw [if_pos (EReal.coe_lt_coe_iff.mpr hc)]
      have : gexp v = 0 := by unfold gexp; rw [if_pos hc]
      rw [this]
      show BitVec.ofInt 32 (Ideal.toIntClamped _ _ ((0 : ℝ) : EReal)) = _
      rw [Ideal.toIntClamped_coe]
      norm_num
    · rw [if_neg (fun h => hc (EReal.coe_lt_coe_iff.mp h))]
      have hp : 0 < v := lt_of_lt_of_le (by positivity) (not_lt.mp hc)
      have hl : Real.log 2 ≠ 0 := ne_of_gt (Real.log_pos (by norm_num))
      rw [Ideal.log_coe, if_neg (not_le.mpr hp), Ideal.div_coe hl, ← EReal.coe_mul, Ideal.liftRound_coe]
      have hg : gexp v = ⌊Real.log v * (1 / Real.log 2)⌋ + 1 := by
        unfold gexp; rw [if_neg hc, mul_one_div]
      rw [show ((((⌊Real.log v * (1 / Real.log 2)⌋ : ℤ) : ℝ) : EReal) + 1) = (((gexp v : ℤ) : ℝ) : EReal) by
        rw [hg]; push_cast; rfl]
      show BitVec.ofInt 32 (Ideal.toIntClamped _ _ _) = _
      rw [Ideal.toIntClamped_coe, Int.floor_intCast, Int.ceil_intCast, ite_self]
      congr 1
      norm_num
      omega

/-- the power of two made from its bits, at an exponent or at its negative -/
theorem pow2_bits (e : ℤ) (h0 : -126 ≤ e) (h1 : e ≤ 127) :
    Ideal.ofBits .f32 (IntOp.shli .vector (IntOp.addi (BitVec.ofInt 32 e) 127#32) 23#32) = (((2 : ℝ) ^ e : ℝ) : EReal) := by
  have : IntOp.addi (BitVec.ofInt 32 e) 127#32 = BitVec.ofNat 32 (e + 127).toNat := by
    show BitVec.ofInt 32 e + 127#32 = _
    have h : BitVec.ofNat 32 (e + 127).toNat = BitVec.ofInt 32 ((e + 127).toNat : ℤ) := (BitVec.ofInt_natCast ..).symm
    rw [h, Int.toNat_of_nonneg (by omega), BitVec.ofInt_add]
    rfl
  rw [this, ieee_field _ (by omega)]
  unfold fieldVal
  rw [if_neg (by omega), Int.toNat_of_nonneg (by omega)]
  congr 2
  ring

theorem neg_bits (e : ℤ) : IntOp.subi 0#32 (BitVec.ofInt 32 e) = BitVec.ofInt 32 (-e) := by
  show 0#32 - BitVec.ofInt 32 e = _
  rw [BitVec.zero_sub, ← BitVec.ofInt_neg]

end Cert.Mx

end

end
-- ==== Proof.Round.lean ====
/- Stochastic rounding of one scaled value onto the four-bit grid 0, 1/2, 1, 3/2, 2, 3, 4, 6, its code and the code's value:
   the kernel's way (shift the value by one when its size is below one, round, shift back, clip, round to the grid again) and
   the reference's (round the size on the step of its range, cap at six) give the same grid point. -/
module

public import Idealize.ShloMosaic.PureOps.Ideal

@[expose] public section

noncomputable section

namespace Cert.Mx

open Idealize.ShloMosaic

/-! ## The constants -/

theorem c_half : Ideal.ofBits FTy.f32 1056964608#32 = ((1 / 2 : ℝ) : EReal) := by
  simp [Ideal.ofBits, Ideal.ieee, -EReal.coe_mul]; norm_num
theorem c_two : Ideal.ofBits FTy.f32 1073741824#32 = ((2 : ℝ) : EReal) := by
  simp [Ideal.ofBits, Ideal.ieee, -EReal.coe_mul]; norm_num
theorem c_four : Ideal.ofBits FTy.f32 1082130432#32 = ((4 : ℝ) : EReal) := by
  simp [Ideal.ofBits, Ideal.ieee, -EReal.coe_mul]; norm_num
theorem c_six : Ideal.ofBits FTy.f32 1086324736#32 = ((6 : ℝ) : EReal) := by
  simp [Ideal.ofBits, Ideal.ieee, -EReal.coe_mul]; norm_num
theorem c_neg_six : Ideal.ofBits FTy.f32 3233808384#32 = ((-6 : ℝ) : EReal) := by
  simp [Ideal.ofBits, Ideal.ieee, -EReal.coe_mul]; norm_num
theorem c_neg_one : Ideal.ofBits FTy.f32 3212836864#32 = ((-1 : ℝ) : EReal) := by
  simp [Ideal.ofBits, Ideal.ieee, -EReal.coe_mul]; norm_num
theorem c_256 : Ideal.ofBits FTy.f32 1132462080#32 = ((256 : ℝ) : EReal) := by
  simp [Ideal.ofBits, Ideal.ieee, -EReal.coe_mul]; norm_num

/-! ## The grid point, on real numbers -/

/-- the step of the range a size lies in -/
def stepR (t : ℝ) : ℝ := if t < 2 then 1 / 2 else if t < 4 then 1 else 2

theorem stepR_pos (t : ℝ) : 0 < stepR t := by unfold stepR; split_ifs <;> norm_num

/-- the size in steps, rounded up with the chance its fraction gives it -/
def roundR (t : ℝ) (n : ℕ) : ℤ :=
  if (n : ℝ) + 1 / 2 < (t / stepR t - ⌊t / stepR t⌋) * 256 then ⌊t / stepR t⌋ + 1 else ⌊t / stepR t⌋

/-- the grid point's size -/
def gridR (y : ℝ) (n : ℕ) : ℝ := min ((roundR |y| n : ℝ) * stepR |y|) 6

/-- the sizes on the grid -/
def mag (i : ℕ) : ℝ :=
  match i with
  | 0 => 0 | 1 => 1 / 2 | 2 => 1 | 3 => 3 / 2 | 4 => 2 | 5 => 3 | 6 => 4 | _ => 6

theorem floor_le_round (t : ℝ) (n : ℕ) : ⌊t / stepR t⌋ ≤ roundR t n := by unfold roundR; split_ifs <;> omega
theorem round_le_floor (t : ℝ) (n : ℕ) : roundR t n ≤ ⌊t / stepR t⌋ + 1 := by unfold roundR; split_ifs <;> omega

theorem roundR_nonneg (t : ℝ) (h : 0 ≤ t) (n : ℕ) : 0 ≤ roundR t n := by
  have : 0 ≤ ⌊t / stepR t⌋ := Int.floor_nonneg.mpr (div_nonneg h (stepR_pos t).le)
  have := floor_le_round t n
  omega

/-- every grid point is one of the eight -/
theorem gridR_mem (y : ℝ) (n : ℕ) : ∃ i : Fin 8, gridR y n = mag i.val := by
  have h0 := abs_nonneg y
  have l := floor_le_round |y| n
  have u := round_le_floor |y| n
  unfold gridR
  by_cases h2 : |y| < 2
  · have hs : stepR |y| = 1 / 2 := by unfold stepR; rw [if_pos h2]
    have f0 : (0 : ℤ) ≤ ⌊|y| / stepR |y|⌋ := by rw [hs]; exact Int.floor_nonneg.mpr (by linarith)
    have f1 : ⌊|y| / stepR |y|⌋ < 4 := by rw [hs, Int.floor_lt]; push_cast; linarith
    generalize roundR |y| n = k at *
    rw [hs]
    have hk : k = 0 ∨ k = 1 ∨ k = 2 ∨ k = 3 ∨ k = 4 := by omega
    rcases hk with rfl | rfl | rfl | rfl | rfl
    · exact ⟨0, by norm_num [mag]⟩
    · exact ⟨1, by norm_num [mag]⟩
    · exact ⟨2, by norm_num [mag]⟩
    · exact ⟨3, by norm_num [mag]⟩
    · exact ⟨4, by norm_num [mag]⟩
  · by_cases h4 : |y| < 4
    · have hs : stepR |y| = 1 := by unfold stepR; rw [if_neg h2, if_pos h4]
      have f0 : (2 : ℤ) ≤ ⌊|y| / stepR |y|⌋ := by rw [hs, Int.le_floor]; push_cast; linarith
      have f1 : ⌊|y| / stepR |y|⌋ < 4 := by rw [hs, Int.floor_lt]; push_cast; linarith
      generalize roundR |y| n = k at *
      rw [hs]
      have hk : k = 2 ∨ k = 3 ∨ k = 4 := by omega
      rcases hk with rfl | rfl | rfl
      · exact ⟨4, by norm_num [mag]⟩
      · exact ⟨5, by norm_num [mag]⟩
      · exact ⟨6, by norm_num [mag]⟩
    · have hs : stepR |y| = 2 := by unfold stepR; rw [if_neg h2, if_neg h4]
      have f0 : (2 : ℤ) ≤ ⌊|y| / stepR |y|⌋ := by rw [hs, Int.le_floor]; push_cast; linarith
      generalize roundR |y| n = k at *
      rw [hs]
      by_cases hk : k = 2
      · subst hk; exact ⟨6, by norm_num [mag]⟩
      · refine ⟨7, ?_⟩
        have : (3 : ℤ) ≤ k := by omega
        have : (3 : ℝ) ≤ (k : ℝ) := by exact_mod_cast this
        rw [min_eq_right (by linarith)]
        norm_num [mag]

/-- which of the eight -/
def gidx (y : ℝ) (n : ℕ) : ℕ := (Classical.choose (gridR_mem y n)).val

theorem gidx_lt (y : ℝ) (n : ℕ) : gidx y n < 8 := (Classical.choose (gridR_mem y n)).isLt
theorem gridR_eq (y : ℝ) (n : ℕ) : gridR y n = mag (gidx y n) := Classical.choose_spec (gridR_mem y n)

/-- the code: the grid index, with eight added for a negative value that does not round to zero -/
def gcode (y : ℝ) (n : ℕ) : ℕ := if y < 0 ∧ gidx y n ≠ 0 then gidx y n + 8 else gidx y n

theorem gcode_lt (y : ℝ) (n : ℕ) : gcode y n < 16 := by
  have := gidx_lt y n
  unfold gcode; split_ifs <;> omega

theorem gcode_ne (y : ℝ) (n : ℕ) : gcode y n ≠ 8 := by
  have := gidx_lt y n
  unfold gcode; split_ifs with h
  · have := h.2; omega
  · omega

/-- a code's value -/
def cval (k : ℕ) : ℝ := if 8 ≤ k then -mag (k - 8) else mag k

theorem mag_nonneg (i : ℕ) : 0 ≤ mag i := by unfold mag; split <;> norm_num
theorem mag_le (i : ℕ) : mag i ≤ 6 := by unfold mag; split <;> norm_num
theorem mag_pos (i : ℕ) (h : i < 8) : 0 < mag i ↔ i ≠ 0 := by interval_cases i <;> norm_num [mag]

/-- the signed grid point -/
def sgrid (y : ℝ) (n : ℕ) : ℝ := if y < 0 then -gridR y n else gridR y n

theorem cval_gcode (y : ℝ) (n : ℕ) : cval (gcode y n) = sgrid y n := by
  have hi := gidx_lt y n
  unfold sgrid
  rw [gridR_eq]
  by_cases hy : y < 0
  · by_cases h0 : gidx y n = 0
    · have e : gcode y n = 0 := by unfold gcode; rw [if_neg (fun h => h.2 h0), h0]
      simp [e, h0, cval, mag]
    · have e : gcode y n = gidx y n + 8 := by unfold gcode; rw [if_pos ⟨hy, h0⟩]
      unfold cval
      rw [e, if_pos (by omega), if_pos hy, Nat.add_sub_cancel]
  · have e : gcode y n = gidx y n := by unfold gcode; rw [if_neg (fun h => hy h.1)]
    unfold cval
    rw [e, if_neg (by omega), if_neg hy]

theorem gridR_nonneg (y : ℝ) (n : ℕ) : 0 ≤ gridR y n := by rw [gridR_eq]; exact mag_nonneg _
theorem gridR_le (y : ℝ) (n : ℕ) : gridR y n ≤ 6 := min_le_right _ _

end Cert.Mx

end

end
-- ==== Proof.KRound.lean ====
/- The kernel's rounding of one scaled value, in the operations its program has, and the grid point it gives. -/
module

public import proofs.«01_k».proof.Proof.Round

@[expose] public section

noncomputable section

namespace Cert.Mx

open Idealize.ShloMosaic

/-- the shift by one of a value of size below one -/
def cOf (y : EReal) : EReal :=
  if FloatOps.absf (F := Ideal) (φ := .f32) y < 1 then
    if y < 0 then Ideal.ofBits FTy.f32 3212836864#32 else 1 else 0

/-- the step of a size -/
def kStep (t : EReal) : EReal :=
  Scalar.select (BitVec.ofBool (decide (t < Ideal.ofBits FTy.f32 1073741824#32))) (Ideal.ofBits FTy.f32 1056964608#32)
    (if t < Ideal.ofBits FTy.f32 1082130432#32 then 1 else Ideal.ofBits FTy.f32 1073741824#32)

/-- a size rounded on its step with a random byte -/
def kRound (t : EReal) (rb : BitVec 8) : EReal :=
  (if FloatOps.sitofp (F := Ideal) FTy.f32 (BitVec.setWidth 32 rb) + Ideal.ofBits FTy.f32 1056964608#32
      < (Ideal.div t (kStep t) - Ideal.liftRound Int.floor (Ideal.div t (kStep t))) * Ideal.ofBits FTy.f32 1132462080#32
    then Ideal.liftRound Int.floor (Ideal.div t (kStep t)) + 1 else Ideal.liftRound Int.floor (Ideal.div t (kStep t))) * kStep t

/-- the rounded value, shifted back and clipped -/
def kClip (y : EReal) (rb : BitVec 8) : EReal :=
  min (Ideal.ofBits FTy.f32 1086324736#32) (max (Ideal.ofBits FTy.f32 3233808384#32)
    ((if y + cOf y < 0 then 0 - kRound (FloatOps.absf (F := Ideal) (φ := .f32) (y + cOf y)) rb
      else kRound (FloatOps.absf (F := Ideal) (φ := .f32) (y + cOf y)) rb) - cOf y))

/-- the size of a clipped value, rounded to even on its step -/
def kMag (v : EReal) : EReal :=
  Ideal.liftRound Ideal.roundHalfEven (Ideal.div (FloatOps.absf (F := Ideal) (φ := .f32) v)
      (if FloatOps.absf (F := Ideal) (φ := .f32) v < Ideal.ofBits FTy.f32 1073741824#32 then Ideal.ofBits FTy.f32 1056964608#32
        else if FloatOps.absf (F := Ideal) (φ := .f32) v < Ideal.ofBits FTy.f32 1082130432#32 then 1
          else Ideal.ofBits FTy.f32 1073741824#32))
    * (if FloatOps.absf (F := Ideal) (φ := .f32) v < Ideal.ofBits FTy.f32 1073741824#32 then Ideal.ofBits FTy.f32 1056964608#32
        else if FloatOps.absf (F := Ideal) (φ := .f32) v < Ideal.ofBits FTy.f32 1082130432#32 then 1
          else Ideal.ofBits FTy.f32 1073741824#32)

/-- the index of a size on the grid -/
def kIdx (m : EReal) : EReal :=
  Scalar.select (BitVec.ofBool (decide (m < Ideal.ofBits FTy.f32 1073741824#32))) (Ideal.ofBits FTy.f32 1073741824#32 * m)
    (if m < Ideal.ofBits FTy.f32 1082130432#32 then m + Ideal.ofBits FTy.f32 1073741824#32
      else Ideal.ofBits FTy.f32 1056964608#32 * m + Ideal.ofBits FTy.f32 1082130432#32)

/-- the code of a clipped value of a given size -/
def kCode (v m : EReal) : BitVec 32 :=
  if v < 0 then IntOp.addi (FloatOps.fptosi (F := Ideal) (φ := .f32) 32 (kIdx m)) 8#32
    else FloatOps.fptosi (F := Ideal) (φ := .f32) 32 (kIdx m)

/-- its value -/
def kVal (v m : EReal) : EReal := if v < 0 then 0 - m else m

/-! ## On real numbers -/

theorem absf_coe' (y : ℝ) : FloatOps.absf (F := Ideal) (φ := .f32) ((y : ℝ) : EReal) = ((|y| : ℝ) : EReal) := by
  show max ((y : ℝ) : EReal) (-((y : ℝ) : EReal)) = _
  rw [← EReal.coe_neg, ← EReal.coe_strictMono.monotone.map_max]; rfl

theorem select_ofBool {α : Type} (p : Prop) [Decidable p] (a b : α) :
    Scalar.select (BitVec.ofBool (decide p)) a b = if p then a else b := by
  unfold Scalar.select
  by_cases h : p <;> simp [h]

theorem coe_ite (p : Prop) [Decidable p] (a b : ℝ) : (if p then ((a : ℝ) : EReal) else ((b : ℝ) : EReal)) = (((if p then a else b) : ℝ) : EReal) := by
  split_ifs <;> rfl

/-- the shift, on real numbers -/
def cR (y : ℝ) : ℝ := if |y| < 1 then (if y < 0 then -1 else 1) else 0

theorem cOf_coe (y : ℝ) : cOf (y : EReal) = ((cR y : ℝ) : EReal) := by
  unfold cOf cR
  simp only [absf_coe', c_neg_one, ← EReal.coe_one, ← EReal.coe_zero, EReal.coe_lt_coe_iff, coe_ite]

theorem kStep_coe (t : ℝ) : kStep (t : EReal) = ((stepR t : ℝ) : EReal) := by
  unfold kStep stepR
  simp only [select_ofBool, c_two, c_four, c_half, ← EReal.coe_one, EReal.coe_lt_coe_iff, coe_ite]

theorem sitofp_byte (rb : BitVec 8) : FloatOps.sitofp (F := Ideal) FTy.f32 (BitVec.setWidth 32 rb) = (((rb.toNat : ℕ) : ℝ) : EReal) := by
  show (((BitVec.setWidth 32 rb).toInt : ℝ) : EReal) = _
  have : (BitVec.setWidth 32 rb).toInt = (rb.toNat : ℤ) := by
    have := rb.isLt
    rw [BitVec.toInt_eq_toNat_of_lt (by rw [BitVec.toNat_setWidth]; omega), BitVec.toNat_setWidth]
    omega
  rw [this]; simp

theorem kRound_coe (t : ℝ) (rb : BitVec 8) : kRound (t : EReal) rb = (((roundR t rb.toNat : ℝ) * stepR t : ℝ) : EReal) := by
  unfold kRound roundR
  have hs := (stepR_pos t).ne'
  simp only [sitofp_byte, kStep_coe, Ideal.div_coe hs, c_half, c_256, ← EReal.coe_mul, Ideal.liftRound_coe, ← EReal.coe_sub,
    ← EReal.coe_add, ← EReal.coe_one, EReal.coe_lt_coe_iff, coe_ite, mul_one_div]
  congr 2
  split_ifs <;> push_cast <;> rfl

/-- the shift does not change what a size below one rounds to -/
theorem round_shift (y : ℝ) (n : ℕ) :
    (if y + cR y < 0 then 0 - (roundR |y + cR y| n : ℝ) * stepR |y + cR y| else (roundR |y + cR y| n : ℝ) * stepR |y + cR y|) - cR y
      = if y < 0 then -((roundR |y| n : ℝ) * stepR |y|) else (roundR |y| n : ℝ) * stepR |y| := by
  by_cases h1 : |y| < 1
  · have hs : stepR |y| = 1 / 2 := by unfold stepR; rw [if_pos (by linarith)]
    have key : ∀ t : ℝ, t = |y| + 1 → stepR t = 1 / 2 ∧ roundR t n = roundR |y| n + 2 := by
      intro t ht
      have hst : stepR t = 1 / 2 := by unfold stepR; rw [if_pos (by linarith)]
      refine ⟨hst, ?_⟩
      have hf : t / (1 / 2) = |y| / (1 / 2) + (2 : ℤ) := by rw [ht]; push_cast; ring
      unfold roundR
      rw [hs, hst, hf, Int.floor_add_intCast]
      push_cast
      rw [show |y| / (1 / 2) + 2 - ((⌊|y| / (1 / 2)⌋ : ℝ) + 2) = |y| / (1 / 2) - (⌊|y| / (1 / 2)⌋ : ℝ) by ring]
      split_ifs <;> ring
    by_cases hy : y < 0
    · have hc : cR y = -1 := by unfold cR; rw [if_pos h1, if_pos hy]
      have ha : |y| = -y := abs_of_neg hy
      have ht : |y + cR y| = |y| + 1 := by rw [hc, abs_of_neg (by linarith), ha]; ring
      obtain ⟨k1, k2⟩ := key _ ht
      rw [if_pos (by rw [hc]; linarith), if_pos hy, k1, k2, hs, hc]
      push_cast; ring
    · have hc : cR y = 1 := by unfold cR; rw [if_pos h1, if_neg hy]
      have ha : |y| = y := abs_of_nonneg (not_lt.mp hy)
      have ht : |y + cR y| = |y| + 1 := by rw [hc, abs_of_nonneg (by linarith), ha]
      obtain ⟨k1, k2⟩ := key _ ht
      rw [if_neg (by rw [hc]; linarith), if_neg hy, k1, k2, hs, hc]
      push_cast; ring
  · have hc : cR y = 0 := by unfold cR; rw [if_neg h1]
    rw [hc, add_zero, sub_zero, zero_sub]

theorem kClip_coe (y : ℝ) (rb : BitVec 8) : kClip (y : EReal) rb = ((sgrid y rb.toNat : ℝ) : EReal) := by
  unfold kClip
  simp only [cOf_coe, ← EReal.coe_add, absf_coe', kRound_coe, c_six, c_neg_six, ← EReal.coe_zero, EReal.coe_lt_coe_iff, ← EReal.coe_sub,
    coe_ite, round_shift]
  rw [← EReal.coe_strictMono.monotone.map_max, ← EReal.coe_strictMono.monotone.map_min]
  congr 1
  have hn : (0 : ℝ) ≤ (roundR |y| rb.toNat : ℝ) * stepR |y| :=
    mul_nonneg (by exact_mod_cast roundR_nonneg _ (abs_nonneg y) _) (stepR_pos _).le
  unfold sgrid gridR
  generalize (roundR |y| rb.toNat : ℝ) * stepR |y| = q at *
  split_ifs
  · by_cases hq : q ≤ 6
    · rw [min_eq_left hq, max_eq_right (by linarith), min_eq_right (by linarith)]
    · rw [min_eq_right (le_of_not_ge hq), max_eq_left (by linarith), min_eq_right (by norm_num)]
  · rw [max_eq_right (by linarith), min_comm]

theorem rhe_int (k : ℤ) : Ideal.roundHalfEven (k : ℝ) = k := by
  unfold Ideal.roundHalfEven
  simp

/-- a grid point's size rounds to itself -/
theorem kMag_coe (y : ℝ) (n : ℕ) : kMag ((sgrid y n : ℝ) : EReal) = ((gridR y n : ℝ) : EReal) := by
  have ha : |sgrid y n| = gridR y n := by
    have := gridR_nonneg y n
    unfold sgrid; split_ifs
    · rw [abs_neg, abs_of_nonneg this]
    · rw [abs_of_nonneg this]
  have e : (if gridR y n < 2 then (1 / 2 : ℝ) else if gridR y n < 4 then 1 else 2) = stepR (gridR y n) := rfl
  unfold kMag
  simp only [absf_coe', ha, c_two, c_four, c_half, ← EReal.coe_one, EReal.coe_lt_coe_iff, coe_ite, e]
  rw [Ideal.div_coe (stepR_pos _).ne', ← EReal.coe_mul, Ideal.liftRound_coe, ← EReal.coe_mul, mul_one_div]
  congr 1
  have : ∃ k : ℤ, gridR y n / stepR (gridR y n) = k := by
    have hi := gidx_lt y n
    rw [gridR_eq]
    generalize gidx y n = i at *
    interval_cases i
    · exact ⟨0, by norm_num [mag, stepR]⟩
    · exact ⟨1, by norm_num [mag, stepR]⟩
    · exact ⟨2, by norm_num [mag, stepR]⟩
    · exact ⟨3, by norm_num [mag, stepR]⟩
    · exact ⟨2, by norm_num [mag, stepR]⟩
    · exact ⟨3, by norm_num [mag, stepR]⟩
    · exact ⟨2, by norm_num [mag, stepR]⟩
    · exact ⟨3, by norm_num [mag, stepR]⟩
  obtain ⟨k, hk⟩ := this
  rw [hk, rhe_int, ← hk]
  exact div_mul_cancel₀ _ (stepR_pos _).ne'

theorem fptosi_nat (i : ℕ) (h : i < 16) : FloatOps.fptosi (F := Ideal) (φ := .f32) 32 (((i : ℝ) : ℝ) : EReal) = BitVec.ofNat 32 i := by
  show BitVec.ofInt 32 (Ideal.toIntClamped _ _ (((i : ℝ) : ℝ) : EReal)) = _
  have hi : ((i : ℕ) : ℝ) = (((i : ℕ) : ℤ) : ℝ) := by simp
  rw [Ideal.toIntClamped_coe, hi, Int.floor_intCast, Int.ceil_intCast, ite_self]
  interval_cases i <;> rfl

theorem kIdx_coe (y : ℝ) (n : ℕ) : kIdx ((gridR y n : ℝ) : EReal) = (((gidx y n : ℕ) : ℝ) : EReal) := by
  unfold kIdx
  simp only [select_ofBool, c_two, c_four, c_half, EReal.coe_lt_coe_iff, ← EReal.coe_mul, ← EReal.coe_add, coe_ite]
  congr 1
  have hi := gidx_lt y n
  rw [gridR_eq]
  generalize gidx y n = i at *
  interval_cases i <;> norm_num [mag]

theorem sgrid_neg (y : ℝ) (n : ℕ) : sgrid y n < 0 ↔ y < 0 ∧ gidx y n ≠ 0 := by
  have hi := gidx_lt y n
  have hp := mag_pos _ hi
  have h0 := mag_nonneg (gidx y n)
  unfold sgrid
  rw [gridR_eq]
  by_cases hy : y < 0
  · rw [if_pos hy, neg_lt_zero, hp]; simp [hy]
  · rw [if_neg hy]
    constructor
    · intro h; linarith
    · intro h; exact absurd h.1 hy

/-- the kernel's code -/
theorem kCode_eq (y : ℝ) (rb : BitVec 8) : kCode (kClip y rb) (kMag (kClip y rb)) = BitVec.ofNat 32 (gcode y rb.toNat) := by
  have hi := gidx_lt y rb.toNat
  rw [kClip_coe, kMag_coe]
  unfold kCode
  rw [kIdx_coe, fptosi_nat _ (by omega), ← EReal.coe_zero]
  simp only [EReal.coe_lt_coe_iff, sgrid_neg]
  unfold gcode
  split_ifs
  · show BitVec.ofNat 32 _ + BitVec.ofNat 32 8 = _
    rw [BitVec.ofNat_add]
  · rfl

/-- the kernel's value of it -/
theorem kVal_eq (y : ℝ) (rb : BitVec 8) : kVal (kClip y rb) (kMag (kClip y rb)) = ((cval (gcode y rb.toNat) : ℝ) : EReal) := by
  rw [kClip_coe, kMag_coe, cval_gcode]
  unfold kVal
  rw [← EReal.coe_zero]
  simp only [EReal.coe_lt_coe_iff, sgrid_neg, ← EReal.coe_sub, coe_ite]
  congr 1
  unfold sgrid
  rw [gridR_eq]
  by_cases hy : y < 0
  · by_cases h0 : gidx y rb.toNat = 0
    · simp [h0, mag]
    · simp [hy, h0]
  · simp [hy]

end Cert.Mx

end

end
-- ==== Proof.TileRead.lean ====
/- The tile's exponents and scaled values, at one place: the search of `Expo` on the group's largest size, and the value
   times the power of two made from the negated exponent. -/
module

public import proofs.«01_k».proof.Proof.Tile
public import proofs.«01_k».proof.Proof.Expo
public import proofs.«01_k».proof.Proof.KRound
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Mx

variable (x0 d : Vec Ideal S256x256 .bf16) (r : Vec Ideal S256x256 .i8)

/-- a group's largest size over six, before rounding -/
def tV (g : Fin 8) (b : Fin 256) : EReal := k0_pay47 x0 d (ix2 g b) * Ideal.ofBits FTy.f32 1042983595#32

/-- whether the group is zero -/
def tZero (g : Fin 8) (b : Fin 256) : BitVec 1 := BitVec.ofBool (decide ((k0_pay47 x0 d (ix2 g b) : EReal) = 0))

theorem pay49_at (g : Fin 8) (b : Fin 256) : (k0_pay49 (F := Ideal) x0 d (ix2 g b) : EReal) = tV x0 d g b := by
  pointwise [k0_pay49]
  rfl

theorem pay48_at (g : Fin 8) (b : Fin 256) : k0_pay48 (F := Ideal) x0 d (ix2 g b) = tZero x0 d g b := by
  pointwise [k0_pay48]
  rfl

theorem pay50_at (g : Fin 8) (b : Fin 256) : k0_pay50 (F := Ideal) x0 d (ix2 g b)
    = fstep (tV x0 d g b) (fstep (tV x0 d g b) 0#32 128#32) 64#32 := by
  rw [← pay49_at]
  pointwise [k0_pay50]
  rfl

theorem tField_at (g : Fin 8) (b : Fin 256) : tField x0 d (ix2 g b)
    = fstep (tV x0 d g b) (fstep (tV x0 d g b) (fstep (tV x0 d g b) (fstep (tV x0 d g b) (fstep (tV x0 d g b)
      (fstep (tV x0 d g b) (fstep (tV x0 d g b) 0#32 128#32) 64#32) 32#32) 16#32) 8#32) 4#32) 2#32 := by
  rw [← pay50_at, ← pay49_at]
  pointwise [tField, k0_pay52]
  rfl

theorem tExp_at (g : Fin 8) (b : Fin 256) : tExp x0 d (ix2 g b) = kexp (tZero x0 d g b) (tV x0 d g b) := by
  unfold kexp field
  rw [← tField_at, ← pay49_at, ← pay48_at]
  pointwise [tExp, k0_pay54]
  rfl

/-- a value times the power of two of the negated exponent -/
def yOf (x : EReal) (e : BitVec 32) : EReal :=
  x * Ideal.ofBits FTy.f32 (IntOp.shli .vector (IntOp.addi (IntOp.subi 0#32 e) 127#32) 23#32)

theorem tY_at (a b : Fin 256) : (tY x0 d (ix2 a b) : EReal)
    = yOf (k0_pay46 x0 d (ix3 ⟨a.val / 32, by omega⟩ ⟨a.val % 32, by omega⟩ b)) (tExp x0 d (ix2 ⟨a.val / 32, by omega⟩ b)) := by
  pointwise [tY, k0_pay55]
  rfl

theorem tC_at (a b : Fin 256) : (tC x0 d (ix2 a b) : EReal) = cOf (tY x0 d (ix2 a b)) := by
  pointwise [tC, k0_pay56]
  rfl

theorem tS_at (a b : Fin 256) : (tS x0 d (ix2 a b) : EReal) = (tY x0 d (ix2 a b) : EReal) + cOf (tY x0 d (ix2 a b)) := by
  rw [← tC_at]
  pointwise [tS, k0_pay57]
  rfl

theorem tT_at (a b : Fin 256) : (tT x0 d (ix2 a b) : EReal) = FloatOps.absf (F := Ideal) (φ := .f32) (tS x0 d (ix2 a b)) := by
  pointwise [tT, k0_pay59]
  rfl

theorem tLow_at (a b : Fin 256) : tLow x0 d (ix2 a b)
    = BitVec.ofBool (decide ((tT x0 d (ix2 a b) : EReal) < Ideal.ofBits FTy.f32 1073741824#32)) := by
  pointwise [tLow, k0_pay60]
  rfl

theorem tClip_at (a b : Fin 256) : (tClip x0 d r (ix2 a b) : EReal) = kClip (tY x0 d (ix2 a b)) (r (ix2 a b)) := by
  unfold kClip kRound kStep
  rw [← tS_at, ← tT_at, ← tLow_at, ← tC_at]
  pointwise [tClip, k0_pay62, k0_pay58, k0_pay45, k0_pay61]

theorem tMag_at (a b : Fin 256) : (tMag x0 d r (ix2 a b) : EReal) = kMag (tClip x0 d r (ix2 a b)) := by
  pointwise [tMag, k0_pay63]
  rfl

theorem tMagLow_at (a b : Fin 256) : tMagLow x0 d r (ix2 a b)
    = BitVec.ofBool (decide ((tMag x0 d r (ix2 a b) : EReal) < Ideal.ofBits FTy.f32 1073741824#32)) := by
  pointwise [tMagLow, k0_pay64]
  rfl

theorem tDq_at (a b : Fin 256) : (tDq x0 d r (ix2 a b) : EReal)
    = kVal (tClip x0 d r (ix2 a b)) (tMag x0 d r (ix2 a b))
      * Ideal.ofBits FTy.f32 (IntOp.shli .vector (IntOp.addi (tExp x0 d (ix2 ⟨a.val / 32, by omega⟩ b)) 127#32) 23#32) := by
  pointwise [tDq, k0_pay71, k0_pay65]
  rfl

theorem tScales_at (a : Fin 8) (b : Fin 256) : (tScales x0 d (ix2 a b) : BitVec 8)
    = BitVec.setWidth 8 (IntOp.addi (tExp x0 d (ix2 a b)) 127#32) := by
  pointwise [tScales, k0_pay70]

theorem code_at (f : Fin 32) (a : Fin 8) (b : Fin 256) :
    k0_pay66 (F := Ideal) (tClip x0 d r) (tMag x0 d r) (tMagLow x0 d r) (ix3 f a b)
      = kCode (tClip x0 d r (ix2 ⟨f.val * 8 + a.val, by omega⟩ b)) (tMag x0 d r (ix2 ⟨f.val * 8 + a.val, by omega⟩ b)) := by
  unfold kCode kIdx
  rw [← tMagLow_at]
  pointwise [k0_pay66]

end Cert.KernelIdeal.Value

end

end
-- ==== Proof.Block.lean ====
/- What one grid point leaves in its buffers, from its blocks: the codes and the scales tile by tile, and the carried
   accumulator with the point's product added. -/
module

public import proofs.«01_k».proof.Proof.Gen.KernelIdeal.Value
public import proofs.«01_k».proof.Proof.Tile
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem

/-- tile `(t, c)` of a block of 512 tokens by 1024 channels -/
def bTile {φ : EltTy} (x : Vec Ideal S512x1024 φ) (t : Fin 2) (c : Fin 4) : Vec Ideal S256x256 φ :=
  fun j => x (ix2 (n0 := 512) (n1 := 1024) ⟨256 * t.val + (j 0).val, by have := (j 0).isLt; change (j 0).val < 256 at this; omega⟩
    ⟨256 * c.val + (j 1).val, by have := (j 1).isLt; change (j 1).val < 256 at this; omega⟩)

/-- a load of a tile's rectangle -/
theorem ld_tile {φ : EltTy} (x : Vec Ideal S512x1024 φ) (t : Fin 2) (c : Fin 4) (o1 o2 : ℕ) (h1 : o1 = 256 * t.val)
    (h2 : o2 = 256 * c.val) (inb) :
    View.ld x (Rect.unit (s := S512x1024) ![o1, o2] ![256, 256] inb) = bTile x t c := by
  subst h1 h2
  funext j
  show x ((Rect.unit (s := S512x1024) _ _ _).emb j) = x _
  blk_ext

/-- the values read back from a block's codes and scales, tile by tile -/
def dqBlk (x0 : Vec Ideal S256x256 .bf16) (x1 : Vec Ideal S512x1024 .bf16) (x2 : Vec Ideal S512x1024 .i8) :
    Vec Ideal S512x1024 .bf16 :=
  fun j => tDq x0 (bTile x1 ⟨(j 0).val / 256, by have := (j 0).isLt; change (j 0).val < 512 at this; omega⟩ ⟨(j 1).val / 256, by have := (j 1).isLt; change (j 1).val < 1024 at this; omega⟩)
    (bTile x2 ⟨(j 0).val / 256, by have := (j 0).isLt; change (j 0).val < 512 at this; omega⟩ ⟨(j 1).val / 256, by have := (j 1).isLt; change (j 1).val < 1024 at this; omega⟩)
    (ix2 (n0 := 256) (n1 := 256) ⟨(j 0).val % 256, by omega⟩ ⟨(j 1).val % 256, by omega⟩)

theorem dqBlk_at (x0 : Vec Ideal S256x256 .bf16) (x1 : Vec Ideal S512x1024 .bf16) (x2 : Vec Ideal S512x1024 .i8)
    (t : Fin 2) (c : Fin 4) (x : S256x256.Idx) (y : S512x1024.Idx) (h0 : (y 0).val = 256 * t.val + (x 0).val)
    (h1 : (y 1).val = 256 * c.val + (x 1).val) : dqBlk x0 x1 x2 y = tDq x0 (bTile x1 t c) (bTile x2 t c) x := by
  have b0 : (x 0).val < 256 := (x 0).isLt
  have b1 : (x 1).val < 256 := (x 1).isLt
  unfold dqBlk
  have e0 : ∀ h, (⟨(y 0).val / 256, h⟩ : Fin 2) = t := fun h => Fin.ext (by show (y 0).val / 256 = t.val; omega)
  have e1 : ∀ h, (⟨(y 1).val / 256, h⟩ : Fin 4) = c := fun h => Fin.ext (by show (y 1).val / 256 = c.val; omega)
  rw [e0, e1]
  congr 1
  funext a
  fin_cases a
  · exact Fin.ext (by show (y 0).val % 256 = (x 0).val; omega)
  · exact Fin.ext (by show (y 1).val % 256 = (x 1).val; omega)

/-- a stored tile of read-back values is that tile of the block's -/
theorem dq_piece (x0 : Vec Ideal S256x256 .bf16) (x1 : Vec Ideal S512x1024 .bf16) (x2 : Vec Ideal S512x1024 .i8)
    (t : Fin 2) (c : Fin 4) (o1 o2 : ℕ) (h1 : o1 = 256 * t.val) (h2 : o2 = 256 * c.val) (inb) (x : S256x256.Idx) :
    tDq x0 (View.ld x1 (Rect.unit (s := S512x1024) ![o1, o2] ![256, 256] inb))
        (View.ld x2 (Rect.unit (s := S512x1024) ![o1, o2] ![256, 256] inb)) x
      = dqBlk x0 x1 x2 ((Rect.unit (s := S512x1024) ![o1, o2] ![256, 256] inb).emb x) := by
  rw [ld_tile x1 t c o1 o2 h1 h2, ld_tile x2 t c o1 o2 h1 h2]
  subst h1 h2
  refine (dqBlk_at x0 x1 x2 t c x _ ?_ ?_).symm
  all_goals blk_simp

/-- a column of tiles read back after the stores of its two tiles -/
theorem dq_col (x0 : Vec Ideal S256x256 .bf16) (x1 : Vec Ideal S512x1024 .bf16) (x2 : Vec Ideal S512x1024 .i8)
    (v : View sig .tc .vmem S512x1024 .bf16) (c : Fin 4) (o2 : ℕ) (h2 : o2 = 256 * c.val) (inb1 inb0 inb)
    (L : List (View.Piece (Elt Ideal) S512x1024 .bf16)) :
    v.readCov (⟨Rect.unit (s := S512x1024) ![256, o2] ![256, 256] inb1,
          tDq x0 (View.ld x1 (Rect.unit (s := S512x1024) ![256, o2] ![256, 256] inb1))
            (View.ld x2 (Rect.unit (s := S512x1024) ![256, o2] ![256, 256] inb1))⟩
        :: ⟨Rect.unit (s := S512x1024) ![0, o2] ![256, 256] inb0,
          tDq x0 (View.ld x1 (Rect.unit (s := S512x1024) ![0, o2] ![256, 256] inb0))
            (View.ld x2 (Rect.unit (s := S512x1024) ![0, o2] ![256, 256] inb0))⟩ :: L)
        (Rect.unit (s := S512x1024) ![0, o2] ![512, 256] inb).toLoadRect
      = View.ld (dqBlk x0 x1 x2) (Rect.unit (s := S512x1024) ![0, o2] ![512, 256] inb) := by
  rw [View.readCov_eq_canon']
  funext j
  have b0 : (j 0).val < 512 := (j 0).isLt
  have b1 : (j 1).val < 256 := (j 1).isLt
  by_cases h : 256 ≤ (j 0).val
  · have e : (Rect.unit (s := S512x1024) ![0, o2] ![512, 256] inb).emb j
        = (Rect.unit (s := S512x1024) ![256, o2] ![256, 256] inb1).emb (ix2 (n0 := 256) (n1 := 256) ⟨(j 0).val - 256, by omega⟩ ⟨(j 1).val, b1⟩) := by
      blk_ext
    show View.canon _ ((Rect.unit (s := S512x1024) ![0, o2] ![512, 256] inb).emb j) = dqBlk x0 x1 x2 ((Rect.unit (s := S512x1024) ![0, o2] ![512, 256] inb).emb j)
    rw [e, View.canon_cons_emb]
    exact dq_piece x0 x1 x2 1 c 256 o2 rfl h2 inb1 _
  · have e : (Rect.unit (s := S512x1024) ![0, o2] ![512, 256] inb).emb j
        = (Rect.unit (s := S512x1024) ![0, o2] ![256, 256] inb0).emb (ix2 (n0 := 256) (n1 := 256) ⟨(j 0).val, by omega⟩ ⟨(j 1).val, b1⟩) := by
      blk_ext
    show View.canon _ ((Rect.unit (s := S512x1024) ![0, o2] ![512, 256] inb).emb j) = dqBlk x0 x1 x2 ((Rect.unit (s := S512x1024) ![0, o2] ![512, 256] inb).emb j)
    rw [e, View.canon_cons_of_not_mem, View.canon_cons_emb]
    · exact dq_piece x0 x1 x2 0 c 0 o2 rfl h2 inb0 _
    · intro hm
      have h0 := (Rect.mem_set_unit (inb := inb1).mp hm (0 : Fin 2)).1
      change 256 ≤ 0 + 1 * (j 0).val at h0
      omega

/-- the accumulator with a point's product added -/
def stepAcc (acc : Vec Ideal S2560x1024 .f32) (x0 : Vec Ideal S256x256 .bf16) (x1 : Vec Ideal S512x1024 .bf16)
    (x2 : Vec Ideal S512x1024 .i8) (x3 : Vec Ideal S2560x512 .bf16) : Vec Ideal S2560x1024 .f32 :=
  fun j => ((acc j : EReal) + ∑ k : Fin 512, (x3 (ix2 (n0 := 2560) (n1 := 512) ⟨(j 0).val, (j 0).isLt⟩ k) : EReal)
    * (dqBlk x0 x1 x2 (ix2 (n0 := 512) (n1 := 1024) k ⟨(j 1).val, (j 1).isLt⟩) : EReal) : EReal)

theorem acc_pay (a : Vec Ideal S256x256 .f32) (x : Vec Ideal S256x512 .bf16) (d : Vec Ideal S512x256 .bf16) (i j : Fin 256) :
    k0_pay1 (F := Ideal) a x d (ix2 i j) = ((a (ix2 i j) : EReal) + ∑ k : Fin 512, (x (ix2 i k) : EReal) * (d (ix2 k j) : EReal) : EReal) := by
  pointwise [k0_pay1]

/-- a stored tile of the accumulator is that tile of the sum -/
theorem acc_piece (acc : Vec Ideal S2560x1024 .f32) (x0 : Vec Ideal S256x256 .bf16) (x1 : Vec Ideal S512x1024 .bf16)
    (x2 : Vec Ideal S512x1024 .i8) (x3 : Vec Ideal S2560x512 .bf16) (v : View sig .tc .vmem S512x1024 .bf16)
    (c : Fin 4) (o1 o2 : ℕ) (h2 : o2 = 256 * c.val) (inbA inb3 inb1 inb0 inb)
    (L : List (View.Piece (Elt Ideal) S512x1024 .bf16)) (x : S256x256.Idx) :
    k0_pay1 (F := Ideal) (View.ld acc (Rect.unit (s := S2560x1024) ![o1, o2] ![256, 256] inbA))
      (View.ld x3 (Rect.unit (s := S2560x512) ![o1, 0] ![256, 512] inb3))
      (v.readCov (⟨Rect.unit (s := S512x1024) ![256, o2] ![256, 256] inb1,
          tDq x0 (View.ld x1 (Rect.unit (s := S512x1024) ![256, o2] ![256, 256] inb1))
            (View.ld x2 (Rect.unit (s := S512x1024) ![256, o2] ![256, 256] inb1))⟩
        :: ⟨Rect.unit (s := S512x1024) ![0, o2] ![256, 256] inb0,
          tDq x0 (View.ld x1 (Rect.unit (s := S512x1024) ![0, o2] ![256, 256] inb0))
            (View.ld x2 (Rect.unit (s := S512x1024) ![0, o2] ![256, 256] inb0))⟩ :: L)
        (Rect.unit (s := S512x1024) ![0, o2] ![512, 256] inb).toLoadRect) x
      = stepAcc acc x0 x1 x2 x3 ((Rect.unit (s := S2560x1024) ![o1, o2] ![256, 256] inbA).emb x) := by
  rw [dq_col x0 x1 x2 v c o2 h2 inb1 inb0 inb L]
  obtain ⟨i, j, rfl⟩ : ∃ (i j : Fin 256), x = ix2 i j := ⟨x 0, x 1, by funext a; fin_cases a <;> rfl⟩
  rw [acc_pay]
  refine congrArg₂ (fun a b : EReal => a + b) rfl (Finset.sum_congr rfl fun k _ => ?_)
  refine congrArg₂ (fun a b : EReal => a * b) ?_ ?_
  · show x3 ((Rect.unit (s := S2560x512) ![o1, 0] ![256, 512] inb3).emb _) = x3 _
    blk_ext
  · show dqBlk x0 x1 x2 ((Rect.unit (s := S512x1024) ![0, o2] ![512, 256] inb).emb _) = dqBlk x0 x1 x2 _
    blk_ext

/-- a stored tile of the transposed result is that tile of the sum's transpose -/
theorem dw_piece (acc : Vec Ideal S2560x1024 .f32) (x0 : Vec Ideal S256x256 .bf16) (x1 : Vec Ideal S512x1024 .bf16)
    (x2 : Vec Ideal S512x1024 .i8) (x3 : Vec Ideal S2560x512 .bf16) (v : View sig .tc .vmem S512x1024 .bf16)
    (c : Fin 4) (o1 o2 : ℕ) (h2 : o2 = 256 * c.val) (inbO inbA inb3 inb1 inb0 inb)
    (L : List (View.Piece (Elt Ideal) S512x1024 .bf16)) (x : S256x256.Idx) :
    k0_pay4 (F := Ideal) (k0_pay1 (F := Ideal) (View.ld acc (Rect.unit (s := S2560x1024) ![o1, o2] ![256, 256] inbA))
      (View.ld x3 (Rect.unit (s := S2560x512) ![o1, 0] ![256, 512] inb3))
      (v.readCov (⟨Rect.unit (s := S512x1024) ![256, o2] ![256, 256] inb1,
          tDq x0 (View.ld x1 (Rect.unit (s := S512x1024) ![256, o2] ![256, 256] inb1))
            (View.ld x2 (Rect.unit (s := S512x1024) ![256, o2] ![256, 256] inb1))⟩
        :: ⟨Rect.unit (s := S512x1024) ![0, o2] ![256, 256] inb0,
          tDq x0 (View.ld x1 (Rect.unit (s := S512x1024) ![0, o2] ![256, 256] inb0))
            (View.ld x2 (Rect.unit (s := S512x1024) ![0, o2] ![256, 256] inb0))⟩ :: L)
        (Rect.unit (s := S512x1024) ![0, o2] ![512, 256] inb).toLoadRect)) x
      = (fun y : S1024x2560.Idx => stepAcc acc x0 x1 x2 x3 (ix2 (n0 := 2560) (n1 := 1024) ⟨(y 1).val, (y 1).isLt⟩ ⟨(y 0).val, (y 0).isLt⟩))
          ((Rect.unit (s := S1024x2560) ![o2, o1] ![256, 256] inbO).emb x) := by
  obtain ⟨i, j, rfl⟩ : ∃ (i j : Fin 256), x = ix2 i j := ⟨x 0, x 1, by funext a; fin_cases a <;> rfl⟩
  refine Eq.trans (b := k0_pay1 (F := Ideal) _ _ _ (ix2 (n0 := 256) (n1 := 256) j i)) ?_ ((acc_piece acc x0 x1 x2 x3 v c o1 o2 h2 inbA inb3 inb1 inb0 inb L (ix2 j i)).trans ?_)
  · pointwise [k0_pay4]
  · show stepAcc acc x0 x1 x2 x3 _ = stepAcc acc x0 x1 x2 x3 _
    blk_ext

/-- the codes of a block, tile by tile -/
def codesBlk (x0 : Vec Ideal S256x256 .bf16) (x1 : Vec Ideal S512x1024 .bf16) (x2 : Vec Ideal S512x1024 .i8) :
    Vec Ideal S256x1024 .i8 :=
  fun j => tCodes x0 (bTile x1 ⟨(j 0).val / 128, by have := (j 0).isLt; change (j 0).val < 256 at this; omega⟩ ⟨(j 1).val / 256, by have := (j 1).isLt; change (j 1).val < 1024 at this; omega⟩)
    (bTile x2 ⟨(j 0).val / 128, by have := (j 0).isLt; change (j 0).val < 256 at this; omega⟩ ⟨(j 1).val / 256, by have := (j 1).isLt; change (j 1).val < 1024 at this; omega⟩)
    (ix2 (n0 := 128) (n1 := 256) ⟨(j 0).val % 128, by omega⟩ ⟨(j 1).val % 256, by omega⟩)

theorem codes_piece (x0 : Vec Ideal S256x256 .bf16) (x1 : Vec Ideal S512x1024 .bf16) (x2 : Vec Ideal S512x1024 .i8)
    (t : Fin 2) (c : Fin 4) (o0 o1 o2 : ℕ) (h0 : o0 = 128 * t.val) (h1 : o1 = 256 * t.val) (h2 : o2 = 256 * c.val) (inbO inb) (x : S128x256.Idx) :
    tCodes x0 (View.ld x1 (Rect.unit (s := S512x1024) ![o1, o2] ![256, 256] inb))
        (View.ld x2 (Rect.unit (s := S512x1024) ![o1, o2] ![256, 256] inb)) x
      = codesBlk x0 x1 x2 ((Rect.unit (s := S256x1024) ![o0, o2] ![128, 256] inbO).emb x) := by
  rw [ld_tile x1 t c o1 o2 h1 h2, ld_tile x2 t c o1 o2 h1 h2]
  subst h0 h1 h2
  have b0 : (x 0).val < 128 := (x 0).isLt
  have b1 : (x 1).val < 256 := (x 1).isLt
  have v0 : (((Rect.unit (s := S256x1024) ![128 * t.val, 256 * c.val] ![128, 256] inbO).emb x) 0).val = 128 * t.val + (x 0).val := by blk_simp
  have v1 : (((Rect.unit (s := S256x1024) ![128 * t.val, 256 * c.val] ![128, 256] inbO).emb x) 1).val = 256 * c.val + (x 1).val := by blk_simp
  generalize (Rect.unit (s := S256x1024) ![128 * t.val, 256 * c.val] ![128, 256] inbO).emb x = y at v0 v1
  unfold codesBlk
  have e0 : ∀ h, (⟨(y 0).val / 128, h⟩ : Fin 2) = t := fun h => Fin.ext (by show (y 0).val / 128 = t.val; omega)
  have e1 : ∀ h, (⟨(y 1).val / 256, h⟩ : Fin 4) = c := fun h => Fin.ext (by show (y 1).val / 256 = c.val; omega)
  rw [e0, e1]
  congr 1
  funext a
  fin_cases a
  · exact Fin.ext (by show (x 0).val = (y 0).val % 128; omega)
  · exact Fin.ext (by show (x 1).val = (y 1).val % 256; omega)

/-- the scales of a block, tile by tile -/
def scalesBlk (x0 : Vec Ideal S256x256 .bf16) (x1 : Vec Ideal S512x1024 .bf16) : Vec Ideal S16x1024 .i8 :=
  fun j => tScales x0 (bTile x1 ⟨(j 0).val / 8, by have := (j 0).isLt; change (j 0).val < 16 at this; omega⟩ ⟨(j 1).val / 256, by have := (j 1).isLt; change (j 1).val < 1024 at this; omega⟩)
    (ix2 (n0 := 8) (n1 := 256) ⟨(j 0).val % 8, by omega⟩ ⟨(j 1).val % 256, by omega⟩)

theorem scales_piece (x0 : Vec Ideal S256x256 .bf16) (x1 : Vec Ideal S512x1024 .bf16)
    (t : Fin 2) (c : Fin 4) (o0 o1 o2 : ℕ) (h0 : o0 = 8 * t.val) (h1 : o1 = 256 * t.val) (h2 : o2 = 256 * c.val) (inbO inb) (x : S8x256.Idx) :
    tScales x0 (View.ld x1 (Rect.unit (s := S512x1024) ![o1, o2] ![256, 256] inb)) x
      = scalesBlk x0 x1 ((Rect.unit (s := S16x1024) ![o0, o2] ![8, 256] inbO).emb x) := by
  rw [ld_tile x1 t c o1 o2 h1 h2]
  subst h0 h1 h2
  have b0 : (x 0).val < 8 := (x 0).isLt
  have b1 : (x 1).val < 256 := (x 1).isLt
  have v0 : (((Rect.unit (s := S16x1024) ![8 * t.val, 256 * c.val] ![8, 256] inbO).emb x) 0).val = 8 * t.val + (x 0).val := by blk_simp
  have v1 : (((Rect.unit (s := S16x1024) ![8 * t.val, 256 * c.val] ![8, 256] inbO).emb x) 1).val = 256 * c.val + (x 1).val := by blk_simp
  generalize (Rect.unit (s := S16x1024) ![8 * t.val, 256 * c.val] ![8, 256] inbO).emb x = y at v0 v1
  unfold scalesBlk
  have e0 : ∀ h, (⟨(y 0).val / 8, h⟩ : Fin 2) = t := fun h => Fin.ext (by show (y 0).val / 8 = t.val; omega)
  have e1 : ∀ h, (⟨(y 1).val / 256, h⟩ : Fin 4) = c := fun h => Fin.ext (by show (y 1).val / 256 = c.val; omega)
  rw [e0, e1]
  congr 1
  funext a
  fin_cases a
  · exact Fin.ext (by show (x 0).val = (y 0).val % 8; omega)
  · exact Fin.ext (by show (x 1).val = (y 1).val % 256; omega)

end Cert.KernelIdeal.Value

end

end
-- ==== Proof.Codes.lean ====
/- The codes and the scales a grid point writes, at each of the three kinds of grid point (first of a run, middle, last). -/
module

public import proofs.«01_k».proof.Proof.Block

@[expose] public section

set_option maxRecDepth 16384
set_option maxHeartbeats 2000000

noncomputable section

namespace Cert.KernelIdeal.Value

open Cert.KernelIdeal Cert.KernelIdeal.Gen Idealize.ShloMosaic Idealize.ShloMosaic.TcCoe Idealize.SL.Sem

theorem codes_A (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : cond0_0 i) (hc1 : ¬cond0_1 i)
    (x0 : Vec Ideal S256x256 .bf16) (x1 : Vec Ideal S512x1024 .bf16) (x2 : Vec Ideal S512x1024 .i8) (x3 : Vec Ideal S2560x512 .bf16) :
    out0_A_4 c i arg2 harg2 arg3 harg3 arg4 harg4 arg5 harg5 arg6 harg6 arg7 harg7 arg8 harg8 arg9 harg9 arg10 harg10 hc0 hc1 x0 x1 x2 x3 = codesBlk x0 x1 x2 := by
  frame_out
  funext y
  refine View.canon_apply_of_pieces (codesBlk x0 x1 x2) _ (View.PiecesOf.mem ?_) y ?_
  · exact ⟨fun x => codes_piece x0 x1 x2 1 3 128 256 768 rfl rfl rfl inb_S256x1024_S128x256_128_768 inb_S512x1024_S256x256_256_768 x,
      fun x => codes_piece x0 x1 x2 0 3 0 0 768 rfl rfl rfl inb_S256x1024_S128x256_0_768 inb_S512x1024_S256x256_0_768 x,
      fun x => codes_piece x0 x1 x2 1 2 128 256 512 rfl rfl rfl inb_S256x1024_S128x256_128_512 inb_S512x1024_S256x256_256_512 x,
      fun x => codes_piece x0 x1 x2 0 2 0 0 512 rfl rfl rfl inb_S256x1024_S128x256_0_512 inb_S512x1024_S256x256_0_512 x,
      fun x => codes_piece x0 x1 x2 1 1 128 256 256 rfl rfl rfl inb_S256x1024_S128x256_128_256 inb_S512x1024_S256x256_256_256 x,
      fun x => codes_piece x0 x1 x2 0 1 0 0 256 rfl rfl rfl inb_S256x1024_S128x256_0_256 inb_S512x1024_S256x256_0_256 x,
      fun x => codes_piece x0 x1 x2 1 0 128 256 0 rfl rfl rfl inb_S256x1024_S128x256_128_0 inb_S512x1024_S256x256_256_0 x,
      fun x => codes_piece x0 x1 x2 0 0 0 0 0 rfl rfl rfl inb_S256x1024_S128x256_0_0 inb_S512x1024_S256x256_0_0 x, trivial⟩
  · exact View.cover_of_tiledL (s := S256x1024) _ ![128, 256] (by sl_kernel_rfl) y

theorem scales_A (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : cond0_0 i) (hc1 : ¬cond0_1 i)
    (x0 : Vec Ideal S256x256 .bf16) (x1 : Vec Ideal S512x1024 .bf16) (x2 : Vec Ideal S512x1024 .i8) (x3 : Vec Ideal S2560x512 .bf16) :
    out0_A_5 c i arg2 harg2 arg3 harg3 arg4 harg4 arg5 harg5 arg6 harg6 arg7 harg7 arg8 harg8 arg9 harg9 arg10 harg10 hc0 hc1 x0 x1 x2 x3 = scalesBlk x0 x1 := by
  frame_out
  funext y
  refine View.canon_apply_of_pieces (scalesBlk x0 x1) _ (View.PiecesOf.mem ?_) y ?_
  · exact ⟨fun x => scales_piece x0 x1 1 3 8 256 768 rfl rfl rfl inb_S16x1024_S8x256_8_768 inb_S512x1024_S256x256_256_768 x,
      fun x => scales_piece x0 x1 0 3 0 0 768 rfl rfl rfl inb_S16x1024_S8x256_0_768 inb_S512x1024_S256x256_0_768 x,
      fun x => scales_piece x0 x1 1 2 8 256 512 rfl rfl rfl inb_S16x1024_S8x256_8_512 inb_S512x1024_S256x256_256_512 x,
      fun x => scales_piece x0 x1 0 2 0 0 512 rfl rfl rfl inb_S16x1024_S8x256_0_512 inb_S512x1024_S256x256_0_512 x,
      fun x => scales_piece x0 x1 1 1 8 256 256 rfl rfl rfl inb_S16x1024_S8x256_8_256 inb_S512x1024_S256x256_256_256 x,
      fun x => scales_piece x0 x1 0 1 0 0 256 rfl rfl rfl inb_S16x1024_S8x256_0_256 inb_S512x1024_S256x256_0_256 x,
      fun x => scales_piece x0 x1 1 0 8 256 0 rfl rfl rfl inb_S16x1024_S8x256_8_0 inb_S512x1024_S256x256_256_0 x,
      fun x => scales_piece x0 x1 0 0 0 0 0 rfl rfl rfl inb_S16x1024_S8x256_0_0 inb_S512x1024_S256x256_0_0 x, trivial⟩
  · exact View.cover_of_tiledL (s := S16x1024) _ ![8, 256] (by sl_kernel_rfl) y

theorem codes_B (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : ¬cond0_0 i) (hc1 : ¬cond0_1 i)
    (x0 : Vec Ideal S256x256 .bf16) (x1 : Vec Ideal S512x1024 .bf16) (x2 : Vec Ideal S512x1024 .i8) (x3 : Vec Ideal S2560x512 .bf16) (xs1 : Vec Ideal S2560x1024 .f32) :
    out0_B_4 c i arg2 harg2 arg3 harg3 arg4 harg4 arg5 harg5 arg6 harg6 arg7 harg7 arg8 harg8 arg9 harg9 arg10 harg10 hc0 hc1 x0 x1 x2 x3 xs1 = codesBlk x0 x1 x2 := by
  frame_out
  funext y
  refine View.canon_apply_of_pieces (codesBlk x0 x1 x2) _ (View.PiecesOf.mem ?_) y ?_
  · exact ⟨fun x => codes_piece x0 x1 x2 1 3 128 256 768 rfl rfl rfl inb_S256x1024_S128x256_128_768 inb_S512x1024_S256x256_256_768 x,
      fun x => codes_piece x0 x1 x2 0 3 0 0 768 rfl rfl rfl inb_S256x1024_S128x256_0_768 inb_S512x1024_S256x256_0_768 x,
      fun x => codes_piece x0 x1 x2 1 2 128 256 512 rfl rfl rfl inb_S256x1024_S128x256_128_512 inb_S512x1024_S256x256_256_512 x,
      fun x => codes_piece x0 x1 x2 0 2 0 0 512 rfl rfl rfl inb_S256x1024_S128x256_0_512 inb_S512x1024_S256x256_0_512 x,
      fun x => codes_piece x0 x1 x2 1 1 128 256 256 rfl rfl rfl inb_S256x1024_S128x256_128_256 inb_S512x1024_S256x256_256_256 x,
      fun x => codes_piece x0 x1 x2 0 1 0 0 256 rfl rfl rfl inb_S256x1024_S128x256_0_256 inb_S512x1024_S256x256_0_256 x,
      fun x => codes_piece x0 x1 x2 1 0 128 256 0 rfl rfl rfl inb_S256x1024_S128x256_128_0 inb_S512x1024_S256x256_256_0 x,
      fun x => codes_piece x0 x1 x2 0 0 0 0 0 rfl rfl rfl inb_S256x1024_S128x256_0_0 inb_S512x1024_S256x256_0_0 x, trivial⟩
  · exact View.cover_of_tiledL (s := S256x1024) _ ![128, 256] (by sl_kernel_rfl) y

theorem scales_B (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : ¬cond0_0 i) (hc1 : ¬cond0_1 i)
    (x0 : Vec Ideal S256x256 .bf16) (x1 : Vec Ideal S512x1024 .bf16) (x2 : Vec Ideal S512x1024 .i8) (x3 : Vec Ideal S2560x512 .bf16) (xs1 : Vec Ideal S2560x1024 .f32) :
    out0_B_5 c i arg2 harg2 arg3 harg3 arg4 harg4 arg5 harg5 arg6 harg6 arg7 harg7 arg8 harg8 arg9 harg9 arg10 harg10 hc0 hc1 x0 x1 x2 x3 xs1 = scalesBlk x0 x1 := by
  frame_out
  funext y
  refine View.canon_apply_of_pieces (scalesBlk x0 x1) _ (View.PiecesOf.mem ?_) y ?_
  · exact ⟨fun x => scales_piece x0 x1 1 3 8 256 768 rfl rfl rfl inb_S16x1024_S8x256_8_768 inb_S512x1024_S256x256_256_768 x,
      fun x => scales_piece x0 x1 0 3 0 0 768 rfl rfl rfl inb_S16x1024_S8x256_0_768 inb_S512x1024_S256x256_0_768 x,
      fun x => scales_piece x0 x1 1 2 8 256 512 rfl rfl rfl inb_S16x1024_S8x256_8_512 inb_S512x1024_S256x256_256_512 x,
      fun x => scales_piece x0 x1 0 2 0 0 512 rfl rfl rfl inb_S16x1024_S8x256_0_512 inb_S512x1024_S256x256_0_512 x,
      fun x => scales_piece x0 x1 1 1 8 256 256 rfl rfl rfl inb_S16x1024_S8x256_8_256 inb_S512x1024_S256x256_256_256 x,
      fun x => scales_piece x0 x1 0 1 0 0 256 rfl rfl rfl inb_S16x1024_S8x256_0_256 inb_S512x1024_S256x256_0_256 x,
      fun x => scales_piece x0 x1 1 0 8 256 0 rfl rfl rfl inb_S16x1024_S8x256_8_0 inb_S512x1024_S256x256_256_0 x,
      fun x => scales_piece x0 x1 0 0 0 0 0 rfl rfl rfl inb_S16x1024_S8x256_0_0 inb_S512x1024_S256x256_0_0 x, trivial⟩
  · exact View.cover_of_tiledL (s := S16x1024) _ ![8, 256] (by sl_kernel_rfl) y

theorem codes_C (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : ¬cond0_0 i) (hc1 : cond0_1 i)
    (x0 : Vec Ideal S256x256 .bf16) (x1 : Vec Ideal S512x1024 .bf16) (x2 : Vec Ideal S512x1024 .i8) (x3 : Vec Ideal S2560x512 .bf16) (xs1 : Vec Ideal S2560x1024 .f32) :
    out0_C_4 c i arg2 harg2 arg3 harg3 arg4 harg4 arg5 harg5 arg6 harg6 arg7 harg7 arg8 harg8 arg9 harg9 arg10 harg10 hc0 hc1 x0 x1 x2 x3 xs1 = codesBlk x0 x1 x2 := by
  frame_out
  funext y
  refine View.canon_apply_of_pieces (codesBlk x0 x1 x2) _ (View.PiecesOf.mem ?_) y ?_
  · exact ⟨fun x => codes_piece x0 x1 x2 1 3 128 256 768 rfl rfl rfl inb_S256x1024_S128x256_128_768 inb_S512x1024_S256x256_256_768 x,
      fun x => codes_piece x0 x1 x2 0 3 0 0 768 rfl rfl rfl inb_S256x1024_S128x256_0_768 inb_S512x1024_S256x256_0_768 x,
      fun x => codes_piece x0 x1 x2 1 2 128 256 512 rfl rfl rfl inb_S256x1024_S128x256_128_512 inb_S512x1024_S256x256_256_512 x,
      fun x => codes_piece x0 x1 x2 0 2 0 0 512 rfl rfl rfl inb_S256x1024_S128x256_0_512 inb_S512x1024_S256x256_0_512 x,
      fun x => codes_piece x0 x1 x2 1 1 128 256 256 rfl rfl rfl inb_S256x1024_S128x256_128_256 inb_S512x1024_S256x256_256_256 x,
      fun x => codes_piece x0 x1 x2 0 1 0 0 256 rfl rfl rfl inb_S256x1024_S128x256_0_256 inb_S512x1024_S256x256_0_256 x,
      fun x => codes_piece x0 x1 x2 1 0 128 256 0 rfl rfl rfl inb_S256x1024_S128x256_128_0 inb_S512x1024_S256x256_256_0 x,
      fun x => codes_piece x0 x1 x2 0 0 0 0 0 rfl rfl rfl inb_S256x1024_S128x256_0_0 inb_S512x1024_S256x256_0_0 x, trivial⟩
  · exact View.cover_of_tiledL (s := S256x1024) _ ![128, 256] (by sl_kernel_rfl) y

theorem scales_C (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : ¬cond0_0 i) (hc1 : cond0_1 i)
    (x0 : Vec Ideal S256x256 .bf16) (x1 : Vec Ideal S512x1024 .bf16) (x2 : Vec Ideal S512x1024 .i8) (x3 : Vec Ideal S2560x512 .bf16) (xs1 : Vec Ideal S2560x1024 .f32) :
    out0_C_5 c i arg2 harg2 arg3 harg3 arg4 harg4 arg5 harg5 arg6 harg6 arg7 harg7 arg8 harg8 arg9 harg9 arg10 harg10 hc0 hc1 x0 x1 x2 x3 xs1 = scalesBlk x0 x1 := by
  frame_out
  funext y
  refine View.canon_apply_of_pieces (scalesBlk x0 x1) _ (View.PiecesOf.mem ?_) y ?_
  · exact ⟨fun x => scales_piece x0 x1 1 3 8 256 768 rfl rfl rfl inb_S16x1024_S8x256_8_768 inb_S512x1024_S256x256_256_768 x,
      fun x => scales_piece x0 x1 0 3 0 0 768 rfl rfl rfl inb_S16x1024_S8x256_0_768 inb_S512x1024_S256x256_0_768 x,
      fun x => scales_piece x0 x1 1 2 8 256 512 rfl rfl rfl inb_S16x1024_S8x256_8_512 inb_S512x1024_S256x256_256_512 x,
      fun x => scales_piece x0 x1 0 2 0 0 512 rfl rfl rfl inb_S16x1024_S8x256_0_512 inb_S512x1024_S256x256_0_512 x,
      fun x => scales_piece x0 x1 1 1 8 256 256 rfl rfl rfl inb_S16x1024_S8x256_8_256 inb_S512x1024_S256x256_256_256 x,
      fun x => scales_piece x0 x1 0 1 0 0 256 rfl rfl rfl inb_S16x1024_S8x256_0_256 inb_S512x1024_S256x256_0_256 x,
      fun x => scales_piece x0 x1 1 0 8 256 0 rfl rfl rfl inb_S16x1024_S8x256_8_0 inb_S512x1024_S256x256_256_0 x,
      fun x => scales_piece x0 x1 0 0 0 0 0 rfl rfl rfl inb_S16x1024_S8x256_0_0 inb_S512x1024_S256x256_0_0 x, trivial⟩
  · exact View.cover_of_tiledL (s := S16x1024) _ ![8, 256] (by sl_kernel_rfl) y

end Cert.KernelIdeal.Value

end

end
-- ==== Proof.AccA.lean ====
/- The accumulator a grid point leaves, at the first point of a run. -/
module

public import proofs.«01_k».proof.Proof.Block

@[expose] public section

set_option maxRecDepth 16384
set_option maxHeartbeats 2000000

noncomputable section

namespace Cert.KernelIdeal.Value

open Cert.KernelIdeal Cert.KernelIdeal.Gen Idealize.ShloMosaic Idealize.ShloMosaic.TcCoe Idealize.SL.Sem

theorem acc_A (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : cond0_0 i) (hc1 : ¬cond0_1 i)
    (x0 : Vec Ideal S256x256 .bf16) (x1 : Vec Ideal S512x1024 .bf16) (x2 : Vec Ideal S512x1024 .i8) (x3 : Vec Ideal S2560x512 .bf16) :
    sout0_A_1 c i arg2 harg2 arg3 harg3 arg4 harg4 arg5 harg5 arg6 harg6 arg7 harg7 arg8 harg8 arg9 harg9 arg10 harg10 hc0 hc1 x0 x1 x2 x3 = stepAcc (k0_pay44 (F := Ideal)) x0 x1 x2 x3 := by
  frame_open
  simp (disch := decide) only [↓ View.readCov_skip, ↓ View.readCov_cons_toLoadRect, ↓ View.readCov_fill]
  frame_out
  funext y
  refine (congrFun (congrArg View.canon (List.take_append_drop 40 _).symm) y).trans ?_
  refine View.canon_append_of_piecesOf (stepAcc (k0_pay44 (F := Ideal)) x0 x1 x2 x3) _ _ ?_ y ?_
  · exact ⟨fun x => acc_piece (k0_pay44 (F := Ideal)) x0 x1 x2 x3 _ 3 2304 768 rfl _ _ _ _ _ _ x,
      fun x => acc_piece (k0_pay44 (F := Ideal)) x0 x1 x2 x3 _ 3 2048 768 rfl _ _ _ _ _ _ x,
      fun x => acc_piece (k0_pay44 (F := Ideal)) x0 x1 x2 x3 _ 3 1792 768 rfl _ _ _ _ _ _ x,
      fun x => acc_piece (k0_pay44 (F := Ideal)) x0 x1 x2 x3 _ 3 1536 768 rfl _ _ _ _ _ _ x,
      fun x => acc_piece (k0_pay44 (F := Ideal)) x0 x1 x2 x3 _ 3 1280 768 rfl _ _ _ _ _ _ x,
      fun x => acc_piece (k0_pay44 (F := Ideal)) x0 x1 x2 x3 _ 3 1024 768 rfl _ _ _ _ _ _ x,
      fun x => acc_piece (k0_pay44 (F := Ideal)) x0 x1 x2 x3 _ 3 768 768 rfl _ _ _ _ _ _ x,
      fun x => acc_piece (k0_pay44 (F := Ideal)) x0 x1 x2 x3 _ 3 512 768 rfl _ _ _ _ _ _ x,
      fun x => acc_piece (k0_pay44 (F := Ideal)) x0 x1 x2 x3 _ 3 256 768 rfl _ _ _ _ _ _ x,
      fun x => acc_piece (k0_pay44 (F := Ideal)) x0 x1 x2 x3 _ 3 0 768 rfl _ _ _ _ _ _ x,
      fun x => acc_piece (k0_pay44 (F := Ideal)) x0 x1 x2 x3 _ 2 2304 512 rfl _ _ _ _ _ _ x,
      fun x => acc_piece (k0_pay44 (F := Ideal)) x0 x1 x2 x3 _ 2 2048 512 rfl _ _ _ _ _ _ x,
      fun x => acc_piece (k0_pay44 (F := Ideal)) x0 x1 x2 x3 _ 2 1792 512 rfl _ _ _ _ _ _ x,
      fun x => acc_piece (k0_pay44 (F := Ideal)) x0 x1 x2 x3 _ 2 1536 512 rfl _ _ _ _ _ _ x,
      fun x => acc_piece (k0_pay44 (F := Ideal)) x0 x1 x2 x3 _ 2 1280 512 rfl _ _ _ _ _ _ x,
      fun x => acc_piece (k0_pay44 (F := Ideal)) x0 x1 x2 x3 _ 2 1024 512 rfl _ _ _ _ _ _ x,
      fun x => acc_piece (k0_pay44 (F := Ideal)) x0 x1 x2 x3 _ 2 768 512 rfl _ _ _ _ _ _ x,
      fun x => acc_piece (k0_pay44 (F := Ideal)) x0 x1 x2 x3 _ 2 512 512 rfl _ _ _ _ _ _ x,
      fun x => acc_piece (k0_pay44 (F := Ideal)) x0 x1 x2 x3 _ 2 256 512 rfl _ _ _ _ _ _ x,
      fun x => acc_piece (k0_pay44 (F := Ideal)) x0 x1 x2 x3 _ 2 0 512 rfl _ _ _ _ _ _ x,
      fun x => acc_piece (k0_pay44 (F := Ideal)) x0 x1 x2 x3 _ 1 2304 256 rfl _ _ _ _ _ _ x,
      fun x => acc_piece (k0_pay44 (F := Ideal)) x0 x1 x2 x3 _ 1 2048 256 rfl _ _ _ _ _ _ x,
      fun x => acc_piece (k0_pay44 (F := Ideal)) x0 x1 x2 x3 _ 1 1792 256 rfl _ _ _ _ _ _ x,
      fun x => acc_piece (k0_pay44 (F := Ideal)) x0 x1 x2 x3 _ 1 1536 256 rfl _ _ _ _ _ _ x,
      fun x => acc_piece (k0_pay44 (F := Ideal)) x0 x1 x2 x3 _ 1 1280 256 rfl _ _ _ _ _ _ x,
      fun x => acc_piece (k0_pay44 (F := Ideal)) x0 x1 x2 x3 _ 1 1024 256 rfl _ _ _ _ _ _ x,
      fun x => acc_piece (k0_pay44 (F := Ideal)) x0 x1 x2 x3 _ 1 768 256 rfl _ _ _ _ _ _ x,
      fun x => acc_piece (k0_pay44 (F := Ideal)) x0 x1 x2 x3 _ 1 512 256 rfl _ _ _ _ _ _ x,
      fun x => acc_piece (k0_pay44 (F := Ideal)) x0 x1 x2 x3 _ 1 256 256 rfl _ _ _ _ _ _ x,
      fun x => acc_piece (k0_pay44 (F := Ideal)) x0 x1 x2 x3 _ 1 0 256 rfl _ _ _ _ _ _ x,
      fun x => acc_piece (k0_pay44 (F := Ideal)) x0 x1 x2 x3 _ 0 2304 0 rfl _ _ _ _ _ _ x,
      fun x => acc_piece (k0_pay44 (F := Ideal)) x0 x1 x2 x3 _ 0 2048 0 rfl _ _ _ _ _ _ x,
      fun x => acc_piece (k0_pay44 (F := Ideal)) x0 x1 x2 x3 _ 0 1792 0 rfl _ _ _ _ _ _ x,
      fun x => acc_piece (k0_pay44 (F := Ideal)) x0 x1 x2 x3 _ 0 1536 0 rfl _ _ _ _ _ _ x,
      fun x => acc_piece (k0_pay44 (F := Ideal)) x0 x1 x2 x3 _ 0 1280 0 rfl _ _ _ _ _ _ x,
      fun x => acc_piece (k0_pay44 (F := Ideal)) x0 x1 x2 x3 _ 0 1024 0 rfl _ _ _ _ _ _ x,
      fun x => acc_piece (k0_pay44 (F := Ideal)) x0 x1 x2 x3 _ 0 768 0 rfl _ _ _ _ _ _ x,
      fun x => acc_piece (k0_pay44 (F := Ideal)) x0 x1 x2 x3 _ 0 512 0 rfl _ _ _ _ _ _ x,
      fun x => acc_piece (k0_pay44 (F := Ideal)) x0 x1 x2 x3 _ 0 256 0 rfl _ _ _ _ _ _ x,
      fun x => acc_piece (k0_pay44 (F := Ideal)) x0 x1 x2 x3 _ 0 0 0 rfl _ _ _ _ _ _ x, trivial⟩
  · exact View.cover_of_tiledL (s := S2560x1024) _ ![256, 256] (by sl_kernel_rfl) y

end Cert.KernelIdeal.Value

end

end
-- ==== Proof.AccB.lean ====
/- The accumulator a grid point leaves, at the middle point of a run. -/
module

public import proofs.«01_k».proof.Proof.Block

@[expose] public section

set_option maxRecDepth 16384
set_option maxHeartbeats 2000000

noncomputable section

namespace Cert.KernelIdeal.Value

open Cert.KernelIdeal Cert.KernelIdeal.Gen Idealize.ShloMosaic Idealize.ShloMosaic.TcCoe Idealize.SL.Sem

theorem acc_B (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : ¬cond0_0 i) (hc1 : ¬cond0_1 i)
    (x0 : Vec Ideal S256x256 .bf16) (x1 : Vec Ideal S512x1024 .bf16) (x2 : Vec Ideal S512x1024 .i8) (x3 : Vec Ideal S2560x512 .bf16) (xs1 : Vec Ideal S2560x1024 .f32) :
    sout0_B_1 c i arg2 harg2 arg3 harg3 arg4 harg4 arg5 harg5 arg6 harg6 arg7 harg7 arg8 harg8 arg9 harg9 arg10 harg10 hc0 hc1 x0 x1 x2 x3 xs1 = stepAcc xs1 x0 x1 x2 x3 := by
  frame_open
  simp (disch := decide) only [↓ View.readCov_skip, ↓ View.readCov_cons_toLoadRect, ↓ View.readCov_fill]
  frame_out
  funext y
  refine View.canon_apply_of_pieces (stepAcc xs1 x0 x1 x2 x3) _ (View.PiecesOf.mem ?_) y ?_
  · exact ⟨fun x => acc_piece xs1 x0 x1 x2 x3 _ 3 2304 768 rfl _ _ _ _ _ _ x,
      fun x => acc_piece xs1 x0 x1 x2 x3 _ 3 2048 768 rfl _ _ _ _ _ _ x,
      fun x => acc_piece xs1 x0 x1 x2 x3 _ 3 1792 768 rfl _ _ _ _ _ _ x,
      fun x => acc_piece xs1 x0 x1 x2 x3 _ 3 1536 768 rfl _ _ _ _ _ _ x,
      fun x => acc_piece xs1 x0 x1 x2 x3 _ 3 1280 768 rfl _ _ _ _ _ _ x,
      fun x => acc_piece xs1 x0 x1 x2 x3 _ 3 1024 768 rfl _ _ _ _ _ _ x,
      fun x => acc_piece xs1 x0 x1 x2 x3 _ 3 768 768 rfl _ _ _ _ _ _ x,
      fun x => acc_piece xs1 x0 x1 x2 x3 _ 3 512 768 rfl _ _ _ _ _ _ x,
      fun x => acc_piece xs1 x0 x1 x2 x3 _ 3 256 768 rfl _ _ _ _ _ _ x,
      fun x => acc_piece xs1 x0 x1 x2 x3 _ 3 0 768 rfl _ _ _ _ _ _ x,
      fun x => acc_piece xs1 x0 x1 x2 x3 _ 2 2304 512 rfl _ _ _ _ _ _ x,
      fun x => acc_piece xs1 x0 x1 x2 x3 _ 2 2048 512 rfl _ _ _ _ _ _ x,
      fun x => acc_piece xs1 x0 x1 x2 x3 _ 2 1792 512 rfl _ _ _ _ _ _ x,
      fun x => acc_piece xs1 x0 x1 x2 x3 _ 2 1536 512 rfl _ _ _ _ _ _ x,
      fun x => acc_piece xs1 x0 x1 x2 x3 _ 2 1280 512 rfl _ _ _ _ _ _ x,
      fun x => acc_piece xs1 x0 x1 x2 x3 _ 2 1024 512 rfl _ _ _ _ _ _ x,
      fun x => acc_piece xs1 x0 x1 x2 x3 _ 2 768 512 rfl _ _ _ _ _ _ x,
      fun x => acc_piece xs1 x0 x1 x2 x3 _ 2 512 512 rfl _ _ _ _ _ _ x,
      fun x => acc_piece xs1 x0 x1 x2 x3 _ 2 256 512 rfl _ _ _ _ _ _ x,
      fun x => acc_piece xs1 x0 x1 x2 x3 _ 2 0 512 rfl _ _ _ _ _ _ x,
      fun x => acc_piece xs1 x0 x1 x2 x3 _ 1 2304 256 rfl _ _ _ _ _ _ x,
      fun x => acc_piece xs1 x0 x1 x2 x3 _ 1 2048 256 rfl _ _ _ _ _ _ x,
      fun x => acc_piece xs1 x0 x1 x2 x3 _ 1 1792 256 rfl _ _ _ _ _ _ x,
      fun x => acc_piece xs1 x0 x1 x2 x3 _ 1 1536 256 rfl _ _ _ _ _ _ x,
      fun x => acc_piece xs1 x0 x1 x2 x3 _ 1 1280 256 rfl _ _ _ _ _ _ x,
      fun x => acc_piece xs1 x0 x1 x2 x3 _ 1 1024 256 rfl _ _ _ _ _ _ x,
      fun x => acc_piece xs1 x0 x1 x2 x3 _ 1 768 256 rfl _ _ _ _ _ _ x,
      fun x => acc_piece xs1 x0 x1 x2 x3 _ 1 512 256 rfl _ _ _ _ _ _ x,
      fun x => acc_piece xs1 x0 x1 x2 x3 _ 1 256 256 rfl _ _ _ _ _ _ x,
      fun x => acc_piece xs1 x0 x1 x2 x3 _ 1 0 256 rfl _ _ _ _ _ _ x,
      fun x => acc_piece xs1 x0 x1 x2 x3 _ 0 2304 0 rfl _ _ _ _ _ _ x,
      fun x => acc_piece xs1 x0 x1 x2 x3 _ 0 2048 0 rfl _ _ _ _ _ _ x,
      fun x => acc_piece xs1 x0 x1 x2 x3 _ 0 1792 0 rfl _ _ _ _ _ _ x,
      fun x => acc_piece xs1 x0 x1 x2 x3 _ 0 1536 0 rfl _ _ _ _ _ _ x,
      fun x => acc_piece xs1 x0 x1 x2 x3 _ 0 1280 0 rfl _ _ _ _ _ _ x,
      fun x => acc_piece xs1 x0 x1 x2 x3 _ 0 1024 0 rfl _ _ _ _ _ _ x,
      fun x => acc_piece xs1 x0 x1 x2 x3 _ 0 768 0 rfl _ _ _ _ _ _ x,
      fun x => acc_piece xs1 x0 x1 x2 x3 _ 0 512 0 rfl _ _ _ _ _ _ x,
      fun x => acc_piece xs1 x0 x1 x2 x3 _ 0 256 0 rfl _ _ _ _ _ _ x,
      fun x => acc_piece xs1 x0 x1 x2 x3 _ 0 0 0 rfl _ _ _ _ _ _ x, trivial⟩
  · exact View.cover_of_tiledL (s := S2560x1024) _ ![256, 256] (by sl_kernel_rfl) y

end Cert.KernelIdeal.Value

end

end
-- ==== Proof.AccC.lean ====
/- The accumulator a grid point leaves, at the last point of a run. -/
module

public import proofs.«01_k».proof.Proof.Block

@[expose] public section

set_option maxRecDepth 16384
set_option maxHeartbeats 2000000

noncomputable section

namespace Cert.KernelIdeal.Value

open Cert.KernelIdeal Cert.KernelIdeal.Gen Idealize.ShloMosaic Idealize.ShloMosaic.TcCoe Idealize.SL.Sem

theorem acc_C (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : ¬cond0_0 i) (hc1 : cond0_1 i)
    (x0 : Vec Ideal S256x256 .bf16) (x1 : Vec Ideal S512x1024 .bf16) (x2 : Vec Ideal S512x1024 .i8) (x3 : Vec Ideal S2560x512 .bf16) (xs1 : Vec Ideal S2560x1024 .f32) :
    sout0_C_1 c i arg2 harg2 arg3 harg3 arg4 harg4 arg5 harg5 arg6 harg6 arg7 harg7 arg8 harg8 arg9 harg9 arg10 harg10 hc0 hc1 x0 x1 x2 x3 xs1 = stepAcc xs1 x0 x1 x2 x3 := by
  frame_open
  simp (disch := decide) only [↓ View.readCov_skip, ↓ View.readCov_cons_toLoadRect, ↓ View.readCov_fill]
  frame_out
  funext y
  refine View.canon_apply_of_pieces (stepAcc xs1 x0 x1 x2 x3) _ (View.PiecesOf.mem ?_) y ?_
  · exact ⟨fun x => acc_piece xs1 x0 x1 x2 x3 _ 3 2304 768 rfl _ _ _ _ _ _ x,
      fun x => acc_piece xs1 x0 x1 x2 x3 _ 3 2048 768 rfl _ _ _ _ _ _ x,
      fun x => acc_piece xs1 x0 x1 x2 x3 _ 3 1792 768 rfl _ _ _ _ _ _ x,
      fun x => acc_piece xs1 x0 x1 x2 x3 _ 3 1536 768 rfl _ _ _ _ _ _ x,
      fun x => acc_piece xs1 x0 x1 x2 x3 _ 3 1280 768 rfl _ _ _ _ _ _ x,
      fun x => acc_piece xs1 x0 x1 x2 x3 _ 3 1024 768 rfl _ _ _ _ _ _ x,
      fun x => acc_piece xs1 x0 x1 x2 x3 _ 3 768 768 rfl _ _ _ _ _ _ x,
      fun x => acc_piece xs1 x0 x1 x2 x3 _ 3 512 768 rfl _ _ _ _ _ _ x,
      fun x => acc_piece xs1 x0 x1 x2 x3 _ 3 256 768 rfl _ _ _ _ _ _ x,
      fun x => acc_piece xs1 x0 x1 x2 x3 _ 3 0 768 rfl _ _ _ _ _ _ x,
      fun x => acc_piece xs1 x0 x1 x2 x3 _ 2 2304 512 rfl _ _ _ _ _ _ x,
      fun x => acc_piece xs1 x0 x1 x2 x3 _ 2 2048 512 rfl _ _ _ _ _ _ x,
      fun x => acc_piece xs1 x0 x1 x2 x3 _ 2 1792 512 rfl _ _ _ _ _ _ x,
      fun x => acc_piece xs1 x0 x1 x2 x3 _ 2 1536 512 rfl _ _ _ _ _ _ x,
      fun x => acc_piece xs1 x0 x1 x2 x3 _ 2 1280 512 rfl _ _ _ _ _ _ x,
      fun x => acc_piece xs1 x0 x1 x2 x3 _ 2 1024 512 rfl _ _ _ _ _ _ x,
      fun x => acc_piece xs1 x0 x1 x2 x3 _ 2 768 512 rfl _ _ _ _ _ _ x,
      fun x => acc_piece xs1 x0 x1 x2 x3 _ 2 512 512 rfl _ _ _ _ _ _ x,
      fun x => acc_piece xs1 x0 x1 x2 x3 _ 2 256 512 rfl _ _ _ _ _ _ x,
      fun x => acc_piece xs1 x0 x1 x2 x3 _ 2 0 512 rfl _ _ _ _ _ _ x,
      fun x => acc_piece xs1 x0 x1 x2 x3 _ 1 2304 256 rfl _ _ _ _ _ _ x,
      fun x => acc_piece xs1 x0 x1 x2 x3 _ 1 2048 256 rfl _ _ _ _ _ _ x,
      fun x => acc_piece xs1 x0 x1 x2 x3 _ 1 1792 256 rfl _ _ _ _ _ _ x,
      fun x => acc_piece xs1 x0 x1 x2 x3 _ 1 1536 256 rfl _ _ _ _ _ _ x,
      fun x => acc_piece xs1 x0 x1 x2 x3 _ 1 1280 256 rfl _ _ _ _ _ _ x,
      fun x => acc_piece xs1 x0 x1 x2 x3 _ 1 1024 256 rfl _ _ _ _ _ _ x,
      fun x => acc_piece xs1 x0 x1 x2 x3 _ 1 768 256 rfl _ _ _ _ _ _ x,
      fun x => acc_piece xs1 x0 x1 x2 x3 _ 1 512 256 rfl _ _ _ _ _ _ x,
      fun x => acc_piece xs1 x0 x1 x2 x3 _ 1 256 256 rfl _ _ _ _ _ _ x,
      fun x => acc_piece xs1 x0 x1 x2 x3 _ 1 0 256 rfl _ _ _ _ _ _ x,
      fun x => acc_piece xs1 x0 x1 x2 x3 _ 0 2304 0 rfl _ _ _ _ _ _ x,
      fun x => acc_piece xs1 x0 x1 x2 x3 _ 0 2048 0 rfl _ _ _ _ _ _ x,
      fun x => acc_piece xs1 x0 x1 x2 x3 _ 0 1792 0 rfl _ _ _ _ _ _ x,
      fun x => acc_piece xs1 x0 x1 x2 x3 _ 0 1536 0 rfl _ _ _ _ _ _ x,
      fun x => acc_piece xs1 x0 x1 x2 x3 _ 0 1280 0 rfl _ _ _ _ _ _ x,
      fun x => acc_piece xs1 x0 x1 x2 x3 _ 0 1024 0 rfl _ _ _ _ _ _ x,
      fun x => acc_piece xs1 x0 x1 x2 x3 _ 0 768 0 rfl _ _ _ _ _ _ x,
      fun x => acc_piece xs1 x0 x1 x2 x3 _ 0 512 0 rfl _ _ _ _ _ _ x,
      fun x => acc_piece xs1 x0 x1 x2 x3 _ 0 256 0 rfl _ _ _ _ _ _ x,
      fun x => acc_piece xs1 x0 x1 x2 x3 _ 0 0 0 rfl _ _ _ _ _ _ x, trivial⟩
  · exact View.cover_of_tiledL (s := S2560x1024) _ ![256, 256] (by sl_kernel_rfl) y

end Cert.KernelIdeal.Value

end

end
-- ==== Proof.DwC.lean ====
/- The result the last point of a run writes: the transpose of its accumulator. -/
module

public import proofs.«01_k».proof.Proof.Block

@[expose] public section

set_option maxRecDepth 16384
set_option maxHeartbeats 2000000

noncomputable section

namespace Cert.KernelIdeal.Value

open Cert.KernelIdeal Cert.KernelIdeal.Gen Idealize.ShloMosaic Idealize.ShloMosaic.TcCoe Idealize.SL.Sem

theorem dw_C (c : Dev nD) (i : grid0.Coords) (arg2 : Memref sig .tc .vmem S256x256 .bf16) (harg2 : arg2.IsWhole) (arg3 : Memref sig .tc .vmem S512x1024 .bf16) (harg3 : arg3.IsWhole) (arg4 : Memref sig .tc .vmem S512x1024 .i8) (harg4 : arg4.IsWhole) (arg5 : Memref sig .tc .vmem S2560x512 .bf16) (harg5 : arg5.IsWhole) (arg6 : Memref sig .tc .vmem S256x1024 .i8) (harg6 : arg6.IsWhole) (arg7 : Memref sig .tc .vmem S16x1024 .i8) (harg7 : arg7.IsWhole) (arg8 : Memref sig .tc .vmem S1024x2560 .f32) (harg8 : arg8.IsWhole) (arg9 : Memref sig .tc .vmem S512x1024 .bf16) (harg9 : arg9.IsWhole) (arg10 : Memref sig .tc .vmem S2560x1024 .f32) (harg10 : arg10.IsWhole) (hc0 : ¬cond0_0 i) (hc1 : cond0_1 i)
    (x0 : Vec Ideal S256x256 .bf16) (x1 : Vec Ideal S512x1024 .bf16) (x2 : Vec Ideal S512x1024 .i8) (x3 : Vec Ideal S2560x512 .bf16) (xs1 : Vec Ideal S2560x1024 .f32) :
    out0_C_6 c i arg2 harg2 arg3 harg3 arg4 harg4 arg5 harg5 arg6 harg6 arg7 harg7 arg8 harg8 arg9 harg9 arg10 harg10 hc0 hc1 x0 x1 x2 x3 xs1 = fun y : S1024x2560.Idx => stepAcc xs1 x0 x1 x2 x3 (ix2 (n0 := 2560) (n1 := 1024) ⟨(y 1).val, (y 1).isLt⟩ ⟨(y 0).val, (y 0).isLt⟩) := by
  frame_open
  simp (disch := decide) only [↓ View.readCov_skip, ↓ View.readCov_cons_toLoadRect, ↓ View.readCov_fill]
  frame_out
  funext y
  refine View.canon_apply_of_pieces (fun y : S1024x2560.Idx => stepAcc xs1 x0 x1 x2 x3 (ix2 (n0 := 2560) (n1 := 1024) ⟨(y 1).val, (y 1).isLt⟩ ⟨(y 0).val, (y 0).isLt⟩)) _ (View.PiecesOf.mem (G := fun y : S1024x2560.Idx => stepAcc xs1 x0 x1 x2 x3 (ix2 (n0 := 2560) (n1 := 1024) ⟨(y 1).val, (y 1).isLt⟩ ⟨(y 0).val, (y 0).isLt⟩)) ?_) y ?_
  · exact ⟨fun x => dw_piece xs1 x0 x1 x2 x3 _ 3 2304 768 rfl inb_S1024x2560_S256x256_768_2304 _ _ _ _ _ _ x,
      fun x => dw_piece xs1 x0 x1 x2 x3 _ 2 2304 512 rfl inb_S1024x2560_S256x256_512_2304 _ _ _ _ _ _ x,
      fun x => dw_piece xs1 x0 x1 x2 x3 _ 1 2304 256 rfl inb_S1024x2560_S256x256_256_2304 _ _ _ _ _ _ x,
      fun x => dw_piece xs1 x0 x1 x2 x3 _ 0 2304 0 rfl inb_S1024x2560_S256x256_0_2304 _ _ _ _ _ _ x,
      fun x => dw_piece xs1 x0 x1 x2 x3 _ 3 2048 768 rfl inb_S1024x2560_S256x256_768_2048 _ _ _ _ _ _ x,
      fun x => dw_piece xs1 x0 x1 x2 x3 _ 2 2048 512 rfl inb_S1024x2560_S256x256_512_2048 _ _ _ _ _ _ x,
      fun x => dw_piece xs1 x0 x1 x2 x3 _ 1 2048 256 rfl inb_S1024x2560_S256x256_256_2048 _ _ _ _ _ _ x,
      fun x => dw_piece xs1 x0 x1 x2 x3 _ 0 2048 0 rfl inb_S1024x2560_S256x256_0_2048 _ _ _ _ _ _ x,
      fun x => dw_piece xs1 x0 x1 x2 x3 _ 3 1792 768 rfl inb_S1024x2560_S256x256_768_1792 _ _ _ _ _ _ x,
      fun x => dw_piece xs1 x0 x1 x2 x3 _ 2 1792 512 rfl inb_S1024x2560_S256x256_512_1792 _ _ _ _ _ _ x,
      fun x => dw_piece xs1 x0 x1 x2 x3 _ 1 1792 256 rfl inb_S1024x2560_S256x256_256_1792 _ _ _ _ _ _ x,
      fun x => dw_piece xs1 x0 x1 x2 x3 _ 0 1792 0 rfl inb_S1024x2560_S256x256_0_1792 _ _ _ _ _ _ x,
      fun x => dw_piece xs1 x0 x1 x2 x3 _ 3 1536 768 rfl inb_S1024x2560_S256x256_768_1536 _ _ _ _ _ _ x,
      fun x => dw_piece xs1 x0 x1 x2 x3 _ 2 1536 512 rfl inb_S1024x2560_S256x256_512_1536 _ _ _ _ _ _ x,
      fun x => dw_piece xs1 x0 x1 x2 x3 _ 1 1536 256 rfl inb_S1024x2560_S256x256_256_1536 _ _ _ _ _ _ x,
      fun x => dw_piece xs1 x0 x1 x2 x3 _ 0 1536 0 rfl inb_S1024x2560_S256x256_0_1536 _ _ _ _ _ _ x,
      fun x => dw_piece xs1 x0 x1 x2 x3 _ 3 1280 768 rfl inb_S1024x2560_S256x256_768_1280 _ _ _ _ _ _ x,
      fun x => dw_piece xs1 x0 x1 x2 x3 _ 2 1280 512 rfl inb_S1024x2560_S256x256_512_1280 _ _ _ _ _ _ x,
      fun x => dw_piece xs1 x0 x1 x2 x3 _ 1 1280 256 rfl inb_S1024x2560_S256x256_256_1280 _ _ _ _ _ _ x,
      fun x => dw_piece xs1 x0 x1 x2 x3 _ 0 1280 0 rfl inb_S1024x2560_S256x256_0_1280 _ _ _ _ _ _ x,
      fun x => dw_piece xs1 x0 x1 x2 x3 _ 3 1024 768 rfl inb_S1024x2560_S256x256_768_1024 _ _ _ _ _ _ x,
      fun x => dw_piece xs1 x0 x1 x2 x3 _ 2 1024 512 rfl inb_S1024x2560_S256x256_512_1024 _ _ _ _ _ _ x,
      fun x => dw_piece xs1 x0 x1 x2 x3 _ 1 1024 256 rfl inb_S1024x2560_S256x256_256_1024 _ _ _ _ _ _ x,
      fun x => dw_piece xs1 x0 x1 x2 x3 _ 0 1024 0 rfl inb_S1024x2560_S256x256_0_1024 _ _ _ _ _ _ x,
      fun x => dw_piece xs1 x0 x1 x2 x3 _ 3 768 768 rfl inb_S1024x2560_S256x256_768_768 _ _ _ _ _ _ x,
      fun x => dw_piece xs1 x0 x1 x2 x3 _ 2 768 512 rfl inb_S1024x2560_S256x256_512_768 _ _ _ _ _ _ x,
      fun x => dw_piece xs1 x0 x1 x2 x3 _ 1 768 256 rfl inb_S1024x2560_S256x256_256_768 _ _ _ _ _ _ x,
      fun x => dw_piece xs1 x0 x1 x2 x3 _ 0 768 0 rfl inb_S1024x2560_S256x256_0_768 _ _ _ _ _ _ x,
      fun x => dw_piece xs1 x0 x1 x2 x3 _ 3 512 768 rfl inb_S1024x2560_S256x256_768_512 _ _ _ _ _ _ x,
      fun x => dw_piece xs1 x0 x1 x2 x3 _ 2 512 512 rfl inb_S1024x2560_S256x256_512_512 _ _ _ _ _ _ x,
      fun x => dw_piece xs1 x0 x1 x2 x3 _ 1 512 256 rfl inb_S1024x2560_S256x256_256_512 _ _ _ _ _ _ x,
      fun x => dw_piece xs1 x0 x1 x2 x3 _ 0 512 0 rfl inb_S1024x2560_S256x256_0_512 _ _ _ _ _ _ x,
      fun x => dw_piece xs1 x0 x1 x2 x3 _ 3 256 768 rfl inb_S1024x2560_S256x256_768_256 _ _ _ _ _ _ x,
      fun x => dw_piece xs1 x0 x1 x2 x3 _ 2 256 512 rfl inb_S1024x2560_S256x256_512_256 _ _ _ _ _ _ x,
      fun x => dw_piece xs1 x0 x1 x2 x3 _ 1 256 256 rfl inb_S1024x2560_S256x256_256_256 _ _ _ _ _ _ x,
      fun x => dw_piece xs1 x0 x1 x2 x3 _ 0 256 0 rfl inb_S1024x2560_S256x256_0_256 _ _ _ _ _ _ x,
      fun x => dw_piece xs1 x0 x1 x2 x3 _ 3 0 768 rfl inb_S1024x2560_S256x256_768_0 _ _ _ _ _ _ x,
      fun x => dw_piece xs1 x0 x1 x2 x3 _ 2 0 512 rfl inb_S1024x2560_S256x256_512_0 _ _ _ _ _ _ x,
      fun x => dw_piece xs1 x0 x1 x2 x3 _ 1 0 256 rfl inb_S1024x2560_S256x256_256_0 _ _ _ _ _ _ x,
      fun x => dw_piece xs1 x0 x1 x2 x3 _ 0 0 0 rfl inb_S1024x2560_S256x256_0_0 _ _ _ _ _ _ x, trivial⟩
  · exact View.cover_of_tiledL (s := S1024x2560) _ ![256, 256] (by sl_kernel_rfl) y

end Cert.KernelIdeal.Value

end

end
-- ==== Proof.Arrays.lean ====
/- The three results of the kernel as functions of its four operands' whole arrays: the bytes of codes and of scales tile by
   tile, and the product of the transposed activations with the values read back, summed over all tokens. -/
module

public import proofs.«01_k».proof.Proof.Codes
public import proofs.«01_k».proof.Proof.AccA
public import proofs.«01_k».proof.Proof.AccB
public import proofs.«01_k».proof.Proof.AccC
public import proofs.«01_k».proof.Proof.DwC

@[expose] public section

set_option maxRecDepth 16384

noncomputable section

namespace Cert.KernelIdeal.Value

open Cert.KernelIdeal Cert.KernelIdeal.Gen Idealize.ShloMosaic Idealize.ShloMosaic.TcCoe Idealize.SL.Sem

/-- tile `(τ, χ)` of an array of 30720 tokens by 10240 channels -/
def aTile {φ : EltTy} (X : Vec Ideal S30720x10240 φ) (τ : Fin 120) (χ : Fin 40) : Vec Ideal S256x256 φ :=
  fun j => X (ix2 (n0 := 30720) (n1 := 10240) ⟨256 * τ.val + (j 0).val, by have := (j 0).isLt; change (j 0).val < 256 at this; omega⟩
    ⟨256 * χ.val + (j 1).val, by have := (j 1).isLt; change (j 1).val < 256 at this; omega⟩)

/-- the values read back, of the whole array -/
def dqArr (x0 : Vec Ideal S256x256 .bf16) (X : Vec Ideal S30720x10240 .bf16) (R : Vec Ideal S30720x10240 .i8)
    (k : Fin 30720) (o : Fin 10240) : EReal :=
  tDq x0 (aTile X ⟨k.val / 256, by omega⟩ ⟨o.val / 256, by omega⟩) (aTile R ⟨k.val / 256, by omega⟩ ⟨o.val / 256, by omega⟩)
    (ix2 (n0 := 256) (n1 := 256) ⟨k.val % 256, by omega⟩ ⟨o.val % 256, by omega⟩)

/-- the bytes of codes, of the whole array -/
def codesArr (x0 : Vec Ideal S256x256 .bf16) (X : Vec Ideal S30720x10240 .bf16) (R : Vec Ideal S30720x10240 .i8)
    (k : Fin 15360) (o : Fin 10240) : BitVec 8 :=
  tCodes x0 (aTile X ⟨k.val / 128, by omega⟩ ⟨o.val / 256, by omega⟩) (aTile R ⟨k.val / 128, by omega⟩ ⟨o.val / 256, by omega⟩)
    (ix2 (n0 := 128) (n1 := 256) ⟨k.val % 128, by omega⟩ ⟨o.val % 256, by omega⟩)

/-- the bytes of scales, of the whole array -/
def scalesArr (x0 : Vec Ideal S256x256 .bf16) (X : Vec Ideal S30720x10240 .bf16) (k : Fin 960) (o : Fin 10240) : BitVec 8 :=
  tScales x0 (aTile X ⟨k.val / 8, by omega⟩ ⟨o.val / 256, by omega⟩)
    (ix2 (n0 := 8) (n1 := 256) ⟨k.val % 8, by omega⟩ ⟨o.val % 256, by omega⟩)

/-- one term of the product's sum over tokens (`0` past the last token) -/
def dwTerm (x0 : Vec Ideal S256x256 .bf16) (X : Vec Ideal S30720x10240 .bf16) (R : Vec Ideal S30720x10240 .i8)
    (A : Vec Ideal S2560x30720 .bf16) (o : Fin 10240) (p : Fin 2560) (n : ℕ) : EReal :=
  if h : n < 30720 then (A (ix2 p ⟨n, h⟩) : EReal) * dqArr x0 X R ⟨n, h⟩ o else 0

/-- the product, of the whole arrays -/
def dwArr (x0 : Vec Ideal S256x256 .bf16) (X : Vec Ideal S30720x10240 .bf16) (R : Vec Ideal S30720x10240 .i8)
    (A : Vec Ideal S2560x30720 .bf16) (o : Fin 10240) (p : Fin 2560) : EReal :=
  ∑ k : Fin 30720, (A (ix2 p k) : EReal) * dqArr x0 X R k o

variable (m : (ℓ : Loc nD τ sig) → Buf (Elt Ideal) ℓ)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val % 60 ∧ win0_1.index t (1 : Fin 2) = t.val / 60 :=
  (by decide +kernel : ∀ t : Fin grid0.N, _)
theorem idx2 : ∀ t : Fin cfg0.N, win0_2.index t (0 : Fin 2) = t.val % 60 ∧ win0_2.index t (1 : Fin 2) = t.val / 60 :=
  (by decide +kernel : ∀ t : Fin grid0.N, _)
theorem idx3 : ∀ t : Fin cfg0.N, win0_3.index t (0 : Fin 2) = 0 ∧ win0_3.index t (1 : Fin 2) = t.val % 60 :=
  (by decide +kernel : ∀ t : Fin grid0.N, _)

theorem blk0 (c : Dev nD) (t : Fin cfg0.N) : (iblk m c 0 t : Vec Ideal S256x256 .bf16) = V m c main_v26 := by
  obtain ⟨i0, i1⟩ := idx0 t
  funext j
  unfold iblk
  rw [View.read_apply]
  show V m c main_v26 _ = V m c main_v26 _
  congr 1
  funext a
  apply Fin.ext
  match a with
  | ⟨0, _⟩ => show win0_0.index t 0 * 256 + 1 * (j 0).val = (j 0).val; rw [i0]; omega
  | ⟨1, _⟩ => show win0_0.index t 1 * 256 + 1 * (j 1).val = (j 1).val; rw [i1]; omega

theorem blk1 (c : Dev nD) (t : Fin cfg0.N) (x : Fin 512) (y : Fin 1024) (h0 h1) :
    (iblk m c 1 t : Vec Ideal S512x1024 .bf16) (ix2 x y)
      = (V m c main_v27 : Vec Ideal S30720x10240 .bf16) (ix2 (n0 := 30720) (n1 := 10240) ⟨512 * (t.val % 60) + x.val, h0⟩ ⟨1024 * (t.val / 60) + y.val, h1⟩) := by
  obtain ⟨i0, i1⟩ := idx1 t
  unfold iblk
  rw [View.read_apply]
  show V m c main_v27 _ = V m c main_v27 _
  congr 1
  funext a
  apply Fin.ext
  match a with
  | ⟨0, _⟩ => show win0_1.index t 0 * 512 + 1 * x.val = 512 * (t.val % 60) + x.val; rw [i0]; omega
  | ⟨1, _⟩ => show win0_1.index t 1 * 1024 + 1 * y.val = 1024 * (t.val / 60) + y.val; rw [i1]; omega

theorem blk2 (c : Dev nD) (t : Fin cfg0.N) (x : Fin 512) (y : Fin 1024) (h0 h1) :
    (iblk m c 2 t : Vec Ideal S512x1024 .i8) (ix2 x y)
      = (V m c main_v28 : Vec Ideal S30720x10240 .i8) (ix2 (n0 := 30720) (n1 := 10240) ⟨512 * (t.val % 60) + x.val, h0⟩ ⟨1024 * (t.val / 60) + y.val, h1⟩) := by
  obtain ⟨i0, i1⟩ := idx2 t
  unfold iblk
  rw [View.read_apply]
  show V m c main_v28 _ = V m c main_v28 _
  congr 1
  funext a
  apply Fin.ext
  match a with
  | ⟨0, _⟩ => show win0_2.index t 0 * 512 + 1 * x.val = 512 * (t.val % 60) + x.val; rw [i0]; omega
  | ⟨1, _⟩ => show win0_2.index t 1 * 1024 + 1 * y.val = 1024 * (t.val / 60) + y.val; rw [i1]; omega

theorem blk3 (c : Dev nD) (t : Fin cfg0.N) (x : Fin 2560) (y : Fin 512) (h1) :
    (iblk m c 3 t : Vec Ideal S2560x512 .bf16) (ix2 x y)
      = (V m c main_arg3 : Vec Ideal S2560x30720 .bf16) (ix2 (n0 := 2560) (n1 := 30720) x ⟨512 * (t.val % 60) + y.val, h1⟩) := by
  obtain ⟨i0, i1⟩ := idx3 t
  unfold iblk
  rw [View.read_apply]
  show V m c main_arg3 _ = V m c main_arg3 _
  congr 1
  funext a
  apply Fin.ext
  match a with
  | ⟨0, _⟩ => show win0_3.index t 0 * 2560 + 1 * x.val = x.val; rw [i0]; omega
  | ⟨1, _⟩ => show win0_3.index t 1 * 512 + 1 * y.val = 512 * (t.val % 60) + y.val; rw [i1]; omega

theorem N600 (t : Fin cfg0.N) : t.val < 600 := lt_of_lt_of_eq t.isLt (show cfg0.N = 600 from N_0)

/-- a tile of a grid point's block is a tile of the array -/
theorem tile1 (c : Dev nD) (t : Fin cfg0.N) (a : Fin 2) (b : Fin 4) (τ : Fin 120) (χ : Fin 40)
    (h0 : τ.val = 2 * (t.val % 60) + a.val) (h1 : χ.val = 4 * (t.val / 60) + b.val) :
    bTile (iblk m c 1 t : Vec Ideal S512x1024 .bf16) a b = aTile (V m c main_v27 : Vec Ideal S30720x10240 .bf16) τ χ := by
  have := N600 t
  funext j
  have b0 : (j 0).val < 256 := (j 0).isLt
  have b1 : (j 1).val < 256 := (j 1).isLt
  unfold bTile aTile
  rw [blk1 m c t _ _ (by show 512 * (t.val % 60) + (256 * a.val + (j 0).val) < 30720; omega) (by show 1024 * (t.val / 60) + (256 * b.val + (j 1).val) < 10240; omega)]
  congr 1
  refine congrArg₂ _ (Fin.ext ?_) (Fin.ext ?_)
  · show 512 * (t.val % 60) + (256 * a.val + (j 0).val) = 256 * τ.val + (j 0).val; omega
  · show 1024 * (t.val / 60) + (256 * b.val + (j 1).val) = 256 * χ.val + (j 1).val; omega

theorem tile2 (c : Dev nD) (t : Fin cfg0.N) (a : Fin 2) (b : Fin 4) (τ : Fin 120) (χ : Fin 40)
    (h0 : τ.val = 2 * (t.val % 60) + a.val) (h1 : χ.val = 4 * (t.val / 60) + b.val) :
    bTile (iblk m c 2 t : Vec Ideal S512x1024 .i8) a b = aTile (V m c main_v28 : Vec Ideal S30720x10240 .i8) τ χ := by
  have := N600 t
  funext j
  have b0 : (j 0).val < 256 := (j 0).isLt
  have b1 : (j 1).val < 256 := (j 1).isLt
  unfold bTile aTile
  rw [blk2 m c t _ _ (by show 512 * (t.val % 60) + (256 * a.val + (j 0).val) < 30720; omega) (by show 1024 * (t.val / 60) + (256 * b.val + (j 1).val) < 10240; omega)]
  congr 1
  refine congrArg₂ _ (Fin.ext ?_) (Fin.ext ?_)
  · show 512 * (t.val % 60) + (256 * a.val + (j 0).val) = 256 * τ.val + (j 0).val; omega
  · show 1024 * (t.val / 60) + (256 * b.val + (j 1).val) = 256 * χ.val + (j 1).val; omega

/-- the codes a point leaves are its block's, whichever kind of point it is -/
theorem outs_codes (c : Dev nD) (t : Fin cfg0.N) :
    (outsAt0 m c t.val t.isLt).1 = codesBlk (V m c main_v26) (iblk m c 1 t) (iblk m c 2 t) := by
  by_cases h0 : t.val % 60 = 0
  · rw [outsAt0_A m c t h0 (by omega)]; dsimp only; rw [codes_A]; rw [blk0]
  · by_cases h1 : t.val % 60 = 59
    · rw [outsAt0_C m c t h0 h1]; dsimp only; rw [codes_C]; rw [blk0]
    · rw [outsAt0_B m c t h0 h1]; dsimp only; rw [codes_B]; rw [blk0]

theorem outs_scales (c : Dev nD) (t : Fin cfg0.N) :
    (outsAt0 m c t.val t.isLt).2.1 = scalesBlk (V m c main_v26) (iblk m c 1 t) := by
  by_cases h0 : t.val % 60 = 0
  · rw [outsAt0_A m c t h0 (by omega)]; dsimp only; rw [scales_A]; rw [blk0]
  · by_cases h1 : t.val % 60 = 59
    · rw [outsAt0_C m c t h0 h1]; dsimp only; rw [scales_C]; rw [blk0]
    · rw [outsAt0_B m c t h0 h1]; dsimp only; rw [scales_B]; rw [blk0]

/-- one point's step of the accumulator, in terms of the whole arrays -/
theorem step_sum (c : Dev nD) (t : Fin cfg0.N) (acc : Vec Ideal S2560x1024 .f32) (p : Fin 2560) (q : Fin 1024) (o : Fin 10240)
    (ho : o.val = 1024 * (t.val / 60) + q.val) :
    stepAcc acc (V m c main_v26) (iblk m c 1 t) (iblk m c 2 t) (iblk m c 3 t) (ix2 p q)
      = ((acc (ix2 p q) : EReal) + ∑ k ∈ Finset.range 512, dwTerm (V m c main_v26) (V m c main_v27) (V m c main_v28) (V m c main_arg3) o p (512 * (t.val % 60) + k) : EReal) := by
  have hN := N600 t
  unfold stepAcc
  refine congrArg₂ (fun a b : EReal => a + b) rfl ?_
  rw [Finset.sum_range]
  refine Finset.sum_congr rfl fun k _ => ?_
  have hk := k.isLt
  unfold dwTerm
  rw [dif_pos (by omega)]
  refine congrArg₂ (fun a b : EReal => a * b) ?_ ?_
  · exact blk3 m c t p k _
  · rw [dqBlk_at (V m c main_v26) _ _ ⟨k.val / 256, by omega⟩ ⟨q.val / 256, by omega⟩
      (ix2 (n0 := 256) (n1 := 256) ⟨k.val % 256, by omega⟩ ⟨q.val % 256, by omega⟩) _
      (by show k.val = 256 * (k.val / 256) + k.val % 256; omega) (by show q.val = 256 * (q.val / 256) + q.val % 256; omega)]
    unfold dqArr
    rw [tile1 m c t _ _ ⟨(512 * (t.val % 60) + k.val) / 256, by omega⟩ ⟨o.val / 256, by omega⟩ (by dsimp only; omega) (by dsimp only; omega),
      tile2 m c t _ _ ⟨(512 * (t.val % 60) + k.val) / 256, by omega⟩ ⟨o.val / 256, by omega⟩ (by dsimp only; omega) (by dsimp only; omega)]
    congr 1
    refine congrArg₂ _ (Fin.ext ?_) (Fin.ext ?_)
    · show k.val % 256 = (512 * (t.val % 60) + k.val) % 256; omega
    · show q.val % 256 = o.val % 256; omega

theorem zero_fill (j : S2560x1024.Idx) : (k0_pay44 (F := Ideal) j : EReal) = 0 := by
  show Ideal.ofBits .f32 0#32 = 0
  simp

/-- the accumulator after a point: the terms of all its run's points so far -/
theorem acc_sum (c : Dev nD) (p : Fin 2560) (q : Fin 1024) : ∀ (n : ℕ) (h : n < cfg0.N) (o : Fin 10240) (ho : o.val = 1024 * (n / 60) + q.val),
    ((outsAt0 m c n h).2.2.2 (ix2 p q) : EReal)
      = ∑ k ∈ Finset.range (512 * (n % 60 + 1)), dwTerm (V m c main_v26) (V m c main_v27) (V m c main_v28) (V m c main_arg3) o p k := by
  intro n
  induction n with
  | zero =>
    intro h o ho
    have e := outsAt0_A m c ⟨0, h⟩ rfl (by dsimp only; omega)
    dsimp only at e
    rw [e]; dsimp only; rw [acc_A, blk0, step_sum m c ⟨0, h⟩ _ p q o ho, zero_fill, zero_add]
    simp
  | succ n ih =>
    intro h o ho
    have hN := N600 ⟨n + 1, h⟩
    dsimp only at hN
    by_cases h0 : (n + 1) % 60 = 0
    · have e := outsAt0_A m c ⟨n + 1, h⟩ h0 (by dsimp only; omega)
      dsimp only at e
      rw [e]; dsimp only; rw [acc_A, blk0, step_sum m c ⟨n + 1, h⟩ _ p q o ho, zero_fill, zero_add]
      simp [h0]
    · have hm : (n + 1) % 60 = n % 60 + 1 := by omega
      have hd : (n + 1) / 60 = n / 60 := by omega
      have hs : 512 * ((n + 1) % 60 + 1) = 512 * (n % 60 + 1) + 512 := by omega
      have hi := ih (Nat.lt_of_succ_lt h) o (by omega)
      by_cases h1 : (n + 1) % 60 = 59
      · have e := outsAt0_C m c ⟨n + 1, h⟩ h0 h1
        dsimp only at e
        rw [e]; dsimp only; rw [acc_C, blk0, step_sum m c ⟨n + 1, h⟩ _ p q o ho, hs, Finset.sum_range_add, ← hi]
        simp only [hm]
        rfl
      · have e := outsAt0_B m c ⟨n + 1, h⟩ h0 h1
        dsimp only at e
        rw [e]; dsimp only; rw [acc_B, blk0, step_sum m c ⟨n + 1, h⟩ _ p q o ho, hs, Finset.sum_range_add, ← hi]
        simp only [hm]
        rfl

/-- what the last point of a run writes: the whole sum -/
theorem outs_dw (c : Dev nD) (t : Fin cfg0.N) (h1 : t.val % 60 = 59) (q : Fin 1024) (p : Fin 2560) (o : Fin 10240)
    (ho : o.val = 1024 * (t.val / 60) + q.val) :
    ((outsAt0 m c t.val t.isLt).2.2.1 (ix2 q p) : EReal)
      = dwArr (V m c main_v26) (V m c main_v27) (V m c main_v28) (V m c main_arg3) o p := by
  have hN := N600 t
  have h0 : ¬t.val % 60 = 0 := by omega
  rw [outsAt0_C m c t h0 h1]; dsimp only; rw [dw_C, blk0]
  unfold dwArr
  refine (step_sum m c t _ p q o ho).trans ?_
  rw [acc_sum m c p q (t.val - 1) _ o (by omega)]
  have e1 : 512 * ((t.val - 1) % 60 + 1) = 512 * (t.val % 60) := by omega
  rw [e1, ← Finset.sum_range_add, h1, Finset.sum_range]
  refine Finset.sum_congr rfl fun k _ => ?_
  unfold dwTerm
  exact dif_pos k.isLt

/-- the first result: the bytes of codes -/
theorem G4_at (c : Dev nD) (k : Fin 15360) (o : Fin 10240) :
    G4 m c (ix2 k o) = codesArr (V m c main_v26) (V m c main_v27) (V m c main_v28) k o := by
  have hp : pt4Of (ix2 k o) = k.val / 256 + 60 * (o.val / 1024) := by
    show 1 * (k.val / 256 - 0) + 60 * (o.val / 1024 - 0) = _; omega
  have hlt : pt4Of (ix2 k o) < cfg0.N := by rw [show cfg0.N = 600 from N_0, hp]; omega
  unfold G4
  rw [dif_pos hlt, ← outsAt0_sweep m c _ hlt, outs_codes m c ⟨pt4Of (ix2 k o), hlt⟩]
  unfold codesBlk codesArr
  have l0 : (loc4Of (ix2 k o) 0).val = k.val % 256 := rfl
  have l1 : (loc4Of (ix2 k o) 1).val = o.val % 1024 := rfl
  rw [tile1 m c ⟨pt4Of (ix2 k o), hlt⟩ _ _ ⟨k.val / 128, by omega⟩ ⟨o.val / 256, by omega⟩ (by show k.val / 128 = 2 * (pt4Of (ix2 k o) % 60) + (k.val % 256) / 128; omega) (by show o.val / 256 = 4 * (pt4Of (ix2 k o) / 60) + (o.val % 1024) / 256; omega),
    tile2 m c ⟨pt4Of (ix2 k o), hlt⟩ _ _ ⟨k.val / 128, by omega⟩ ⟨o.val / 256, by omega⟩ (by show k.val / 128 = 2 * (pt4Of (ix2 k o) % 60) + (k.val % 256) / 128; omega) (by show o.val / 256 = 4 * (pt4Of (ix2 k o) / 60) + (o.val % 1024) / 256; omega)]
  congr 1
  refine congrArg₂ _ (Fin.ext ?_) (Fin.ext ?_)
  · show (loc4Of (ix2 k o) 0).val % 128 = k.val % 128; omega
  · show (loc4Of (ix2 k o) 1).val % 256 = o.val % 256; omega

/-- the second result: the bytes of scales -/
theorem G5_at (c : Dev nD) (k : Fin 960) (o : Fin 10240) :
    G5 m c (ix2 k o) = scalesArr (V m c main_v26) (V m c main_v27) k o := by
  have hp : pt5Of (ix2 k o) = k.val / 16 + 60 * (o.val / 1024) := by
    show 1 * (k.val / 16 - 0) + 60 * (o.val / 1024 - 0) = _; omega
  have hlt : pt5Of (ix2 k o) < cfg0.N := by rw [show cfg0.N = 600 from N_0, hp]; omega
  unfold G5
  rw [dif_pos hlt, ← outsAt0_sweep m c _ hlt, outs_scales m c ⟨pt5Of (ix2 k o), hlt⟩]
  unfold scalesBlk scalesArr
  have l0 : (loc5Of (ix2 k o) 0).val = k.val % 16 := rfl
  have l1 : (loc5Of (ix2 k o) 1).val = o.val % 1024 := rfl
  rw [tile1 m c ⟨pt5Of (ix2 k o), hlt⟩ _ _ ⟨k.val / 8, by omega⟩ ⟨o.val / 256, by omega⟩ (by show k.val / 8 = 2 * (pt5Of (ix2 k o) % 60) + (k.val % 16) / 8; omega) (by show o.val / 256 = 4 * (pt5Of (ix2 k o) / 60) + (o.val % 1024) / 256; omega)]
  congr 1
  refine congrArg₂ _ (Fin.ext ?_) (Fin.ext ?_)
  · show (loc5Of (ix2 k o) 0).val % 8 = k.val % 8; omega
  · show (loc5Of (ix2 k o) 1).val % 256 = o.val % 256; omega

/-- the third result: the product -/
theorem G6_at (c : Dev nD) (o : Fin 10240) (p : Fin 2560) :
    G6 m c (ix2 o p) = dwArr (V m c main_v26) (V m c main_v27) (V m c main_v28) (V m c main_arg3) o p := by
  have hp : pt6Of (ix2 o p) = 60 * (o.val / 1024) + 59 := by
    show 60 * (1 * (o.val / 1024 - 0) + 1 * (p.val / 2560 - 0)) + 59 = _; omega
  have hlt : pt6Of (ix2 o p) < cfg0.N := by rw [show cfg0.N = 600 from N_0, hp]; omega
  unfold G6
  rw [dif_pos hlt, ← outsAt0_sweep m c _ hlt]
  have e := outs_dw m c ⟨pt6Of (ix2 o p), hlt⟩ (by dsimp only; omega) ⟨o.val % 1024, by omega⟩ p o (by dsimp only; omega)
  have el : loc6Of (ix2 o p) = ix2 (n0 := 1024) (n1 := 2560) ⟨o.val % 1024, by omega⟩ p := by
    funext a
    match a with
    | ⟨0, _⟩ => rfl
    | ⟨1, _⟩ => exact Fin.ext (by show p.val % 2560 = p.val; omega)
  rw [el]
  exact e

end Cert.KernelIdeal.Value

end

end
-- ==== Proof.RRound.lean ====
/- The reference's rounding, codes, bytes and scales at one place, in the operations its program has, and what they are. -/
module

public import proofs.«01_k».proof.Proof.KRound
public import proofs.«01_k».proof.Proof.Expo

@[expose] public section

noncomputable section

namespace Cert.Mx

open Idealize.ShloMosaic

/-- the step of the range -/
def rStep (y : EReal) : EReal :=
  if FloatOps.absf (F := Ideal) (φ := .f32) y < Ideal.ofBits FTy.f32 1073741824#32 then Ideal.ofBits FTy.f32 1056964608#32
  else if FloatOps.absf (F := Ideal) (φ := .f32) y < Ideal.ofBits FTy.f32 1082130432#32 then 1
    else Ideal.ofBits FTy.f32 1073741824#32

/-- the grid point -/
def rGrid (y : EReal) (rb : BitVec 8) : EReal :=
  min ((Ideal.liftRound Int.floor (Ideal.div (FloatOps.absf (F := Ideal) (φ := .f32) y) (rStep y))
      + FloatOps.uitofp (F := Ideal) FTy.f32 (BitVec.ofBool (decide
          (Ideal.div (FloatOps.sitofp (F := Ideal) FTy.f32 (BitVec.setWidth 32 rb) + Ideal.ofBits FTy.f32 1056964608#32)
              (Ideal.ofBits FTy.f32 1132462080#32)
            < Ideal.div (FloatOps.absf (F := Ideal) (φ := .f32) y) (rStep y)
              - Ideal.liftRound Int.floor (Ideal.div (FloatOps.absf (F := Ideal) (φ := .f32) y) (rStep y)))))) * rStep y)
    (Ideal.ofBits FTy.f32 1086324736#32)

/-- the code -/
def rCode (y q : EReal) : BitVec 32 :=
  IntOp.ori (FloatOps.fptosi (F := Ideal) (φ := .f32) 32
      (if q < Ideal.ofBits FTy.f32 1073741824#32 then Ideal.ofBits FTy.f32 1073741824#32 * q
        else if q < Ideal.ofBits FTy.f32 1082130432#32 then q + Ideal.ofBits FTy.f32 1073741824#32
          else Ideal.ofBits FTy.f32 1056964608#32 * q + Ideal.ofBits FTy.f32 1082130432#32))
    (IntOp.shli .host (BitVec.setWidth 32 (IntOp.andi (BitVec.ofBool (decide (y < 0))) (BitVec.ofBool (decide (0 < q))))) 3#32)

theorem rStep_coe (y : ℝ) : rStep (y : EReal) = ((stepR |y| : ℝ) : EReal) := by
  unfold rStep stepR
  simp only [absf_coe', c_two, c_four, c_half, ← EReal.coe_one, EReal.coe_lt_coe_iff, coe_ite]

theorem uitofp_bit (p : Prop) [Decidable p] : FloatOps.uitofp (F := Ideal) FTy.f32 (BitVec.ofBool (decide p))
    = (((if p then 1 else 0 : ℝ) : ℝ) : EReal) := by
  show (((BitVec.ofBool (decide p)).toNat : ℝ) : EReal) = _
  by_cases h : p <;> simp [h]

theorem rGrid_coe (y : ℝ) (rb : BitVec 8) : rGrid (y : EReal) rb = ((gridR y rb.toNat : ℝ) : EReal) := by
  unfold rGrid gridR roundR
  have hs := (stepR_pos |y|).ne'
  simp only [absf_coe', rStep_coe, Ideal.div_coe hs, Ideal.div_coe (show (256 : ℝ) ≠ 0 by norm_num), sitofp_byte, c_half, c_256, c_six,
    ← EReal.coe_mul, Ideal.liftRound_coe, ← EReal.coe_sub, ← EReal.coe_add, EReal.coe_lt_coe_iff, uitofp_bit, mul_one_div]
  rw [← EReal.coe_strictMono.monotone.map_min]
  congr 3
  have e : (((rb.toNat : ℕ) : ℝ) + 1 / 2) / 256 < |y| / stepR |y| - (⌊|y| / stepR |y|⌋ : ℝ)
      ↔ ((rb.toNat : ℕ) : ℝ) + 1 / 2 < (|y| / stepR |y| - (⌊|y| / stepR |y|⌋ : ℝ)) * 256 := div_lt_iff₀ (by norm_num)
  simp only [e]
  split_ifs <;> push_cast <;> ring

theorem shl3_bit (p : Prop) [Decidable p] : IntOp.shli .host (BitVec.setWidth 32 (BitVec.ofBool (decide p))) 3#32
    = BitVec.ofNat 32 (if p then 8 else 0) := by
  by_cases h : p <;> simp only [h, if_true, if_false, decide_true, decide_false] <;> decide

theorem andi_bits (p q : Prop) [Decidable p] [Decidable q] :
    IntOp.andi (BitVec.ofBool (decide p)) (BitVec.ofBool (decide q)) = BitVec.ofBool (decide (p ∧ q)) := by
  by_cases h : p <;> by_cases h' : q <;> simp only [h, h', decide_true, decide_false, and_self, and_true, and_false] <;> decide

theorem rCode_eq (y : ℝ) (n : ℕ) : rCode (y : EReal) ((gridR y n : ℝ) : EReal) = BitVec.ofNat 32 (gcode y n) := by
  have hi := gidx_lt y n
  have hk : (if ((gridR y n : ℝ) : EReal) < Ideal.ofBits FTy.f32 1073741824#32 then Ideal.ofBits FTy.f32 1073741824#32 * ((gridR y n : ℝ) : EReal)
        else if ((gridR y n : ℝ) : EReal) < Ideal.ofBits FTy.f32 1082130432#32 then ((gridR y n : ℝ) : EReal) + Ideal.ofBits FTy.f32 1073741824#32
          else Ideal.ofBits FTy.f32 1056964608#32 * ((gridR y n : ℝ) : EReal) + Ideal.ofBits FTy.f32 1082130432#32)
      = (((gidx y n : ℕ) : ℝ) : EReal) := by
    rw [← kIdx_coe]; unfold kIdx; rw [select_ofBool]
  unfold rCode
  rw [hk, fptosi_nat _ (by omega), andi_bits, shl3_bit, ← EReal.coe_zero]
  simp only [EReal.coe_lt_coe_iff]
  rw [gridR_eq]
  simp only [mag_pos _ hi]
  unfold gcode
  generalize gidx y n = i at *
  by_cases h : y < 0 ∧ i ≠ 0
  · rw [if_pos h, if_pos h]
    clear h hk
    interval_cases i <;> decide
  · rw [if_neg h, if_neg h]
    clear h hk
    interval_cases i <;> decide

/-! ## Bytes and nibbles -/

theorem rByte_eq : ∀ a b : Fin 16, BitVec.setWidth 8 (IntOp.ori (BitVec.ofNat 32 a.val) (IntOp.shli .host (BitVec.ofNat 32 b.val) 4#32))
    = BitVec.ofNat 8 (a.val + 16 * b.val) := by decide +kernel

theorem rLo_eq : ∀ a b : Fin 16, IntOp.andi (BitVec.setWidth 32 (BitVec.ofNat 8 (a.val + 16 * b.val))) 15#32 = BitVec.ofNat 32 a.val := by
  decide +kernel

theorem rHi_eq : ∀ a b : Fin 16, IntOp.shrsi .host (BitVec.setWidth 32 (BitVec.ofNat 8 (a.val + 16 * b.val))) 4#32 = BitVec.ofNat 32 b.val := by
  decide +kernel

/-- a nibble's size -/
def rMag (n : BitVec 32) : EReal :=
  Scalar.select (IntOp.cmpi .ne (IntOp.andi n 4#32) 0#32)
    (Scalar.select (IntOp.cmpi .ne (IntOp.andi n 2#32) 0#32)
      (Scalar.select (IntOp.cmpi .ne (IntOp.andi n 1#32) 0#32) (Ideal.ofBits FTy.f32 1086324736#32) (Ideal.ofBits FTy.f32 1082130432#32))
      (Scalar.select (IntOp.cmpi .ne (IntOp.andi n 1#32) 0#32) (Ideal.ofBits FTy.f32 1077936128#32) (Ideal.ofBits FTy.f32 1073741824#32)))
    (Scalar.select (IntOp.cmpi .ne (IntOp.andi n 2#32) 0#32)
      (Scalar.select (IntOp.cmpi .ne (IntOp.andi n 1#32) 0#32) (Ideal.ofBits FTy.f32 1069547520#32) 1)
      (Scalar.select (IntOp.cmpi .ne (IntOp.andi n 1#32) 0#32) (Ideal.ofBits FTy.f32 1056964608#32) 0))

/-- a nibble's value -/
def rDec (n : BitVec 32) : EReal := Scalar.select (IntOp.cmpi .ne (IntOp.andi n 8#32) 0#32) (-rMag n) (rMag n)

theorem c_three : Ideal.ofBits FTy.f32 1077936128#32 = ((3 : ℝ) : EReal) := by
  simp [Ideal.ofBits, Ideal.ieee, -EReal.coe_mul]; norm_num
theorem c_three_half : Ideal.ofBits FTy.f32 1069547520#32 = ((3 / 2 : ℝ) : EReal) := by
  simp [Ideal.ofBits, Ideal.ieee, -EReal.coe_mul]; norm_num

theorem cmpi_bit (k j : ℕ) (h : k < 16) (hj : j = 1 ∨ j = 2 ∨ j = 4 ∨ j = 8) :
    IntOp.cmpi .ne (IntOp.andi (BitVec.ofNat 32 k) (BitVec.ofNat 32 j)) 0#32 = BitVec.ofBool (decide (k / j % 2 = 1)) := by
  rcases hj with rfl | rfl | rfl | rfl <;> interval_cases k <;> decide

theorem rDec_eq (k : ℕ) (h : k < 16) : rDec (BitVec.ofNat 32 k) = ((cval k : ℝ) : EReal) := by
  unfold rDec rMag
  rw [cmpi_bit k 1 h (by simp), cmpi_bit k 2 h (by simp), cmpi_bit k 4 h (by simp), cmpi_bit k 8 h (by simp)]
  simp only [select_ofBool, c_two, c_four, c_half, c_six, c_three, c_three_half, ← EReal.coe_one, ← EReal.coe_zero, coe_ite, ← EReal.coe_neg]
  congr 1
  interval_cases k <;> norm_num [cval, mag]

/-! ## The exponent and its powers -/

/-- the exponent -/
def rExp (a v : EReal) : BitVec 32 :=
  Scalar.select (FloatOps.cmpf (F := Ideal) (φ := .f32) .oeq a (Ideal.ofBits .f32 0#32)) 0#32
   (FloatOps.fptosi (F := Ideal) (φ := .f32) 32 (Scalar.select (FloatOps.cmpf (F := Ideal) (φ := .f32) .olt v (Ideal.ofBits .f32 8388608#32)) (Ideal.ofBits .f32 0#32)
     ((Ideal.liftRound Int.floor (Ideal.div (Ideal.log v) (Ideal.log (Ideal.ofBits FTy.f32 1073741824#32))) +
            Ideal.ofBits .f32 1065353216#32 : EReal))))

theorem c_zero : Ideal.ofBits FTy.f32 0#32 = 0 := by simp [Ideal.ofBits, Ideal.ieee]
theorem c_one : Ideal.ofBits FTy.f32 1065353216#32 = 1 := by
  simp [Ideal.ofBits, Ideal.ieee, -EReal.coe_mul]; norm_num
theorem c_tiny : Ideal.ofBits FTy.f32 8388608#32 = (((2 : ℝ) ^ (-126 : ℤ) : ℝ) : EReal) := by
  have := ieee_field 1 (by norm_num)
  have e : IntOp.shli .vector (BitVec.ofNat 32 1) 23#32 = 8388608#32 := by decide
  rw [e] at this
  rw [this]; unfold fieldVal; norm_num

theorem rExp_rexp (a v : EReal) : rExp a v = rexp (BitVec.ofBool (decide (a = 0))) v := by
  unfold rExp rexp
  rw [c_zero, c_one, c_tiny, c_two]
  have hl : Ideal.log ((2 : ℝ) : EReal) = ((Real.log 2 : ℝ) : EReal) := by
    rw [Ideal.log_coe, if_neg (by norm_num)]
  rw [hl]
  have h2 : ∀ x y : EReal, FloatOps.cmpf (F := Ideal) (φ := .f32) .olt x y = BitVec.ofBool (decide (x < y)) := fun _ _ => rfl
  have h3 : ∀ x y : EReal, FloatOps.cmpf (F := Ideal) (φ := .f32) .oeq x y = BitVec.ofBool (decide (x = y)) := fun _ _ => rfl
  rw [h2, h3, select_ofBool (v < _)]
  rfl

theorem rpow_int (k : ℤ) : Ideal.pow (Ideal.ofBits FTy.f32 1073741824#32) (((k : ℤ) : ℝ) : EReal) = (((2 : ℝ) ^ k : ℝ) : EReal) := by
  rw [c_two, Ideal.pow_coe_coe]
  congr 1
  exact Real.rpow_intCast 2 k

theorem sitofp_int (k : ℤ) (h0 : -1000 ≤ k) (h1 : k ≤ 1000) :
    FloatOps.sitofp (F := Ideal) FTy.f32 (BitVec.ofInt 32 k) = (((k : ℤ) : ℝ) : EReal) := by
  show (((BitVec.ofInt 32 k).toInt : ℝ) : EReal) = _
  rw [BitVec.toInt_ofInt, Int.bmod_eq_of_le (by omega) (by omega)]

theorem rpow_neg (e : ℤ) (h0 : -125 ≤ e) (h1 : e ≤ 126) :
    Ideal.pow (Ideal.ofBits FTy.f32 1073741824#32) (FloatOps.sitofp (F := Ideal) FTy.f32 (-(BitVec.ofInt 32 e))) = (((2 : ℝ) ^ (-e) : ℝ) : EReal) := by
  rw [← BitVec.ofInt_neg, sitofp_int _ (by omega) (by omega), rpow_int]

theorem scale_back (e : ℤ) (h0 : -125 ≤ e) (h1 : e ≤ 126) :
    IntOp.subi (BitVec.setWidth 32 (BitVec.setWidth 8 (IntOp.addi (BitVec.ofInt 32 e) 127#32))) 127#32 = BitVec.ofInt 32 e := by
  have : ∀ k : Fin 252, IntOp.subi (BitVec.setWidth 32 (BitVec.setWidth 8 (IntOp.addi (BitVec.ofInt 32 ((k.val : ℤ) - 125)) 127#32))) 127#32
      = BitVec.ofInt 32 ((k.val : ℤ) - 125) := by decide +kernel
  have h := this ⟨(e + 125).toNat, by omega⟩
  have e2 : (((e + 125).toNat : ℕ) : ℤ) - 125 = e := by omega
  simp only [e2] at h
  exact h

theorem rpow_scale (e : ℤ) (h0 : -125 ≤ e) (h1 : e ≤ 126) :
    Ideal.pow (Ideal.ofBits FTy.f32 1073741824#32) (FloatOps.sitofp (F := Ideal) FTy.f32
      (IntOp.subi (BitVec.setWidth 32 (BitVec.setWidth 8 (IntOp.addi (BitVec.ofInt 32 e) 127#32))) 127#32)) = (((2 : ℝ) ^ e : ℝ) : EReal) := by
  rw [scale_back e h0 h1, sitofp_int _ (by omega) (by omega), rpow_int]

end Cert.Mx

end

end
-- ==== Proof.Spec.lean ====
/- The quantised gradient, from the rotated values as real numbers: a group's exponent, an element's code and its value. The
   kernel's tiles and the reference's arrays are both read as these. Rows and columns are counted by natural numbers. -/
module

public import proofs.«01_k».proof.Proof.RRound

@[expose] public section

noncomputable section

namespace Cert.Mx

open Idealize.ShloMosaic

/-- the largest size in a group -/
def gmax (f : Fin 32 → EReal) : EReal :=
  Finset.univ.fold max (Ideal.ofBits FTy.f32 4286578688#32) (fun x => FloatOps.absf (F := Ideal) (φ := .f32) (f x))

theorem c_bot : Ideal.ofBits FTy.f32 4286578688#32 = ⊥ := by simp [Ideal.ofBits, Ideal.ieee]

theorem gmax_coe (f : Fin 32 → ℝ) (B : ℝ) (hB : ∀ l, |f l| ≤ B) :
    ∃ m : ℝ, gmax (fun l => ((f l : ℝ) : EReal)) = ((m : ℝ) : EReal) ∧ 0 ≤ m ∧ m ≤ B := by
  have hle : gmax (fun l => ((f l : ℝ) : EReal)) ≤ ((B : ℝ) : EReal) := by
    unfold gmax
    rw [Finset.fold_max_le]
    refine ⟨by rw [c_bot]; exact bot_le, fun l _ => ?_⟩
    rw [absf_coe']
    exact EReal.coe_le_coe_iff.mpr (hB l)
  have hge : ((0 : ℝ) : EReal) ≤ gmax (fun l => ((f l : ℝ) : EReal)) := by
    unfold gmax
    rw [Finset.le_fold_max]
    refine Or.inr ⟨0, Finset.mem_univ _, ?_⟩
    rw [absf_coe']
    exact EReal.coe_le_coe_iff.mpr (abs_nonneg _)
  generalize gmax (fun l => ((f l : ℝ) : EReal)) = M at *
  have h1 : M ≠ ⊤ := fun h => by rw [h] at hle; simp at hle
  have h2 : M ≠ ⊥ := fun h => by rw [h] at hge; simp at hge
  lift M to ℝ using ⟨h1, h2⟩
  exact ⟨M, rfl, EReal.coe_le_coe_iff.mp hge, EReal.coe_le_coe_iff.mp hle⟩

/-- a sixth, rounded up -/
theorem c_sixth : Ideal.ofBits FTy.f32 1042983595#32 = ((11184811 / 67108864 : ℝ) : EReal) := by
  simp [Ideal.ofBits, Ideal.ieee, -EReal.coe_mul]; norm_num

/-- a group's exponent exists: one integer the kernel's search and the reference's logarithm both find -/
theorem group (f : Fin 32 → ℝ) : ∃ e : ℤ, (∀ l, |f l| ≤ (2 : ℝ) ^ (128 : ℤ)) → -125 ≤ e ∧ e ≤ 126
    ∧ kexp (BitVec.ofBool (decide (gmax (fun l => ((f l : ℝ) : EReal)) = 0)))
        (gmax (fun l => ((f l : ℝ) : EReal)) * Ideal.ofBits FTy.f32 1042983595#32) = BitVec.ofInt 32 e
    ∧ rExp (gmax (fun l => ((f l : ℝ) : EReal)))
        (gmax (fun l => ((f l : ℝ) : EReal)) * Ideal.ofBits FTy.f32 1042983595#32) = BitVec.ofInt 32 e := by
  by_cases hB : ∀ l, |f l| ≤ (2 : ℝ) ^ (128 : ℤ)
  · obtain ⟨m, hm, h0, hle⟩ := gmax_coe f _ hB
    have v0 : 0 ≤ m * (11184811 / 67108864 : ℝ) := by positivity
    have v1 : m * (11184811 / 67108864 : ℝ) < (2 : ℝ) ^ (126 : ℤ) := by
      have : (2 : ℝ) ^ (128 : ℤ) = 4 * (2 : ℝ) ^ (126 : ℤ) := by norm_num
      have : (0 : ℝ) < (2 : ℝ) ^ (126 : ℤ) := by positivity
      nlinarith
    have hr := gexp_range _ v0 v1
    refine ⟨if BitVec.ofBool (decide (gmax (fun l => ((f l : ℝ) : EReal)) = 0)) = 1#1 then 0
      else gexp (m * (11184811 / 67108864 : ℝ)), fun _ => ⟨?_, ?_, ?_, ?_⟩⟩
    · split_ifs <;> omega
    · split_ifs <;> omega
    · rw [hm, c_sixth, ← EReal.coe_mul]
      exact kexp_eq _ _ v0 v1
    · rw [rExp_rexp, hm, c_sixth, ← EReal.coe_mul]
      exact rexp_eq _ _ v0 v1
  · exact ⟨0, fun h => absurd h hB⟩

/-- the exponent of group `g` of column `o` -/
def expo (ρ : ℕ → ℕ → ℝ) (g o : ℕ) : ℤ := Classical.choose (group fun l => ρ (g * 32 + l.val) o)

theorem expo_spec (ρ : ℕ → ℕ → ℝ) (hρ : ∀ k o, |ρ k o| ≤ (2 : ℝ) ^ (128 : ℤ)) (g o : ℕ) :
    -125 ≤ expo ρ g o ∧ expo ρ g o ≤ 126
    ∧ kexp (BitVec.ofBool (decide (gmax (fun l => ((ρ (g * 32 + l.val) o : ℝ) : EReal)) = 0)))
        (gmax (fun l => ((ρ (g * 32 + l.val) o : ℝ) : EReal)) * Ideal.ofBits FTy.f32 1042983595#32) = BitVec.ofInt 32 (expo ρ g o)
    ∧ rExp (gmax (fun l => ((ρ (g * 32 + l.val) o : ℝ) : EReal)))
        (gmax (fun l => ((ρ (g * 32 + l.val) o : ℝ) : EReal)) * Ideal.ofBits FTy.f32 1042983595#32) = BitVec.ofInt 32 (expo ρ g o) :=
  Classical.choose_spec (group fun l => ρ (g * 32 + l.val) o) fun _ => hρ _ _

/-- an element scaled by its group's exponent -/
def scaled (ρ : ℕ → ℕ → ℝ) (k o : ℕ) : ℝ := ρ k o * (2 : ℝ) ^ (-expo ρ (k / 32) o)

/-- its code -/
def code (ρ : ℕ → ℕ → ℝ) (rb : ℕ → ℕ → ℕ) (k o : ℕ) : ℕ := gcode (scaled ρ k o) (rb k o)

/-- the value its code and scale stand for -/
def dqv (ρ : ℕ → ℕ → ℝ) (rb : ℕ → ℕ → ℕ) (k o : ℕ) : ℝ := cval (code ρ rb k o) * (2 : ℝ) ^ expo ρ (k / 32) o

/-- the byte of codes `2k` and `2k+1` -/
def codeByte (ρ : ℕ → ℕ → ℝ) (rb : ℕ → ℕ → ℕ) (k o : ℕ) : BitVec 8 :=
  BitVec.ofNat 8 (code ρ rb (2 * k) o + 16 * code ρ rb (2 * k + 1) o)

/-- the byte of a scale -/
def scaleByte (ρ : ℕ → ℕ → ℝ) (g o : ℕ) : BitVec 8 := BitVec.setWidth 8 (IntOp.addi (BitVec.ofInt 32 (expo ρ g o)) 127#32)

theorem code_lt (ρ : ℕ → ℕ → ℝ) (rb : ℕ → ℕ → ℕ) (k o : ℕ) : code ρ rb k o < 16 := gcode_lt _ _
theorem code_ne (ρ : ℕ → ℕ → ℝ) (rb : ℕ → ℕ → ℕ) (k o : ℕ) : code ρ rb k o ≠ 8 := gcode_ne _ _

/-! ## The rotation -/

/-- the sign of the Walsh matrix at `(i, j)` -/
def wsign (i j : BitVec 32) : EReal :=
  FloatOps.sitofp (F := Ideal) FTy.f32 (IntOp.subi (1#32) (IntOp.muli (2#32) (IntOp.andi (IntOp.ctpop (IntOp.andi i j)) 1#32)))

theorem wsign_cases (i j : BitVec 32) : wsign i j = ((1 : ℝ) : EReal) ∨ wsign i j = ((-1 : ℝ) : EReal) := by
  unfold wsign
  generalize IntOp.ctpop (IntOp.andi i j) = x
  have hx : IntOp.andi x 1#32 = 0#32 ∨ IntOp.andi x 1#32 = 1#32 := by
    have h : (x &&& 1#32).toNat < 2 := by
      rw [BitVec.toNat_and]
      exact lt_of_le_of_lt Nat.and_le_right (by decide)
    have : (x &&& 1#32).toNat = 0 ∨ (x &&& 1#32).toNat = 1 := by omega
    rcases this with h | h
    · exact Or.inl (BitVec.eq_of_toNat_eq h)
    · exact Or.inr (BitVec.eq_of_toNat_eq h)
  rcases hx with h | h
  · left; rw [h]
    show (((1 : ℤ) : ℝ) : EReal) = _
    norm_num
  · right; rw [h]
    show (((-1 : ℤ) : ℝ) : EReal) = _
    norm_num

theorem c_eighth : Ideal.ofBits FTy.f32 1040187392#32 = ((1 / 8 : ℝ) : EReal) := by
  simp [Ideal.ofBits, Ideal.ieee, -EReal.coe_mul]; norm_num

/-- the rotation's entry, with the sign of its column -/
def rotE (i j : BitVec 32) (s : EReal) : EReal := wsign i j * s * Ideal.ofBits FTy.f32 1040187392#32

theorem rotE_coe (i j : BitVec 32) (s : ℝ) (hs : |s| ≤ 1) : ∃ r : ℝ, rotE i j (s : EReal) = ((r : ℝ) : EReal) ∧ |r| ≤ 1 / 8 := by
  unfold rotE
  rw [c_eighth]
  rcases wsign_cases i j with h | h <;> rw [h, ← EReal.coe_mul, ← EReal.coe_mul]
  · exact ⟨_, rfl, by rw [one_mul, abs_mul, abs_of_pos (by norm_num : (0 : ℝ) < 1 / 8)]; linarith⟩
  · exact ⟨_, rfl, by rw [neg_one_mul, abs_mul, abs_neg, abs_of_pos (by norm_num : (0 : ℝ) < 1 / 8)]; linarith⟩

/-- one rotated value: the sum over its block of 64 rows -/
def rotated (D : ℕ → ℕ → EReal) (s : ℕ → EReal) (k o : ℕ) : EReal :=
  ∑ x : Fin 64, D (k / 64 * 64 + x.val) o * rotE (BitVec.ofNat 32 (k % 64)) (BitVec.ofNat 32 x.val) (s x.val)

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- a real rotated value -/
def rotR (D : ℕ → ℕ → EReal) (s : ℕ → EReal) (k o : ℕ) : ℝ := (rotated D s k o).toReal

theorem rotR_spec (D : ℕ → ℕ → EReal) (s : ℕ → EReal)
    (hD : ∀ k o, ∃ r : ℝ, D k o = ((r : ℝ) : EReal) ∧ |r| ≤ (2 : ℝ) ^ (125 : ℤ))
    (hs : ∀ x, ∃ r : ℝ, s x = ((r : ℝ) : EReal) ∧ |r| ≤ 1) (k o : ℕ) :
    rotated D s k o = ((rotR D s k o : ℝ) : EReal) ∧ |rotR D s k o| ≤ (2 : ℝ) ^ (128 : ℤ) := by
  have hx : ∀ x : Fin 64, ∃ r : ℝ, D (k / 64 * 64 + x.val) o * rotE (BitVec.ofNat 32 (k % 64)) (BitVec.ofNat 32 x.val) (s x.val)
      = ((r : ℝ) : EReal) ∧ |r| ≤ (2 : ℝ) ^ (125 : ℤ) * (1 / 8) := by
    intro x
    obtain ⟨a, ha, hA⟩ := hD (k / 64 * 64 + x.val) o
    obtain ⟨b, hb, hB⟩ := hs x.val
    rw [ha, hb]
    obtain ⟨c, hc, hC⟩ := rotE_coe (BitVec.ofNat 32 (k % 64)) (BitVec.ofNat 32 x.val) b hB
    rw [hc, ← EReal.coe_mul]
    exact ⟨_, rfl, by rw [abs_mul]; exact mul_le_mul hA hC (abs_nonneg _) (by positivity)⟩
  choose r hr hR using hx
  have e : rotated D s k o = ((∑ x, r x : ℝ) : EReal) := by
    unfold rotated
    rw [Finset.sum_congr rfl fun x _ => hr x, coe_sum]
  unfold rotR
  rw [e, EReal.toReal_coe]
  refine ⟨rfl, (Finset.abs_sum_le_sum_abs _ _).trans ((Finset.sum_le_sum fun x _ => hR x).trans ?_)⟩
  rw [Finset.sum_const, Finset.card_univ, Fintype.card_fin, nsmul_eq_mul]
  norm_num

end Cert.Mx

end

end
-- ==== Proof.Inputs.lean ====
/- The arguments' arrays with rows and columns counted by natural numbers (`0` outside), which is how the two programs'
   values are compared. -/
module

public import proofs.«01_k».proof.Proof.Spec
public import Idealize.ShloMosaic.Lib.Pipeline.ValueKit

@[expose] public section

noncomputable section

namespace Cert.Mx

open Idealize.ShloMosaic

/-- the incoming gradient: token `k` of all the experts' tokens, channel `o` -/
def rowE (X : (⟨⟨3, ![5, 6144, 10240]⟩, .bf16⟩ : BufTy).Contents (Elt Ideal)) (k o : ℕ) : EReal :=
  if h : k < 30720 ∧ o < 10240 then X (ValueIdx.ix3 ⟨k / 6144, by omega⟩ ⟨k % 6144, by omega⟩ ⟨o, h.2⟩) else (0 : EReal)

/-- the rotation's sign of column `x` -/
def signE (S : (⟨⟨1, ![64]⟩, .f32⟩ : BufTy).Contents (Elt Ideal)) (x : ℕ) : EReal :=
  if h : x < 64 then S (ValueIdx.ix1 ⟨x, h⟩) else (0 : EReal)

/-- the random byte of token `k`, channel `o` -/
def randN (R : (⟨⟨3, ![5, 6144, 10240]⟩, .i8⟩ : BufTy).Contents (Elt Ideal)) (k o : ℕ) : ℕ :=
  if h : k < 30720 ∧ o < 10240 then (R (ValueIdx.ix3 ⟨k / 6144, by omega⟩ ⟨k % 6144, by omega⟩ ⟨o, h.2⟩) : BitVec 8).toNat else 0

/-- a sum over 256 rows of which only one block of 64 counts -/
theorem sum_block (q : ℕ) (hq : q < 4) (f : ℕ → EReal) (w : ℕ → EReal) (h1 : ∀ i, i = q → w i = 1)
    (h0 : ∀ i, i < 4 → i ≠ q → w i = 0) :
    ∑ x : Fin 256, w (x.val / 64) * f x.val = ∑ x : Fin 64, f (q * 64 + x.val) := by
  have e : ∑ x : Fin 256, w (x.val / 64) * f x.val = ∑ p : Fin 4 × Fin 64, w p.1.val * f (p.1.val * 64 + p.2.val) := by
    rw [← Equiv.sum_comp (finProdFinEquiv (m := 4) (n := 64))]
    refine Finset.sum_congr rfl fun p _ => ?_
    have hv : (finProdFinEquiv p).val = p.2.val + 64 * p.1.val := rfl
    have hp := p.2.isLt
    have e1 : (p.2.val + 64 * p.1.val) / 64 = p.1.val := by omega
    have e2 : p.2.val + 64 * p.1.val = p.1.val * 64 + p.2.val := by omega
    show w ((finProdFinEquiv p).val / 64) * f (finProdFinEquiv p).val = _
    rw [hv, e1, e2]
  rw [e, Fintype.sum_prod_type, Finset.sum_eq_single (⟨q, hq⟩ : Fin 4)]
  · exact Finset.sum_congr rfl fun x _ => by rw [h1 q rfl, one_mul]
  · intro i _ hi
    refine Finset.sum_eq_zero fun x _ => ?_
    rw [h0 i.val i.isLt (fun h => hi (Fin.ext h)), zero_mul]
  · intro h; exact absurd (Finset.mem_univ _) h

end Cert.Mx

end

end
-- ==== Proof.KRead.lean ====
/- The kernel's operands as its tiles find them: the rotation matrix the host builds, the gradient and the random bytes with
   the experts' tokens in one line; and a tile's rotated values. -/
module

public import proofs.«01_k».proof.Proof.TileRead
public import proofs.«01_k».proof.Proof.Arrays
public import proofs.«01_k».proof.Proof.Inputs

@[expose] public section

set_option maxRecDepth 16384

noncomputable section

namespace Cert.KernelIdeal.Value

open Cert.KernelIdeal Cert.KernelIdeal.Gen Idealize.ShloMosaic Idealize.ShloMosaic.TcCoe Idealize.SL.Sem Cert.Mx

variable (m : (ℓ : Loc nD τ sig) → Buf (Elt Ideal) ℓ) (c : Dev nD)

theorem v27_at (k : Fin 30720) (o : Fin 10240) :
    (V m c main_v27 : (⟨S30720x10240, .bf16⟩ : BufTy).Contents (Elt Ideal)) (ix2 k o)
      = rowE (m (c, Proc.tc.devRef main_arg0)) k.val o.val := by
  simp only [V, hostOps0, hostOps0_1, hostOps0_2, List.flatten_cons, List.flatten_nil, List.append_nil, List.cons_append, List.nil_append]
  entry_read
  unfold rowE
  rw [dif_pos ⟨k.isLt, o.isLt⟩]
  pointwise
  rfl

theorem v28_at (k : Fin 30720) (o : Fin 10240) :
    ((V m c main_v28 : (⟨S30720x10240, .i8⟩ : BufTy).Contents (Elt Ideal)) (ix2 k o) : BitVec 8).toNat
      = randN (m (c, Proc.tc.devRef main_arg2)) k.val o.val := by
  unfold randN
  rw [dif_pos ⟨k.isLt, o.isLt⟩]
  congr 1
  simp only [V, hostOps0, hostOps0_1, hostOps0_2, List.flatten_cons, List.flatten_nil, List.append_nil, List.cons_append, List.nil_append]
  entry_read
  pointwise
  rfl

/-- whether two numbers agree, as a factor -/
def same (a l : ℕ) : EReal :=
  (FloatOps.uitofp (F := Ideal) FTy.f32
    (IntOp.cmpi CmpIPredicate.eq (IntOp.addi (BitVec.ofNat 32 a) 0#32) (BitVec.ofNat 32 l)) : EReal)

theorem v26_at (a l : Fin 256) :
    ((V m c main_v26 : (⟨S256x256, .bf16⟩ : BufTy).Contents (Elt Ideal)) (ix2 a l) : EReal)
      = same (a.val / 64) (l.val / 64) * rotE (BitVec.ofNat 32 (a.val % 64)) (BitVec.ofNat 32 (l.val % 64))
          (signE (m (c, Proc.tc.devRef main_arg1)) (l.val % 64)) := by
  unfold signE
  rw [dif_pos (Nat.mod_lt _ (by decide))]
  simp only [V, hostOps0, hostOps0_1, hostOps0_2, List.flatten_cons, List.flatten_nil, List.append_nil, List.cons_append, List.nil_append]
  entry_read
  simp only [StableHlo.TRef.ofBuf, StableHlo.TRef.toBuf, StableHlo.TRef.of, eq_mpr_eq_cast, cast_eq]
  pointwise
  rfl

theorem same_eq (a : ℕ) : ∀ i, i = a → same a i = 1 := by
  rintro i rfl
  unfold same
  have : IntOp.cmpi CmpIPredicate.eq (IntOp.addi (BitVec.ofNat 32 i) 0#32) (BitVec.ofNat 32 i) = 1#1 := by
    simp [IntOp.cmpi, IntOp.addi]
  rw [this]
  show (((1 : ℕ) : ℝ) : EReal) = 1
  norm_num

theorem same_ne (a : ℕ) (ha : a < 4) : ∀ i, i < 4 → i ≠ a → same a i = 0 := by
  intro i hi h
  unfold same
  have : IntOp.cmpi CmpIPredicate.eq (IntOp.addi (BitVec.ofNat 32 a) 0#32) (BitVec.ofNat 32 i) = 0#1 := by
    interval_cases a <;> interval_cases i <;> first | rfl | exact absurd rfl h
  rw [this]
  show (((0 : ℕ) : ℝ) : EReal) = 0
  norm_num

theorem k46_sum (x0 d : Vec Ideal S256x256 .bf16) (g : Fin 8) (l : Fin 32) (b : Fin 256) :
    (k0_pay46 (F := Ideal) x0 d (ix3 g l b) : EReal)
      = ∑ x : Fin 256, (x0 (ix2 ⟨g.val * 32 + l.val, by omega⟩ x) : EReal) * (d (ix2 x b) : EReal) := by
  pointwise [k0_pay46, k0_pay43]

/-- a tile's rotated values are those of its rows and columns -/
theorem k46_at (τ : Fin 120) (χ : Fin 40) (g : Fin 8) (l : Fin 32) (b : Fin 256) :
    (k0_pay46 (F := Ideal) (V m c main_v26) (aTile (V m c main_v27) τ χ) (ix3 g l b) : EReal)
      = rotated (rowE (m (c, Proc.tc.devRef main_arg0))) (signE (m (c, Proc.tc.devRef main_arg1)))
          ((τ.val * 8 + g.val) * 32 + l.val) (χ.val * 256 + b.val) := by
  rw [k46_sum]
  have hq : (g.val * 32 + l.val) / 64 < 4 := by omega
  have e2 := sum_block ((g.val * 32 + l.val) / 64) hq
    (fun x => rotE (BitVec.ofNat 32 ((g.val * 32 + l.val) % 64)) (BitVec.ofNat 32 (x % 64)) (signE (m (c, Proc.tc.devRef main_arg1)) (x % 64))
      * rowE (m (c, Proc.tc.devRef main_arg0)) (256 * τ.val + x) (256 * χ.val + b.val))
    (same ((g.val * 32 + l.val) / 64)) (same_eq _) (same_ne _ hq)
  refine ((Finset.sum_congr rfl fun x _ => ?_).trans e2).trans ?_
  · have h27 : (aTile (V m c main_v27) τ χ (ix2 x b) : EReal) = rowE (m (c, Proc.tc.devRef main_arg0)) (256 * τ.val + x.val) (256 * χ.val + b.val) :=
      v27_at m c ⟨256 * τ.val + x.val, by omega⟩ ⟨256 * χ.val + b.val, by omega⟩
    rw [h27, v26_at m c ⟨g.val * 32 + l.val, by omega⟩ x, mul_assoc]
  · unfold rotated
    refine Finset.sum_congr rfl fun x _ => ?_
    have h1 : ((g.val * 32 + l.val) / 64 * 64 + x.val) % 64 = x.val := by omega
    have h2 : ((τ.val * 8 + g.val) * 32 + l.val) % 64 = (g.val * 32 + l.val) % 64 := by omega
    have h3 : ((τ.val * 8 + g.val) * 32 + l.val) / 64 * 64 + x.val = 256 * τ.val + ((g.val * 32 + l.val) / 64 * 64 + x.val) := by omega
    have h4 : χ.val * 256 + b.val = 256 * χ.val + b.val := by omega
    rw [h2, h3, h4]
    show rotE _ (BitVec.ofNat 32 (((g.val * 32 + l.val) / 64 * 64 + x.val) % 64)) (signE _ (((g.val * 32 + l.val) / 64 * 64 + x.val) % 64)) * _ = _
    rw [h1, mul_comm]

end Cert.KernelIdeal.Value

end

end
-- ==== Proof.Nibble.lean ====
/- Eight four-bit codes joined to a word, the mask that clears a code of eight (a negative zero; there is none), and the
   word's bytes: byte `j` holds code `2j` in its low half and code `2j+1` in its high half. -/
module

public import Idealize.ShloMosaic.PureOps.Ideal
public import Idealize.ShloMosaic.Lib.BitcastPair
public import Idealize.ShloMosaic.Lib.ValueIdxCore

@[expose] public section

noncomputable section

namespace Cert.Mx

open Idealize.ShloMosaic

/-- eight digits to base sixteen -/
def pack (n : ℕ → ℕ) : ℕ := n 0 + 16 * (n 1 + 16 * (n 2 + 16 * (n 3 + 16 * (n 4 + 16 * (n 5 + 16 * (n 6 + 16 * n 7))))))

/-- eight codes joined, the first lowest -/
def wordOf (n : ℕ → BitVec 32) : BitVec 32 :=
  IntOp.ori (IntOp.ori (IntOp.ori (IntOp.ori (IntOp.ori (IntOp.ori (IntOp.ori (n 0) (IntOp.shli .vector (n 1) 4#32))
    (IntOp.shli .vector (n 2) 8#32)) (IntOp.shli .vector (n 3) 12#32)) (IntOp.shli .vector (n 4) 16#32))
    (IntOp.shli .vector (n 5) 20#32)) (IntOp.shli .vector (n 6) 24#32)) (IntOp.shli .vector (n 7) 28#32)

/-- the word with every code of eight cleared -/
def keepW (w : BitVec 32) : BitVec 32 :=
  IntOp.andi w (IntOp.ori (IntOp.addi (IntOp.andi w 2004318071#32) 2004318071#32) 2004318071#32)

theorem or_shl (A b s : ℕ) (hA : A < 2 ^ s) (hb : b < 16) (hs : s + 4 ≤ 32) :
    IntOp.ori (BitVec.ofNat 32 A) (IntOp.shli .vector (BitVec.ofNat 32 b) (BitVec.ofNat 32 s)) = BitVec.ofNat 32 (2 ^ s * b + A) := by
  have e : IntOp.shli .vector (BitVec.ofNat 32 b) (BitVec.ofNat 32 s) = BitVec.ofNat 32 (2 ^ s * b) := by
    have ht : (BitVec.ofNat 32 s).toNat = s := by rw [BitVec.toNat_ofNat]; omega
    show (if (BitVec.ofNat 32 s).toNat < 32 then BitVec.ofNat 32 b <<< (BitVec.ofNat 32 s) else _) = _
    rw [if_pos (by omega), BitVec.shiftLeft_eq', ht]
    apply BitVec.eq_of_toNat_eq
    rw [BitVec.toNat_shiftLeft, BitVec.toNat_ofNat, BitVec.toNat_ofNat, Nat.shiftLeft_eq, mul_comm (2 ^ s), Nat.mod_mul_mod]
  rw [e]
  show BitVec.ofNat 32 A ||| BitVec.ofNat 32 (2 ^ s * b) = _
  have hlt : 2 ^ s * b + A < 2 ^ 32 := by
    have h1 : 2 ^ s * b + A < 2 ^ s * 16 := by nlinarith
    have h2 : 2 ^ s * 16 ≤ 2 ^ 32 := by
      rw [show (16 : ℕ) = 2 ^ 4 by norm_num, ← pow_add]; exact Nat.pow_le_pow_right (by norm_num) hs
    omega
  apply BitVec.eq_of_toNat_eq
  rw [BitVec.toNat_or, BitVec.toNat_ofNat, BitVec.toNat_ofNat, BitVec.toNat_ofNat, Nat.mod_eq_of_lt hlt, Nat.mod_eq_of_lt (by omega),
    Nat.mod_eq_of_lt (by omega), Nat.two_pow_add_eq_or_of_lt hA, Nat.or_comm]

theorem wordOf_eq (n : ℕ → ℕ) (h : ∀ i, n i < 16) : wordOf (fun i => BitVec.ofNat 32 (n i)) = BitVec.ofNat 32 (pack n) := by
  have h0 := h 0; have h1 := h 1; have h2 := h 2; have h3 := h 3; have h4 := h 4; have h5 := h 5; have h6 := h 6; have h7 := h 7
  unfold wordOf
  rw [or_shl (n 0) (n 1) 4 (by omega) h1 (by omega), or_shl _ (n 2) 8 (by omega) h2 (by omega), or_shl _ (n 3) 12 (by omega) h3 (by omega),
    or_shl _ (n 4) 16 (by omega) h4 (by omega), or_shl _ (n 5) 20 (by omega) h5 (by omega), or_shl _ (n 6) 24 (by omega) h6 (by omega),
    or_shl _ (n 7) 28 (by omega) h7 (by omega)]
  congr 1
  unfold pack
  omega

theorem and16 (a b c d : ℕ) (ha : a < 16) (hc : c < 16) : (a + 16 * b) &&& (c + 16 * d) = (a &&& c) + 16 * (b &&& d) := by
  have hac : a &&& c < 16 := lt_of_le_of_lt Nat.and_le_left ha
  have hm : ((a + 16 * b) &&& (c + 16 * d)) % 2 ^ 4 = ((a &&& c) + 16 * (b &&& d)) % 2 ^ 4 := by
    rw [Nat.and_mod_two_pow, show (a + 16 * b) % 2 ^ 4 = a by omega, show (c + 16 * d) % 2 ^ 4 = c by omega]; omega
  have hd : ((a + 16 * b) &&& (c + 16 * d)) / 2 ^ 4 = ((a &&& c) + 16 * (b &&& d)) / 2 ^ 4 := by
    rw [Nat.and_div_two_pow, show (a + 16 * b) / 2 ^ 4 = b by omega, show (c + 16 * d) / 2 ^ 4 = d by omega]; omega
  omega

theorem or16 (a b c d : ℕ) (ha : a < 16) (hc : c < 16) : (a + 16 * b) ||| (c + 16 * d) = (a ||| c) + 16 * (b ||| d) := by
  have hac : a ||| c < 2 ^ 4 := Nat.or_lt_two_pow (by omega) (by omega)
  have hm : ((a + 16 * b) ||| (c + 16 * d)) % 2 ^ 4 = ((a ||| c) + 16 * (b ||| d)) % 2 ^ 4 := by
    rw [Nat.or_mod_two_pow, show (a + 16 * b) % 2 ^ 4 = a by omega, show (c + 16 * d) % 2 ^ 4 = c by omega]; omega
  have hd : ((a + 16 * b) ||| (c + 16 * d)) / 2 ^ 4 = ((a ||| c) + 16 * (b ||| d)) / 2 ^ 4 := by
    rw [Nat.or_div_two_pow, show (a + 16 * b) / 2 ^ 4 = b by omega, show (c + 16 * d) / 2 ^ 4 = d by omega]; omega
  omega

theorem pack_and (n m : ℕ → ℕ) (h : ∀ i, n i < 16) (h' : ∀ i, m i < 16) : pack n &&& pack m = pack fun i => n i &&& m i := by
  unfold pack
  rw [and16 _ _ _ _ (h 0) (h' 0), and16 _ _ _ _ (h 1) (h' 1), and16 _ _ _ _ (h 2) (h' 2), and16 _ _ _ _ (h 3) (h' 3),
    and16 _ _ _ _ (h 4) (h' 4), and16 _ _ _ _ (h 5) (h' 5), and16 _ _ _ _ (h 6) (h' 6)]

theorem pack_or (n m : ℕ → ℕ) (h : ∀ i, n i < 16) (h' : ∀ i, m i < 16) : pack n ||| pack m = pack fun i => n i ||| m i := by
  unfold pack
  rw [or16 _ _ _ _ (h 0) (h' 0), or16 _ _ _ _ (h 1) (h' 1), or16 _ _ _ _ (h 2) (h' 2), or16 _ _ _ _ (h 3) (h' 3),
    or16 _ _ _ _ (h 4) (h' 4), or16 _ _ _ _ (h 5) (h' 5), or16 _ _ _ _ (h 6) (h' 6)]

theorem pack_add (n m : ℕ → ℕ) : pack n + pack m = pack fun i => n i + m i := by unfold pack; ring

theorem pack_lt (n : ℕ → ℕ) (h : ∀ i, n i < 16) : pack n < 2 ^ 32 := by
  have h0 := h 0; have h1 := h 1; have h2 := h 2; have h3 := h 3; have h4 := h 4; have h5 := h 5; have h6 := h 6; have h7 := h 7
  unfold pack; omega

theorem pack_seven : pack (fun _ => 7) = 2004318071 := by norm_num [pack]

theorem keep_digit (k : ℕ) (h : k < 16) (h8 : k ≠ 8) : k &&& (((k &&& 7) + 7) ||| 7) = k := by
  interval_cases k <;> first | rfl | exact absurd rfl h8

theorem keepW_eq (n : ℕ → ℕ) (h : ∀ i, n i < 16) (h8 : ∀ i, n i ≠ 8) : keepW (BitVec.ofNat 32 (pack n)) = BitVec.ofNat 32 (pack n) := by
  have a7 : ∀ i, n i &&& 7 ≤ 7 := fun i => Nat.and_le_right
  have e7 : (2004318071#32 : BitVec 32) = BitVec.ofNat 32 (pack fun _ => 7) := by rw [pack_seven]
  show BitVec.ofNat 32 (pack n) &&& (((BitVec.ofNat 32 (pack n) &&& 2004318071#32) + 2004318071#32) ||| 2004318071#32) = _
  apply BitVec.eq_of_toNat_eq
  have p7 : pack (fun _ => 7) < 2 ^ 32 := pack_lt _ (fun _ => by norm_num)
  have pn := pack_lt n h
  rw [e7, BitVec.toNat_and, BitVec.toNat_or, BitVec.toNat_add, BitVec.toNat_and, BitVec.toNat_ofNat, BitVec.toNat_ofNat,
    Nat.mod_eq_of_lt p7, Nat.mod_eq_of_lt pn, pack_and n _ h (fun _ => by norm_num), pack_add,
    Nat.mod_eq_of_lt (pack_lt _ fun i => by have := a7 i; omega), pack_or _ _ (fun i => by have := a7 i; omega) (fun _ => by norm_num),
    pack_and n _ h (fun i => by
      have := a7 i
      exact Nat.or_lt_two_pow (n := 4) (by omega) (by norm_num))]
  unfold pack
  simp only [keep_digit _ (h _) (h8 _)]

theorem pack_byte (n : ℕ → ℕ) (h : ∀ i, n i < 16) (j : ℕ) (hj : j < 4) :
    (BitVec.ofNat 32 (pack n)).extractLsb' (8 * j) 8 = BitVec.ofNat 8 (n (2 * j) + 16 * n (2 * j + 1)) := by
  have h0 := h 0; have h1 := h 1; have h2 := h 2; have h3 := h 3; have h4 := h 4; have h5 := h 5; have h6 := h 6; have h7 := h 7
  apply BitVec.eq_of_toNat_eq
  rw [BitVec.extractLsb'_toNat, BitVec.toNat_ofNat, BitVec.toNat_ofNat, Nat.mod_eq_of_lt (pack_lt n h), Nat.shiftRight_eq_div_pow]
  unfold pack
  interval_cases j <;> simp only [Nat.reduceMul, Nat.reduceAdd] <;> omega

/-- thirty-two-bit elements read at eight bits: result row `p` of a column is byte `p % 4` of source row `p / 4` -/
theorem bitcast_32_8 {R r n : ℕ} (x : (⟨2, ![R, n]⟩ : Shape).Idx → BitVec 32)
    (h : (⟨2, ![R, n]⟩ : Shape).Bitcasts 32 ⟨2, ![r, n]⟩ 8) (p : Fin r) (l : Fin n) (w : Fin R) (hw : w.val = p.val / 4) :
    bitcast ⟨2, ![r, n]⟩ 8 x h (ValueIdx.ix2 p l) = (x (ValueIdx.ix2 w l)).extractLsb' (8 * (p.val % 4)) 8 := by
  apply BitVec.eq_of_getLsbD_eq
  intro i hi
  rw [bitcast_getLsbD x h _ i hi (by decide), BitVec.getLsbD_extractLsb']
  have hrow : (⟨2, ![r, n]⟩ : Shape).row (ValueIdx.ix2 p l) = p.val := rfl
  have ep : (p.val * 8 + i) / 32 = p.val / 4 := by omega
  have eq : (p.val * 8 + i) % 32 = 8 * (p.val % 4) + i := by omega
  simp only [hrow, ep, eq, hi, decide_true, Bool.true_and]
  congr 2
  funext c
  match c with
  | ⟨0, _⟩ => exact Fin.ext ((h.srcIdx_row _ _ _ ⟨0, Nat.zero_lt_two⟩ rfl).trans (ep.trans hw.symm))
  | ⟨1, _⟩ => exact Fin.ext (h.srcIdx_other _ _ _ ⟨1, Nat.one_lt_two⟩ (by show ¬ 1 + 2 = 2; omega))

end Cert.Mx

end

end
-- ==== Proof.TileVal.lean ====
/- A tile of the kernel from its rotated values as real numbers: exponents, scaled elements, codes, the values read back, and
   the bytes of scales and of codes. `ρ` and `rb` are the rotated values and the random bytes of the whole array; the tile
   starts at row `256 T` and column `C`. -/
module

public import proofs.«01_k».proof.Proof.TileRead
public import proofs.«01_k».proof.Proof.Codes
public import proofs.«01_k».proof.Proof.Spec
public import proofs.«01_k».proof.Proof.Nibble

@[expose] public section

set_option maxRecDepth 16384

noncomputable section

namespace Cert.KernelIdeal.Value

open Cert.KernelIdeal Cert.KernelIdeal.Gen Idealize.ShloMosaic Idealize.ShloMosaic.TcCoe Idealize.SL.Sem Cert.Mx

variable (x0 d : Vec Ideal S256x256 .bf16) (r : Vec Ideal S256x256 .i8) (ρ : ℕ → ℕ → ℝ) (rb : ℕ → ℕ → ℕ) (T C : ℕ)

/-- the tile's rotated values are `ρ`'s -/
def IsTile : Prop :=
  (∀ k o, |ρ k o| ≤ (2 : ℝ) ^ (128 : ℤ)) ∧
  (∀ (g : Fin 8) (l : Fin 32) (b : Fin 256),
    (k0_pay46 (F := Ideal) x0 d (ix3 g l b) : EReal) = ((ρ ((T * 8 + g.val) * 32 + l.val) (C + b.val) : ℝ) : EReal))

/-- the tile's random bytes are `rb`'s -/
def IsRand : Prop := ∀ a b : Fin 256, (r (ix2 a b) : BitVec 8).toNat = rb (T * 256 + a.val) (C + b.val)

variable {x0 d r ρ rb T C}

theorem k47_fold (x0 d : Vec Ideal S256x256 .bf16) (g : Fin 8) (b : Fin 256) :
    (k0_pay47 (F := Ideal) x0 d (ix2 g b) : EReal) = gmax (fun l => (k0_pay46 (F := Ideal) x0 d (ix3 g l b) : EReal)) := by
  unfold gmax
  pointwise [k0_pay47]

theorem k47_val (h : IsTile x0 d ρ T C) (g : Fin 8) (b : Fin 256) :
    (k0_pay47 (F := Ideal) x0 d (ix2 g b) : EReal)
      = gmax (fun l => ((ρ ((T * 8 + g.val) * 32 + l.val) (C + b.val) : ℝ) : EReal)) := by
  rw [k47_fold]
  congr 1
  funext l
  exact h.2 g l b

theorem tExp_val (h : IsTile x0 d ρ T C) (g : Fin 8) (b : Fin 256) :
    tExp x0 d (ix2 g b) = BitVec.ofInt 32 (expo ρ (T * 8 + g.val) (C + b.val)) := by
  rw [tExp_at]
  unfold tZero tV
  rw [k47_val h]
  exact (expo_spec ρ h.1 _ _).2.2.1

/-- multiplying by the power of two of minus the exponent -/
theorem yOf_val (x : ℝ) (e : ℤ) (h0 : -125 ≤ e) (h1 : e ≤ 126) :
    yOf (x : EReal) (BitVec.ofInt 32 e) = ((x * (2 : ℝ) ^ (-e) : ℝ) : EReal) := by
  unfold yOf
  rw [neg_bits, pow2_bits _ (by omega) (by omega), ← EReal.coe_mul]

theorem tY_val (h : IsTile x0 d ρ T C) (a b : Fin 256) :
    (tY x0 d (ix2 a b) : EReal) = ((scaled ρ (T * 256 + a.val) (C + b.val) : ℝ) : EReal) := by
  rw [tY_at, tExp_val h, h.2]
  have hs := expo_spec ρ h.1 (T * 8 + a.val / 32) (C + b.val)
  rw [yOf_val _ _ hs.1 hs.2.1]
  unfold scaled
  have e1 : (T * 8 + a.val / 32) * 32 + a.val % 32 = T * 256 + a.val := by omega
  have e2 : (T * 256 + a.val) / 32 = T * 8 + a.val / 32 := by omega
  simp only [e1, e2]

theorem tDq_val (h : IsTile x0 d ρ T C) (hr : IsRand r rb T C) (a b : Fin 256) :
    (tDq x0 d r (ix2 a b) : EReal) = ((dqv ρ rb (T * 256 + a.val) (C + b.val) : ℝ) : EReal) := by
  have hs := expo_spec ρ h.1 (T * 8 + a.val / 32) (C + b.val)
  rw [tDq_at, tMag_at, tClip_at, tY_val h, tExp_val h, kVal_eq, hr a b]
  rw [pow2_bits _ (by have := hs.1; simp only; omega) (by have := hs.2.1; simp only; omega), ← EReal.coe_mul]
  unfold dqv code
  have e2 : (T * 256 + a.val) / 32 = T * 8 + a.val / 32 := by omega
  simp only [e2]

theorem tScales_val (h : IsTile x0 d ρ T C) (g : Fin 8) (b : Fin 256) :
    (tScales x0 d (ix2 g b) : BitVec 8) = scaleByte ρ (T * 8 + g.val) (C + b.val) := by
  rw [tScales_at, tExp_val h]
  rfl

theorem code_val (h : IsTile x0 d ρ T C) (hr : IsRand r rb T C) (f : Fin 32) (a : Fin 8) (b : Fin 256) :
    (k0_pay66 (F := Ideal) (tClip x0 d r) (tMag x0 d r) (tMagLow x0 d r) (ix3 f a b) : BitVec 32)
      = BitVec.ofNat 32 (code ρ rb (T * 256 + f.val * 8 + a.val) (C + b.val)) := by
  have e3 : T * 256 + (f.val * 8 + a.val) = T * 256 + f.val * 8 + a.val := by omega
  rw [code_at, tMag_at, tClip_at, tY_val h, kCode_eq, hr]
  unfold code
  simp only [e3]

end Cert.KernelIdeal.Value

end

end
-- ==== Proof.CodesVal.lean ====
/- The bytes of codes of a tile: eight codes in a word, four bytes out of it. -/
module

public import proofs.«01_k».proof.Proof.TileVal

@[expose] public section

set_option maxRecDepth 16384

noncomputable section

namespace Cert.KernelIdeal.Value

open Cert.KernelIdeal Cert.KernelIdeal.Gen Idealize.ShloMosaic Idealize.ShloMosaic.TcCoe Idealize.SL.Sem Cert.Mx

variable {x0 d : Vec Ideal S256x256 .bf16} {r : Vec Ideal S256x256 .i8} {ρ : ℕ → ℕ → ℝ} {rb : ℕ → ℕ → ℕ} {T C : ℕ}

/-- the words of eight codes -/
def words (N : IVec S32x8x256 32) (A : IVec S32x256 32) (B : IVec S32x1x256 32) : IVec S32x256 32 :=
  ori (ori (ori A (shli (shapeCast S32x256 B shapeCasts_S32x1x256_S32x256) (broadcast S32x256 20#32)))
      (shli (shapeCast S32x256 (extractStridedSlice S32x1x256 ![0, 6, 0] N slices_S32x8x256_o0_6_0_S32x1x256) shapeCasts_S32x1x256_S32x256)
        (broadcast S32x256 24#32)))
    (shli (shapeCast S32x256 (extractStridedSlice S32x1x256 ![0, 7, 0] N slices_S32x8x256_o0_7_0_S32x1x256) shapeCasts_S32x1x256_S32x256)
      (broadcast S32x256 28#32))

/-- the words with the codes of eight cleared -/
def kept (W : IVec S32x256 32) : IVec S32x256 32 := fun i => keepW (W i)

theorem tCodes_words (x0 d : Vec Ideal S256x256 .bf16) (r : Vec Ideal S256x256 .i8) :
    tCodes x0 d r = bitcast S128x256 8 (kept (words (k0_pay66 (F := Ideal) (tClip x0 d r) (tMag x0 d r) (tMagLow x0 d r))
      (k0_pay67 (F := Ideal) (tClip x0 d r) (tMag x0 d r) (tMagLow x0 d r))
      (k0_pay68 (F := Ideal) (tClip x0 d r) (tMag x0 d r) (tMagLow x0 d r)))) bitcasts_S32x256_w32_S128x256_w8 := rfl

theorem words_at (v86 v87 : FVec Ideal S256x256 .f32) (v91 : IVec S256x256 1) (w : Fin 32) (b : Fin 256) :
    words (k0_pay66 (F := Ideal) v86 v87 v91) (k0_pay67 (F := Ideal) v86 v87 v91) (k0_pay68 (F := Ideal) v86 v87 v91) (ix2 w b)
      = wordOf (fun i => if h : i < 8 then (k0_pay66 (F := Ideal) v86 v87 v91 (ix3 w ⟨i, h⟩ b) : BitVec 32) else 0#32) := by
  unfold wordOf
  simp only [Nat.reduceLT, dite_true]
  pointwise [words, k0_pay67, k0_pay68]

theorem tCodes_val (h : IsTile x0 d ρ T C) (hr : IsRand r rb T C) (p : Fin 128) (b : Fin 256) :
    (tCodes x0 d r (ix2 p b) : BitVec 8) = codeByte ρ rb (T * 128 + p.val) (C + b.val) := by
  rw [tCodes_words]
  refine (bitcast_32_8 (R := 32) (r := 128) (n := 256) _ bitcasts_S32x256_w32_S128x256_w8 p b ⟨p.val / 4, by omega⟩ rfl).trans ?_
  have e := words_at (tClip x0 d r) (tMag x0 d r) (tMagLow x0 d r) ⟨p.val / 4, by omega⟩ b
  have e2 : wordOf (fun i => if h : i < 8 then (k0_pay66 (F := Ideal) (tClip x0 d r) (tMag x0 d r) (tMagLow x0 d r)
        (ix3 (⟨p.val / 4, by omega⟩ : Fin 32) (⟨i, h⟩ : Fin 8) b) : BitVec 32) else 0#32)
      = wordOf (fun i => BitVec.ofNat 32 (code ρ rb (T * 256 + p.val / 4 * 8 + i) (C + b.val))) := by
    unfold wordOf
    simp only [Nat.reduceLT, dite_true, code_val h hr]
  have hk : keepW (words (k0_pay66 (F := Ideal) (tClip x0 d r) (tMag x0 d r) (tMagLow x0 d r))
      (k0_pay67 (F := Ideal) (tClip x0 d r) (tMag x0 d r) (tMagLow x0 d r))
      (k0_pay68 (F := Ideal) (tClip x0 d r) (tMag x0 d r) (tMagLow x0 d r)) (ix2 ⟨p.val / 4, by omega⟩ b))
      = BitVec.ofNat 32 (pack fun i => code ρ rb (T * 256 + p.val / 4 * 8 + i) (C + b.val)) := by
    rw [e, e2, wordOf_eq _ (fun i => code_lt _ _ _ _), keepW_eq _ (fun i => code_lt _ _ _ _) (fun i => code_ne _ _ _ _)]
  refine (congrArg (fun w : BitVec 32 => w.extractLsb' (8 * (p.val % 4)) 8) hk).trans ?_
  rw [pack_byte _ (fun i => code_lt _ _ _ _) _ (Nat.mod_lt _ (by decide))]
  unfold codeByte
  have a1 : T * 256 + p.val / 4 * 8 + 2 * (p.val % 4) = 2 * (T * 128 + p.val) := by omega
  have a2 : T * 256 + p.val / 4 * 8 + (2 * (p.val % 4) + 1) = 2 * (T * 128 + p.val) + 1 := by omega
  simp only [a1, a2]

end Cert.KernelIdeal.Value

end

end
-- ==== Proof.KVal.lean ====
/- The kernel's three results from the rotated values as real numbers. -/
module

public import proofs.«01_k».proof.Proof.KRead
public import proofs.«01_k».proof.Proof.CodesVal

@[expose] public section

set_option maxRecDepth 16384

noncomputable section

namespace Cert.KernelIdeal.Value

open Cert.KernelIdeal Cert.KernelIdeal.Gen Idealize.ShloMosaic Idealize.ShloMosaic.TcCoe Idealize.SL.Sem Cert.Mx

variable (m : (ℓ : Loc nD τ sig) → Buf (Elt Ideal) ℓ) (c : Dev nD) {ρ : ℕ → ℕ → ℝ}

/-- the rotated values are `ρ`'s -/
def IsRot (ρ : ℕ → ℕ → ℝ) : Prop := ∀ k o,
  rotated (rowE (m (c, Proc.tc.devRef main_arg0))) (signE (m (c, Proc.tc.devRef main_arg1))) k o = ((ρ k o : ℝ) : EReal)
    ∧ |ρ k o| ≤ (2 : ℝ) ^ (128 : ℤ)

variable {m c}

theorem isTile (h : IsRot m c ρ) (τ : Fin 120) (χ : Fin 40) :
    IsTile (V m c main_v26) (aTile (V m c main_v27) τ χ) ρ τ.val (χ.val * 256) :=
  ⟨fun k o => (h k o).2, fun g l b => (k46_at m c τ χ g l b).trans (h _ _).1⟩

theorem isRand (τ : Fin 120) (χ : Fin 40) :
    IsRand (aTile (V m c main_v28) τ χ) (randN (m (c, Proc.tc.devRef main_arg2))) τ.val (χ.val * 256) := by
  intro a b
  have e := v28_at m c ⟨256 * τ.val + a.val, by omega⟩ ⟨256 * χ.val + b.val, by omega⟩
  have e1 : τ.val * 256 + a.val = 256 * τ.val + a.val := by omega
  have e2 : χ.val * 256 + b.val = 256 * χ.val + b.val := by omega
  rw [e1, e2]
  exact e

theorem codes_val (h : IsRot m c ρ) (k : Fin 15360) (o : Fin 10240) :
    G4 m c (ix2 k o) = codeByte ρ (randN (m (c, Proc.tc.devRef main_arg2))) k.val o.val := by
  refine (G4_at m c k o).trans ?_
  refine (tCodes_val (isTile h ⟨k.val / 128, by omega⟩ ⟨o.val / 256, by omega⟩) (isRand _ _)
    ⟨k.val % 128, by omega⟩ ⟨o.val % 256, by omega⟩).trans ?_
  have e1 : k.val / 128 * 128 + k.val % 128 = k.val := by omega
  have e2 : o.val / 256 * 256 + o.val % 256 = o.val := by omega
  simp only [e1, e2]

theorem scales_val (h : IsRot m c ρ) (k : Fin 960) (o : Fin 10240) :
    G5 m c (ix2 k o) = scaleByte ρ k.val o.val := by
  refine (G5_at m c k o).trans ?_
  refine (tScales_val (isTile h ⟨k.val / 8, by omega⟩ ⟨o.val / 256, by omega⟩)
    ⟨k.val % 8, by omega⟩ ⟨o.val % 256, by omega⟩).trans ?_
  have e1 : k.val / 8 * 8 + k.val % 8 = k.val := by omega
  have e2 : o.val / 256 * 256 + o.val % 256 = o.val := by omega
  simp only [e1, e2]

theorem dq_val (h : IsRot m c ρ) (k : Fin 30720) (o : Fin 10240) :
    dqArr (V m c main_v26) (V m c main_v27) (V m c main_v28) k o
      = ((dqv ρ (randN (m (c, Proc.tc.devRef main_arg2))) k.val o.val : ℝ) : EReal) := by
  refine (tDq_val (isTile h ⟨k.val / 256, by omega⟩ ⟨o.val / 256, by omega⟩) (isRand _ _)
    ⟨k.val % 256, by omega⟩ ⟨o.val % 256, by omega⟩).trans ?_
  have e1 : k.val / 256 * 256 + k.val % 256 = k.val := by omega
  have e2 : o.val / 256 * 256 + o.val % 256 = o.val := by omega
  simp only [e1, e2]

/-- an activation (`0` outside), read as a number -/
def actE (A : (⟨S2560x30720, .bf16⟩ : BufTy).Contents (Elt Ideal)) (p : Fin 2560) (k : ℕ) : EReal :=
  if h : k < 30720 then A (ix2 p ⟨k, h⟩) else (0 : EReal)

theorem dwArr_val (h : IsRot m c ρ) (o : Fin 10240) (p : Fin 2560) :
    dwArr (V m c main_v26) (V m c main_v27) (V m c main_v28) (V m c main_arg3) o p
      = ∑ k : Fin 30720, actE (m (c, Proc.tc.devRef main_arg3)) p k.val
        * ((dqv ρ (randN (m (c, Proc.tc.devRef main_arg2))) k.val o.val : ℝ) : EReal) := by
  unfold dwArr
  refine Finset.sum_congr rfl fun k _ => ?_
  rw [dq_val h]
  unfold actE
  rw [dif_pos k.isLt]
  have e : V m c main_arg3 = m (c, Proc.tc.devRef main_arg3) := V_main_arg3 m c
  rw [e]

theorem dw_val (h : IsRot m c ρ) (o : Fin 10240) (p : Fin 2560) :
    @Eq EReal (G6 m c (ix2 o p)) (∑ k : Fin 30720, actE (m (c, Proc.tc.devRef main_arg3)) p k.val
      * ((dqv ρ (randN (m (c, Proc.tc.devRef main_arg2))) k.val o.val : ℝ) : EReal)) :=
  (G6_at m c o p).trans (dwArr_val h o p)

end Cert.KernelIdeal.Value

end

end
-- ==== Proof.RefRead.lean ====
/- The reference's intermediate arrays at an index, each from the arrays before it. -/
module

public import proofs.«01_k».proof.Proof.Gen.ReferenceIdeal.Run
public import proofs.«01_k».proof.Proof.Inputs
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Mx

variable (V : Valuation τ sig (Elt Ideal))

/-- the gradient, read as a number -/
abbrev gradAt (b : Fin 5) (k : Fin 6144) (o : Fin 10240) : EReal := V (Proc.tc.devRef main_arg0) (ix3 b k o)
/-- the rotated gradient, read as a number -/
abbrev rotAt (b : Fin 5) (g : Fin 192) (l : Fin 32) (o : Fin 10240) : EReal := res_main_v24 V (ix4 b g l o)
/-- a group's largest size, read as a number -/
abbrev maxAt (i : S5x192x10240.Idx) : EReal := res_main_v26 V i
/-- a group's exponent, read as an integer -/
abbrev expAt (b : Fin 5) (g : Fin 192) (o : Fin 10240) : BitVec 32 := res_main_v42 V (ix3 b g o)

theorem v24_sum (b : Fin 5) (g : Fin 192) (l : Fin 32) (o : Fin 10240) :
    rotAt V b g l o
      = ∑ x : Fin 64, gradAt V b ⟨g.val / 2 * 64 + x.val, by omega⟩ o
          * rotE (BitVec.ofNat 32 (g.val % 2 * 32 + l.val)) (BitVec.ofNat 32 x.val) (V (Proc.tc.devRef main_arg1) (ix1 x) : EReal) := by
  unfold rotAt
  pointwise [res_main_v24]
  rfl

theorem v24_at (b : Fin 5) (g : Fin 192) (l : Fin 32) (o : Fin 10240) :
    (res_main_v24 V (ix4 b g l o) : EReal)
      = rotated (rowE (V (Proc.tc.devRef main_arg0))) (signE (V (Proc.tc.devRef main_arg1)))
          ((b.val * 192 + g.val) * 32 + l.val) o.val := by
  refine (v24_sum V b g l o).trans ?_
  unfold rotated
  refine Finset.sum_congr rfl fun x _ => ?_
  have h1 : ((b.val * 192 + g.val) * 32 + l.val) % 64 = g.val % 2 * 32 + l.val := by omega
  have h2 : ((b.val * 192 + g.val) * 32 + l.val) / 64 * 64 + x.val = b.val * 6144 + (g.val / 2 * 64 + x.val) := by omega
  rw [h1, h2]
  unfold rowE signE
  rw [dif_pos x.isLt, dif_pos ⟨by omega, o.isLt⟩]
  have e1 : (⟨(b.val * 6144 + (g.val / 2 * 64 + x.val)) / 6144, by omega⟩ : Fin 5) = b :=
    Fin.ext (by show (b.val * 6144 + (g.val / 2 * 64 + x.val)) / 6144 = b.val; omega)
  have e2 : (⟨(b.val * 6144 + (g.val / 2 * 64 + x.val)) % 6144, by omega⟩ : Fin 6144) = ⟨g.val / 2 * 64 + x.val, by omega⟩ :=
    Fin.ext (by show (b.val * 6144 + (g.val / 2 * 64 + x.val)) % 6144 = g.val / 2 * 64 + x.val; omega)
  rw [e1, e2]
  rfl

theorem v26_at (b : Fin 5) (g : Fin 192) (o : Fin 10240) :
    (res_main_v26 V (ix3 b g o) : EReal) = gmax (fun l => (res_main_v24 V (ix4 b g l o) : EReal)) := by
  unfold gmax
  pointwise [res_main_v26]
  exact (Shape.ReducesTo.fold_fiber_r4_a2 (n0 := 5) (n1 := 192) (n2 := 32) (n3 := 10240) reducesTo_S5x192x32x10240_S5x192x10240_d2
    (ix3 b g o) max (Ideal.ofBits .f32 4286578688#32) (fun x => (FloatOps.absf (F := Ideal) (φ := .f32) (res_main_v24 V x) : EReal)))

/-- a product with a constant, at any shape -/
theorem scale_at (s : Shape) (h : S_.BroadcastsInDim s (![] : Fin 0 → Fin s.rank)) (A : FVec Ideal s .f32) (w : BitVec 32) (i : s.Idx) :
    mulf A (broadcastInDim s ![] h (constant S_ .f32 w)) i = (A i * Ideal.ofBits .f32 w : EReal) := by
  rfl

theorem v28_at (i : S5x192x10240.Idx) : res_main_v28 V i = maxAt V i * Ideal.ofBits .f32 1042983595#32 :=
  scale_at S5x192x10240 bcast_S_S5x192x10240 (res_main_v26 V) 0x3E2AAAAB#32 i

/-- the exponent, at any shape -/
theorem rexp_at (s : Shape) (h : S_.BroadcastsInDim s (![] : Fin 0 → Fin s.rank)) (A B : FVec Ideal s .f32) (i : s.Idx) :
    select (cmpf .oeq A (broadcastInDim s ![] h (constant S_ .f32 0x00000000#32)))
      (broadcastInDim s ![] h (id (constantI S_ 32 0#32)))
      (fptosi 32 (select (cmpf .olt B (broadcastInDim s ![] h (constant S_ .f32 0x00800000#32)))
        (broadcastInDim s ![] h (id (constant S_ .f32 0x00000000#32)))
        (addf (Host.floor (Host.divf (Host.log B) (broadcastInDim s ![] h (Host.log (constant S_ .f32 0x40000000#32)))))
          (broadcastInDim s ![] h (constant S_ .f32 0x3F800000#32))))) i
      = rExp (A i) (B i) := by
  rfl

theorem v42_at (i : S5x192x10240.Idx) : res_main_v42 V i = rExp (res_main_v26 V i) (res_main_v28 V i) :=
  rexp_at S5x192x10240 bcast_S_S5x192x10240 (res_main_v26 V) (res_main_v28 V) i

theorem v49_at (b : Fin 5) (g : Fin 192) (l : Fin 32) (o : Fin 10240) :
    (res_main_v49 V (ix4 b g l o) : EReal) = rotAt V b g l o
      * Ideal.pow (Ideal.ofBits .f32 1073741824#32)
          (FloatOps.sitofp (F := Ideal) .f32 (-expAt V b g o) : EReal) := by
  unfold rotAt expAt
  pointwise [res_main_v49]

theorem v56_at (b : Fin 5) (g : Fin 192) (l : Fin 32) (o : Fin 10240) :
    (res_main_v56 V (ix4 b g l o) : EReal) = rStep (res_main_v49 V (ix4 b g l o)) := by
  unfold rStep
  pointwise [res_main_v56, res_main_v50]

theorem v72_at (b : Fin 5) (g : Fin 192) (l : Fin 32) (o : Fin 10240) :
    (res_main_v72 V (ix4 b g l o) : EReal)
      = rGrid (res_main_v49 V (ix4 b g l o)) (V (Proc.tc.devRef main_arg2) (ix3 b ⟨g.val * 32 + l.val, by omega⟩ o) : BitVec 8) := by
  unfold rGrid
  simp only [← v56_at]
  pointwise [res_main_v72, res_main_v58, res_main_v57, res_main_v50]

theorem v97_at (b : Fin 5) (k : Fin 3072) (l : Fin 2) (o : Fin 10240) :
    (res_main_v97 V (ix4 b k l o) : BitVec 32)
      = rCode (res_main_v49 V (ix4 b ⟨k.val / 16, by omega⟩ ⟨k.val % 16 * 2 + l.val, by omega⟩ o))
          (res_main_v72 V (ix4 b ⟨k.val / 16, by omega⟩ ⟨k.val % 16 * 2 + l.val, by omega⟩ o)) := by
  unfold rCode
  pointwise [res_main_v97]

theorem v105_at (b : Fin 5) (k : Fin 3072) (o : Fin 10240) :
    (res_main_v105 V (ix3 b k o) : BitVec 8)
      = BitVec.setWidth 8 (IntOp.ori (res_main_v97 V (ix4 b k 0 o) : BitVec 32) (IntOp.shli .host (res_main_v97 V (ix4 b k 1 o)) 4#32)) := by
  pointwise [res_main_v105]

theorem v108_at (b : Fin 5) (g : Fin 192) (o : Fin 10240) :
    (res_main_v108 V (ix3 b g o) : BitVec 8) = BitVec.setWidth 8 (IntOp.addi (res_main_v42 V (ix3 b g o)) 127#32) := by
  pointwise [res_main_v108]

theorem v115_at (b : Fin 5) (g : Fin 192) (o : Fin 10240) :
    (res_main_v115 V (ix3 b g o) : EReal) = Ideal.pow (Ideal.ofBits .f32 1073741824#32)
      (FloatOps.sitofp (F := Ideal) .f32 (IntOp.subi (BitVec.setWidth 32 (res_main_v108 V (ix3 b g o) : BitVec 8)) 127#32) : EReal) := by
  pointwise [res_main_v115]

/-- the code of the first of two tokens, from their byte -/
theorem v118_at (b : Fin 5) (k : Fin 3072) (o : Fin 10240) : (res_main_v118 V (ix3 b k o) : BitVec 32)
    = IntOp.andi (BitVec.setWidth 32 (res_main_v105 V (ix3 b k o) : BitVec 8)) 15#32 := by
  pointwise [res_main_v118, res_main_v116]

/-- the code of the second -/
theorem v151_at (b : Fin 5) (k : Fin 3072) (o : Fin 10240) : (res_main_v151 V (ix3 b k o) : BitVec 32)
    = IntOp.shrsi .host (BitVec.setWidth 32 (res_main_v105 V (ix3 b k o) : BitVec 8)) 4#32 := by
  pointwise [res_main_v151, res_main_v116]

theorem v141_at (b : Fin 5) (k : Fin 3072) (o : Fin 10240) : (res_main_v141 V (ix3 b k o) : EReal)
    = rMag (res_main_v118 V (ix3 b k o)) := by
  unfold rMag
  pointwise [res_main_v141, res_main_v122, res_main_v126]

theorem v174_at (b : Fin 5) (k : Fin 3072) (o : Fin 10240) : (res_main_v174 V (ix3 b k o) : EReal)
    = rMag (res_main_v151 V (ix3 b k o)) := by
  unfold rMag
  pointwise [res_main_v174, res_main_v155, res_main_v159]

end Cert.ReferenceIdeal.Value

end

end
-- ==== Proof.RefVal.lean ====
/- The reference's results from the rotated values as real numbers. `ρ` and `rb` are the rotated values and the random bytes,
   all the experts' tokens in one line. -/
module

public import proofs.«01_k».proof.Proof.RefRead

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Mx

variable (V : Valuation τ sig (Elt Ideal)) (ρ : ℕ → ℕ → ℝ) (rb : ℕ → ℕ → ℕ)

/-- the rotated values are `ρ`'s -/
def IsRot : Prop :=
  (∀ k o, |ρ k o| ≤ (2 : ℝ) ^ (128 : ℤ)) ∧
  (∀ (b : Fin 5) (g : Fin 192) (l : Fin 32) (o : Fin 10240),
    rotAt V b g l o = ((ρ ((b.val * 192 + g.val) * 32 + l.val) o.val : ℝ) : EReal))

/-- the random bytes are `rb`'s -/
def IsRnd : Prop := ∀ (b : Fin 5) (k : Fin 6144) (o : Fin 10240),
  (V (Proc.tc.devRef main_arg2) (ix3 b k o) : BitVec 8).toNat = rb (b.val * 6144 + k.val) o.val

variable {V ρ rb}

theorem v26_val (h : IsRot V ρ) (b : Fin 5) (g : Fin 192) (o : Fin 10240) :
    maxAt V (ix3 b g o) = gmax (fun l => ((ρ ((b.val * 192 + g.val) * 32 + l.val) o.val : ℝ) : EReal)) := by
  refine (v26_at V b g o).trans ?_
  congr 1
  funext l
  exact h.2 b g l o

theorem v42_val (h : IsRot V ρ) (b : Fin 5) (g : Fin 192) (o : Fin 10240) :
    expAt V b g o = BitVec.ofInt 32 (expo ρ (b.val * 192 + g.val) o.val) := by
  refine (v42_at V (ix3 b g o)).trans ?_
  have e : rExp (res_main_v26 V (ix3 b g o)) (res_main_v28 V (ix3 b g o))
      = rExp (maxAt V (ix3 b g o)) (maxAt V (ix3 b g o) * Ideal.ofBits .f32 1042983595#32) :=
    congrArg (rExp (maxAt V (ix3 b g o))) (v28_at V (ix3 b g o))
  rw [e, v26_val h]
  exact (expo_spec ρ h.1 _ _).2.2.2

theorem v49_val (h : IsRot V ρ) (b : Fin 5) (g : Fin 192) (l : Fin 32) (o : Fin 10240) :
    (res_main_v49 V (ix4 b g l o) : EReal) = ((scaled ρ ((b.val * 192 + g.val) * 32 + l.val) o.val : ℝ) : EReal) := by
  refine (v49_at V b g l o).trans ?_
  have hs := expo_spec ρ h.1 (b.val * 192 + g.val) o.val
  rw [h.2, v42_val h, rpow_neg _ hs.1 hs.2.1, ← EReal.coe_mul]
  unfold scaled
  have e2 : ((b.val * 192 + g.val) * 32 + l.val) / 32 = b.val * 192 + g.val := by omega
  rw [e2]

theorem v72_val (h : IsRot V ρ) (hr : IsRnd V rb) (b : Fin 5) (g : Fin 192) (l : Fin 32) (o : Fin 10240) :
    (res_main_v72 V (ix4 b g l o) : EReal)
      = ((gridR (scaled ρ ((b.val * 192 + g.val) * 32 + l.val) o.val) (rb ((b.val * 192 + g.val) * 32 + l.val) o.val) : ℝ) : EReal) := by
  refine (v72_at V b g l o).trans ?_
  have e : rGrid (res_main_v49 V (ix4 b g l o)) (V (Proc.tc.devRef main_arg2) (ix3 b ⟨g.val * 32 + l.val, by omega⟩ o) : BitVec 8)
      = rGrid ((scaled ρ ((b.val * 192 + g.val) * 32 + l.val) o.val : ℝ) : EReal)
          (V (Proc.tc.devRef main_arg2) (ix3 b ⟨g.val * 32 + l.val, by omega⟩ o) : BitVec 8) :=
    congrArg (fun y : EReal => rGrid y _) (v49_val h b g l o)
  rw [e, rGrid_coe, hr]
  have e3 : b.val * 6144 + (g.val * 32 + l.val) = (b.val * 192 + g.val) * 32 + l.val := by omega
  simp only [e3]

theorem v97_val (h : IsRot V ρ) (hr : IsRnd V rb) (b : Fin 5) (k : Fin 3072) (l : Fin 2) (o : Fin 10240) :
    (res_main_v97 V (ix4 b k l o) : BitVec 32) = BitVec.ofNat 32 (code ρ rb (2 * (b.val * 3072 + k.val) + l.val) o.val) := by
  refine (v97_at V b k l o).trans ?_
  have e3 : (b.val * 192 + k.val / 16) * 32 + (k.val % 16 * 2 + l.val) = 2 * (b.val * 3072 + k.val) + l.val := by omega
  have e : rCode (res_main_v49 V (ix4 b ⟨k.val / 16, by omega⟩ ⟨k.val % 16 * 2 + l.val, by omega⟩ o))
          (res_main_v72 V (ix4 b ⟨k.val / 16, by omega⟩ ⟨k.val % 16 * 2 + l.val, by omega⟩ o))
      = rCode ((scaled ρ ((b.val * 192 + k.val / 16) * 32 + (k.val % 16 * 2 + l.val)) o.val : ℝ) : EReal)
          ((gridR (scaled ρ ((b.val * 192 + k.val / 16) * 32 + (k.val % 16 * 2 + l.val)) o.val)
            (rb ((b.val * 192 + k.val / 16) * 32 + (k.val % 16 * 2 + l.val)) o.val) : ℝ) : EReal) :=
    congrArg₂ (fun y q : EReal => rCode y q) (v49_val h b ⟨k.val / 16, by omega⟩ ⟨k.val % 16 * 2 + l.val, by omega⟩ o)
      (v72_val h hr b ⟨k.val / 16, by omega⟩ ⟨k.val % 16 * 2 + l.val, by omega⟩ o)
  rw [e, rCode_eq, e3]
  rfl

theorem v105_val (h : IsRot V ρ) (hr : IsRnd V rb) (b : Fin 5) (k : Fin 3072) (o : Fin 10240) :
    (res_main_v105 V (ix3 b k o) : BitVec 8) = codeByte ρ rb (b.val * 3072 + k.val) o.val := by
  refine (v105_at V b k o).trans ?_
  rw [v97_val h hr b k 0 o, v97_val h hr b k 1 o]
  exact rByte_eq ⟨_, code_lt ρ rb (2 * (b.val * 3072 + k.val)) o.val⟩ ⟨_, code_lt ρ rb (2 * (b.val * 3072 + k.val) + 1) o.val⟩

theorem v108_val (h : IsRot V ρ) (b : Fin 5) (g : Fin 192) (o : Fin 10240) :
    (res_main_v108 V (ix3 b g o) : BitVec 8) = scaleByte ρ (b.val * 192 + g.val) o.val := by
  refine (v108_at V b g o).trans ?_
  exact congrArg (fun e : BitVec 32 => BitVec.setWidth 8 (IntOp.addi e 127#32)) (v42_val h b g o)

theorem v115_val (h : IsRot V ρ) (b : Fin 5) (g : Fin 192) (o : Fin 10240) :
    (res_main_v115 V (ix3 b g o) : EReal) = (((2 : ℝ) ^ expo ρ (b.val * 192 + g.val) o.val : ℝ) : EReal) := by
  refine (v115_at V b g o).trans ?_
  have hs := expo_spec ρ h.1 (b.val * 192 + g.val) o.val
  rw [v108_val h]
  exact rpow_scale _ hs.1 hs.2.1

theorem v118_val (h : IsRot V ρ) (hr : IsRnd V rb) (b : Fin 5) (k : Fin 3072) (o : Fin 10240) :
    (res_main_v118 V (ix3 b k o) : BitVec 32) = BitVec.ofNat 32 (code ρ rb (2 * (b.val * 3072 + k.val)) o.val) := by
  refine (v118_at V b k o).trans ?_
  rw [v105_val h hr]
  exact rLo_eq ⟨_, code_lt ρ rb (2 * (b.val * 3072 + k.val)) o.val⟩ ⟨_, code_lt ρ rb (2 * (b.val * 3072 + k.val) + 1) o.val⟩

theorem v151_val (h : IsRot V ρ) (hr : IsRnd V rb) (b : Fin 5) (k : Fin 3072) (o : Fin 10240) :
    (res_main_v151 V (ix3 b k o) : BitVec 32) = BitVec.ofNat 32 (code ρ rb (2 * (b.val * 3072 + k.val) + 1) o.val) := by
  refine (v151_at V b k o).trans ?_
  rw [v105_val h hr]
  exact rHi_eq ⟨_, code_lt ρ rb (2 * (b.val * 3072 + k.val)) o.val⟩ ⟨_, code_lt ρ rb (2 * (b.val * 3072 + k.val) + 1) o.val⟩

/-! ## The values read back -/

/-- the values of one of each two tokens, from the codes, their magnitudes and the scales -/
def half (N : IVec S5x3072x10240 32) (M : FVec Ideal S5x3072x10240 .f32) (Sc : FVec Ideal S5x192x10240 .bf16) :
    FVec Ideal S5x3072x10240 .bf16 :=
  shapeCast _ (mulf (shapeCast _ (truncf .bf16 (select (cmpi .ne (andi N (broadcastInDim S5x3072x10240 ![] bcast_S_S5x3072x10240 (constantI S_ 32 8#32)))
      (broadcastInDim S5x3072x10240 ![] bcast_S_S5x3072x10240 (constantI S_ 32 0#32))) (Host.negf M) M) bitsLt_bf16_f32) shapeCasts_S5x3072x10240_S5x192x16x10240)
    (broadcastInDim S5x192x16x10240 ![0, 1, 2, 3] bcast_S5x192x1x10240_S5x192x16x10240_0_1_2_3
      (broadcastInDim S5x192x1x10240 ![0, 1, 3] bcast_S5x192x10240_S5x192x1x10240_0_1_3 Sc))) shapeCasts_S5x192x16x10240_S5x3072x10240

theorem half_at (N : IVec S5x3072x10240 32) (M : FVec Ideal S5x3072x10240 .f32) (Sc : FVec Ideal S5x192x10240 .bf16)
    (b : Fin 5) (k : Fin 3072) (o : Fin 10240) :
    (half N M Sc (ix3 b k o) : EReal)
      = Scalar.select (IntOp.cmpi CmpIPredicate.ne (IntOp.andi (N (ix3 b k o)) 8#32) 0#32) (-(M (ix3 b k o) : EReal)) (M (ix3 b k o) : EReal)
          * (Sc (ix3 b ⟨k.val / 16, by omega⟩ o) : EReal) := by
  pointwise [half]

/-- an element whose code is `n` -/
theorem half_val (N : IVec S5x3072x10240 32) (M : FVec Ideal S5x3072x10240 .f32) (Sc : FVec Ideal S5x192x10240 .bf16)
    (b : Fin 5) (k : Fin 3072) (o : Fin 10240) (n : ℕ) (hn : n < 16) (s : ℝ)
    (hN : N (ix3 b k o) = BitVec.ofNat 32 n) (hM : (M (ix3 b k o) : EReal) = rMag (N (ix3 b k o)))
    (hS : (Sc (ix3 b ⟨k.val / 16, by omega⟩ o) : EReal) = ((s : ℝ) : EReal)) :
    (half N M Sc (ix3 b k o) : EReal) = ((cval n * s : ℝ) : EReal) := by
  rw [half_at, hM, hS, hN, EReal.coe_mul, ← rDec_eq n hn]
  rfl

theorem dot_at (L : FVec Ideal S5x3072x10240 .bf16) (A : FVec Ideal S5x3072x2560 .bf16) (o : Fin 10240) (p : Fin 2560) :
    ((Host.dotGeneral dot_S5x3072x10240_S5x3072x2560_S10240x2560_01_01_2_2_n_n none L A : FVec Ideal S10240x2560 .f32) (ix2 o p) : EReal)
      = ∑ x : Fin 5, ∑ y : Fin 3072, (L (ix3 x y o) : EReal) * (A (ix3 x y p) : EReal) := by
  pointwise

variable (V)

/-- the activations of the first of each two tokens -/
def act0 : FVec Ideal S5x3072x2560 .bf16 :=
  shapeCast _ (extractStridedSlice S5x3072x1x2560 ![0, 0, 0, 0] (res_main_v184 V) slices_S5x3072x2x2560_S5x3072x1x2560_0_0_0_0)
    shapeCasts_S5x3072x1x2560_S5x3072x2560
/-- the activations of the second -/
def act1 : FVec Ideal S5x3072x2560 .bf16 :=
  shapeCast _ (extractStridedSlice S5x3072x1x2560 ![0, 0, 1, 0] (res_main_v184 V) slices_S5x3072x2x2560_S5x3072x1x2560_0_0_1_0)
    shapeCasts_S5x3072x1x2560_S5x3072x2560

theorem act0_at (x : Fin 5) (y : Fin 3072) (p : Fin 2560) :
    act0 V (ix3 x y p) = V (Proc.tc.devRef main_arg3) (ix2 p ⟨x.val * 6144 + y.val * 2, by omega⟩) := by
  pointwise [act0, res_main_v184]
  try rfl
theorem act1_at (x : Fin 5) (y : Fin 3072) (p : Fin 2560) :
    act1 V (ix3 x y p) = V (Proc.tc.devRef main_arg3) (ix2 p ⟨x.val * 6144 + y.val * 2 + 1, by omega⟩) := by
  pointwise [act1, res_main_v184]
  try rfl

/-- the gradient of the weights -/
def refDw : FVec Ideal S10240x2560 .f32 :=
  addf (Host.dotGeneral dot_S5x3072x10240_S5x3072x2560_S10240x2560_01_01_2_2_n_n none
      (half (res_main_v118 V) (res_main_v141 V) (res_main_v115 V)) (act0 V))
    (Host.dotGeneral dot_S5x3072x10240_S5x3072x2560_S10240x2560_01_01_2_2_n_n none
      (half (res_main_v151 V) (res_main_v174 V) (res_main_v115 V)) (act1 V))

theorem sum_pairs (f : ℕ → EReal) :
    (∑ x : Fin 5, ∑ y : Fin 3072, f (x.val * 6144 + y.val * 2)) + (∑ x : Fin 5, ∑ y : Fin 3072, f (x.val * 6144 + y.val * 2 + 1))
      = ∑ k : Fin 30720, f k.val := by
  rw [← Equiv.sum_comp ((finProdFinEquiv (m := 5 * 3072) (n := 2)).trans (finCongr (by norm_num : 5 * 3072 * 2 = 30720))),
    Fintype.sum_prod_type, ← Equiv.sum_comp (finProdFinEquiv (m := 5) (n := 3072)), Fintype.sum_prod_type, ← Finset.sum_add_distrib]
  refine Finset.sum_congr rfl fun x _ => ?_
  rw [← Finset.sum_add_distrib]
  refine Finset.sum_congr rfl fun y _ => ?_
  rw [Fin.sum_univ_two]
  show f _ + f _ = f (0 + 2 * (y.val + 3072 * x.val)) + f (1 + 2 * (y.val + 3072 * x.val))
  congr 2 <;> omega

variable {V}

theorem refDw_val (h : IsRot V ρ) (hr : IsRnd V rb) (A : ℕ → EReal) (o : Fin 10240) (p : Fin 2560)
    (hA : ∀ k : Fin 30720, V (Proc.tc.devRef main_arg3) (ix2 p k) = A k.val) :
    (refDw V (ix2 o p) : EReal) = ∑ k : Fin 30720, A k.val * ((dqv ρ rb k.val o.val : ℝ) : EReal) := by
  have h0 : ∀ (x : Fin 5) (y : Fin 3072), (half (res_main_v118 V) (res_main_v141 V) (res_main_v115 V) (ix3 x y o) : EReal)
      * (act0 V (ix3 x y p) : EReal) = A (x.val * 6144 + y.val * 2) * ((dqv ρ rb (x.val * 6144 + y.val * 2) o.val : ℝ) : EReal) := by
    intro x y
    have e := half_val (res_main_v118 V) (res_main_v141 V) (res_main_v115 V) x y o _ (code_lt ρ rb (2 * (x.val * 3072 + y.val)) o.val) _
      (v118_val h hr x y o) (v141_at V x y o) (v115_val h x ⟨y.val / 16, by omega⟩ o)
    have ea := (act0_at V x y p).trans (hA ⟨x.val * 6144 + y.val * 2, by omega⟩)
    have i1 : 2 * (x.val * 3072 + y.val) = x.val * 6144 + y.val * 2 := by omega
    have i2 : (x.val * 6144 + y.val * 2) / 32 = x.val * 192 + y.val / 16 := by omega
    rw [e, ea, mul_comm]
    unfold dqv
    rw [i1, i2]
  have h1 : ∀ (x : Fin 5) (y : Fin 3072), (half (res_main_v151 V) (res_main_v174 V) (res_main_v115 V) (ix3 x y o) : EReal)
      * (act1 V (ix3 x y p) : EReal) = A (x.val * 6144 + y.val * 2 + 1) * ((dqv ρ rb (x.val * 6144 + y.val * 2 + 1) o.val : ℝ) : EReal) := by
    intro x y
    have e := half_val (res_main_v151 V) (res_main_v174 V) (res_main_v115 V) x y o _ (code_lt ρ rb (2 * (x.val * 3072 + y.val) + 1) o.val) _
      (v151_val h hr x y o) (v174_at V x y o) (v115_val h x ⟨y.val / 16, by omega⟩ o)
    have ea := (act1_at V x y p).trans (hA ⟨x.val * 6144 + y.val * 2 + 1, by omega⟩)
    have i1 : 2 * (x.val * 3072 + y.val) + 1 = x.val * 6144 + y.val * 2 + 1 := by omega
    have i2 : (x.val * 6144 + y.val * 2 + 1) / 32 = x.val * 192 + y.val / 16 := by omega
    rw [e, ea, mul_comm]
    unfold dqv
    rw [i1, i2]
  rw [← sum_pairs (fun k => A k * ((dqv ρ rb k o.val : ℝ) : EReal))]
  refine congrArg₂ (fun a b : EReal => a + b) ((dot_at _ _ o p).trans ?_) ((dot_at _ _ o p).trans ?_)
  · exact Finset.sum_congr rfl fun x _ => Finset.sum_congr rfl fun y _ => h0 x y
  · exact Finset.sum_congr rfl fun x _ => Finset.sum_congr rfl fun y _ => h1 x y

end Cert.ReferenceIdeal.Value

end

end
-- ==== Proof.Tame.lean ====
/- The precondition: its shape relations, and what it says of the gradient and of the signs. -/
module

public import proofs.«01_k».proof.Pre_tame
public import proofs.«01_k».proof.Proof.Spec
public import Idealize.ShloMosaic.Lib.Pipeline.ValueKit

@[expose] public section

noncomputable section

namespace Cert.Pre_tame

open Idealize.ShloMosaic Cert.Mx

instance facts : Cert.Pre_tame.Facts where
  bitsLt_bf16_f32 := by decide
  bcast_S_S5x6144x10240 := by decide
  reducesTo_S5x6144x10240_S_d0_1_2 := by decide
  h_S_ := by decide
  bcast_S_S64 := by decide
  reducesTo_S64_S_d0 := by decide

/-- a conjunction over a set that holds, holds at each member -/
theorem fold_andi {ι : Type} (s : Finset ι) (f : ι → BitVec 1) (b : BitVec 1)
    (h : s.fold IntOp.andi b f = 1#1) : ∀ i ∈ s, f i = 1#1 := by
  classical
  have two : ∀ x y : BitVec 1, IntOp.andi x y = 1#1 → x = 1#1 ∧ y = 1#1 := by decide
  induction s using Finset.induction_on with
  | empty => intro i hi; exact absurd hi (Finset.notMem_empty _)
  | insert a s ha ih =>
    rw [Finset.fold_insert ha] at h
    obtain ⟨h1, h2⟩ := two _ _ h
    intro i hi
    rcases Finset.mem_insert.mp hi with rfl | hi
    · exact h1
    · exact ih h2 i hi

/-- a comparison of a size with a constant, at any shape -/
theorem le_at (s : Shape) (h : S_.BroadcastsInDim s (![] : Fin 0 → Fin s.rank)) (A : FVec Ideal s .f32) (w : BitVec 32) (i : s.Idx) :
    cmpf .ole (Host.absf A) (broadcastInDim s ![] h (constant S_ .f32 w)) i
      = FloatOps.cmpf (F := Ideal) (φ := .f32) .ole (FloatOps.absf (F := Ideal) (φ := .f32) (A i)) (Ideal.ofBits .f32 w) := by
  rfl

theorem reduce_all (s : Shape) (axes : List (Fin s.rank)) (hr : s.ReducesTo axes S_) (hu : 0 < S_.numel) (x : IVec s 1) (v : IVec S_ 1)
    (j : S_.Idx) (h : Host.reduce IntOp.andi x v hr hu j = 1#1) (i : s.Idx) : x i = 1#1 := by
  rw [Host.reduce_eq_fold] at h
  refine fold_andi _ _ _ h i (Finset.mem_filter.mpr ⟨Finset.mem_univ _, ?_⟩)
  funext a
  exact a.elim0

/-- a size at most a real bound is that of a real within it -/
theorem bound (x : EReal) (w : BitVec 32) (B : ℝ) (hw : Ideal.ofBits FTy.f32 w = ((B : ℝ) : EReal))
    (h : FloatOps.cmpf (F := Ideal) (φ := .f32) .ole (FloatOps.absf (F := Ideal) (φ := .f32) x) (Ideal.ofBits .f32 w) = 1#1) :
    ∃ r : ℝ, x = ((r : ℝ) : EReal) ∧ |r| ≤ B := by
  rw [hw] at h
  have h2 : FloatOps.absf (F := Ideal) (φ := .f32) x ≤ ((B : ℝ) : EReal) := by
    by_contra hc
    have e : FloatOps.cmpf (F := Ideal) (φ := .f32) .ole (FloatOps.absf (F := Ideal) (φ := .f32) x) ((B : ℝ) : EReal)
        = BitVec.ofBool (decide (FloatOps.absf (F := Ideal) (φ := .f32) x ≤ ((B : ℝ) : EReal))) := rfl
    rw [e, decide_eq_false hc] at h
    exact absurd h (by decide)
  induction x using EReal.rec with
  | bot => exact absurd h2 (by simp [FloatOps.absf])
  | top => exact absurd h2 (by simp [FloatOps.absf])
  | coe r =>
    rw [absf_coe'] at h2
    exact ⟨r, rfl, EReal.coe_le_coe_iff.mp h2⟩

theorem c_big : Ideal.ofBits FTy.f32 0x7E000000#32 = (((2 : ℝ) ^ (125 : ℤ) : ℝ) : EReal) := by
  rw [show (2 : ℝ) ^ (125 : ℤ) = 42535295865117307932921825928971026432 by norm_num]
  simp [Ideal.ofBits, Ideal.ieee, -EReal.coe_mul]; norm_num
theorem c_unit : Ideal.ofBits FTy.f32 0x3F800000#32 = ((1 : ℝ) : EReal) := by
  simp [Ideal.ofBits, Ideal.ieee, -EReal.coe_mul]; norm_num

theorem two : ∀ x y : BitVec 1, IntOp.andi x y = 1#1 → x = 1#1 ∧ y = 1#1 := by decide

theorem grad_bound (X : FVec Ideal S5x6144x10240 .bf16) (S : FVec Ideal S64 .f32) (R : IVec S5x6144x10240 8) (A : FVec Ideal S2560x30720 .bf16)
    (h : fn X S R A = fun _ => 1#1) (i : S5x6144x10240.Idx) : ∃ r : ℝ, X i = ((r : ℝ) : EReal) ∧ |r| ≤ (2 : ℝ) ^ (125 : ℤ) := by
  have h0 := (two _ _ (congrFun h (fun a => a.elim0))).1
  have h1 := reduce_all _ _ _ _ _ _ _ h0 i
  have h2 := (le_at S5x6144x10240 Facts.bcast_S_S5x6144x10240 (extf .f32 X Facts.bitsLt_bf16_f32) 0x7E000000#32 i).symm.trans h1
  exact bound (X i) _ _ c_big h2

theorem sign_bound (X : FVec Ideal S5x6144x10240 .bf16) (S : FVec Ideal S64 .f32) (R : IVec S5x6144x10240 8) (A : FVec Ideal S2560x30720 .bf16)
    (h : fn X S R A = fun _ => 1#1) (i : S64.Idx) : ∃ r : ℝ, S i = ((r : ℝ) : EReal) ∧ |r| ≤ 1 := by
  have h0 := (two _ _ (congrFun h (fun a => a.elim0))).2
  have h1 := reduce_all _ _ _ _ _ _ _ h0 i
  have h2 := (le_at S64 Facts.bcast_S_S64 S 0x3F800000#32 i).symm.trans h1
  exact bound (S i) _ _ c_unit h2

end Cert.Pre_tame

end

end
-- ==== Proof.Result.lean ====
/- The kernel's results are the reference's: both are the same functions of the rotated values and the random bytes. -/
module

public import proofs.«01_k».proof.Proof.KVal
public import proofs.«01_k».proof.Proof.RefVal
public import proofs.«01_k».proof.Proof.Tame

@[expose] public section

set_option maxRecDepth 16384

noncomputable section

namespace Cert.Mx

open Idealize.ShloMosaic

/-- a bound on the gradient's entries bounds every row and column of it -/
theorem rowE_bound (X : (⟨⟨3, ![5, 6144, 10240]⟩, .bf16⟩ : BufTy).Contents (Elt Ideal))
    (h : ∀ i, ∃ r : ℝ, X i = ((r : ℝ) : EReal) ∧ |r| ≤ (2 : ℝ) ^ (125 : ℤ)) (k o : ℕ) :
    ∃ r : ℝ, rowE X k o = ((r : ℝ) : EReal) ∧ |r| ≤ (2 : ℝ) ^ (125 : ℤ) := by
  unfold rowE
  split
  · exact h _
  · exact ⟨0, EReal.coe_zero.symm, by rw [abs_zero]; positivity⟩

/-- and a bound on the signs every sign -/
theorem signE_bound (S : (⟨⟨1, ![64]⟩, .f32⟩ : BufTy).Contents (Elt Ideal))
    (h : ∀ i, ∃ r : ℝ, S i = ((r : ℝ) : EReal) ∧ |r| ≤ 1) (x : ℕ) :
    ∃ r : ℝ, signE S x = ((r : ℝ) : EReal) ∧ |r| ≤ 1 := by
  unfold signE
  split
  · exact h _
  · exact ⟨0, EReal.coe_zero.symm, by rw [abs_zero]; exact zero_le_one⟩

/-- the random byte, read at an expert's token -/
theorem randN_at (R : (⟨⟨3, ![5, 6144, 10240]⟩, .i8⟩ : BufTy).Contents (Elt Ideal)) (b : Fin 5) (k : Fin 6144) (o : Fin 10240) :
    (R (ValueIdx.ix3 b k o) : BitVec 8).toNat = randN R (b.val * 6144 + k.val) o.val := by
  unfold randN
  rw [dif_pos ⟨by omega, o.isLt⟩]
  have e1 : (⟨(b.val * 6144 + k.val) / 6144, by omega⟩ : Fin 5) = b :=
    Fin.ext (by show (b.val * 6144 + k.val) / 6144 = b.val; omega)
  have e2 : (⟨(b.val * 6144 + k.val) % 6144, by omega⟩ : Fin 6144) = k :=
    Fin.ext (by show (b.val * 6144 + k.val) % 6144 = k.val; omega)
  rw [e1, e2]

end Cert.Mx

namespace Cert.Result

open Cert.KernelIdeal Idealize.ShloMosaic Idealize.ShloMosaic.TcCoe Idealize.SL.Sem Cert.Mx

variable (m : (ℓ : Loc nD τ sig) → Buf (Elt Ideal) ℓ) (c : Dev nD)

/-- the rotated gradient as real numbers -/
def rho : ℕ → ℕ → ℝ :=
  rotR (rowE (m (c, Proc.tc.devRef main_arg0))) (signE (m (c, Proc.tc.devRef main_arg1)))

/-- the random bytes -/
def rnd : ℕ → ℕ → ℕ := randN (m (c, Proc.tc.devRef main_arg2))

variable {m c}

/-- Under the precondition the kernel's rotated values are finite, and of bounded size. -/
theorem kernel_rot (h : Cert.Pre_tame.fn (F := Ideal) (m (c, Proc.tc.devRef main_arg0)) (m (c, Proc.tc.devRef main_arg1))
      (m (c, Proc.tc.devRef main_arg2)) (m (c, Proc.tc.devRef main_arg3)) = fun _ => 1#1) :
    Cert.KernelIdeal.Value.IsRot m c (rho m c) := fun k o =>
  rotR_spec _ _ (rowE_bound _ (Cert.Pre_tame.grad_bound _ _ _ _ h)) (signE_bound _ (Cert.Pre_tame.sign_bound _ _ _ _ h)) k o

variable {V : Valuation Cert.ReferenceIdeal.τ Cert.ReferenceIdeal.sig (Elt Ideal)}

/-- the reference's arguments are the kernel's -/
structure Agree (V : Valuation Cert.ReferenceIdeal.τ Cert.ReferenceIdeal.sig (Elt Ideal))
    (m : (ℓ : Loc nD τ sig) → Buf (Elt Ideal) ℓ) (c : Dev nD) : Prop where
  a0 : V (Proc.tc.devRef Cert.ReferenceIdeal.main_arg0) = m (c, Proc.tc.devRef main_arg0)
  a1 : V (Proc.tc.devRef Cert.ReferenceIdeal.main_arg1) = m (c, Proc.tc.devRef main_arg1)
  a2 : V (Proc.tc.devRef Cert.ReferenceIdeal.main_arg2) = m (c, Proc.tc.devRef main_arg2)
  a3 : V (Proc.tc.devRef Cert.ReferenceIdeal.main_arg3) = m (c, Proc.tc.devRef main_arg3)

/-- The reference's rotated values are the kernel's. -/
theorem reference_rot (a : Agree V m c) (h : Cert.KernelIdeal.Value.IsRot m c (rho m c)) :
    Cert.ReferenceIdeal.Value.IsRot V (rho m c) := by
  refine ⟨fun k o => (h k o).2, fun b g l o => ?_⟩
  refine (Cert.ReferenceIdeal.Value.v24_at V b g l o).trans ?_
  rw [a.a0, a.a1]
  exact (h _ _).1

theorem reference_rnd (a : Agree V m c) : Cert.ReferenceIdeal.Value.IsRnd V (rnd m c) := by
  intro b k o
  rw [a.a2]
  exact randN_at _ b k o

/-- The packed codes agree. -/
theorem codes (a : Agree V m c) (h : Cert.KernelIdeal.Value.IsRot m c (rho m c)) :
    (shapeCast Cert.ReferenceIdeal.S15360x10240 (Cert.ReferenceIdeal.Value.res_main_v105 V)
      Cert.ReferenceIdeal.Gen.shapeCasts_S5x3072x10240_S15360x10240 : IVec S15360x10240 8) = Cert.KernelIdeal.Value.G4 m c := by
  funext i
  obtain ⟨k, o, rfl⟩ : ∃ (k : Fin 15360) (o : Fin 10240), i = ix2 k o := ⟨i 0, i 1, by funext x; fin_cases x <;> rfl⟩
  have e : (shapeCast Cert.ReferenceIdeal.S15360x10240 (Cert.ReferenceIdeal.Value.res_main_v105 V)
      Cert.ReferenceIdeal.Gen.shapeCasts_S5x3072x10240_S15360x10240 : IVec S15360x10240 8) (ix2 k o)
      = Cert.ReferenceIdeal.Value.res_main_v105 V (ix3 ⟨k.val / 3072, by omega⟩ ⟨k.val % 3072, by omega⟩ o) := by
    pointwise
  refine e.trans ((Cert.ReferenceIdeal.Value.v105_val (reference_rot a h) (reference_rnd a) _ _ _).trans ?_)
  have ek : k.val / 3072 * 3072 + k.val % 3072 = k.val := by omega
  show codeByte _ _ (k.val / 3072 * 3072 + k.val % 3072) o.val = _
  rw [ek]
  exact (Cert.KernelIdeal.Value.codes_val h k o).symm

/-- The groups' scales agree. -/
theorem scales (a : Agree V m c) (h : Cert.KernelIdeal.Value.IsRot m c (rho m c)) :
    (shapeCast Cert.ReferenceIdeal.S960x10240 (Cert.ReferenceIdeal.Value.res_main_v108 V)
      Cert.ReferenceIdeal.Gen.shapeCasts_S5x192x10240_S960x10240 : IVec S960x10240 8) = Cert.KernelIdeal.Value.G5 m c := by
  funext i
  obtain ⟨k, o, rfl⟩ : ∃ (k : Fin 960) (o : Fin 10240), i = ix2 k o := ⟨i 0, i 1, by funext x; fin_cases x <;> rfl⟩
  have e : (shapeCast Cert.ReferenceIdeal.S960x10240 (Cert.ReferenceIdeal.Value.res_main_v108 V)
      Cert.ReferenceIdeal.Gen.shapeCasts_S5x192x10240_S960x10240 : IVec S960x10240 8) (ix2 k o)
      = Cert.ReferenceIdeal.Value.res_main_v108 V (ix3 ⟨k.val / 192, by omega⟩ ⟨k.val % 192, by omega⟩ o) := by
    pointwise
  refine e.trans ((Cert.ReferenceIdeal.Value.v108_val (reference_rot a h) _ _ _).trans ?_)
  have ek : k.val / 192 * 192 + k.val % 192 = k.val := by omega
  show scaleByte _ (k.val / 192 * 192 + k.val % 192) o.val = _
  rw [ek]
  exact (Cert.KernelIdeal.Value.scales_val h k o).symm

/-- The weight gradients agree. -/
theorem grads (a : Agree V m c) (h : Cert.KernelIdeal.Value.IsRot m c (rho m c)) :
    Cert.ReferenceIdeal.Value.refDw V = Cert.KernelIdeal.Value.G6 m c := by
  funext i
  obtain ⟨o, p, rfl⟩ : ∃ (o : Fin 10240) (p : Fin 2560), i = ix2 o p := ⟨i 0, i 1, by funext x; fin_cases x <;> rfl⟩
  refine (Cert.ReferenceIdeal.Value.refDw_val (reference_rot a h) (reference_rnd a)
    (Cert.KernelIdeal.Value.actE (m (c, Proc.tc.devRef main_arg3)) p) o p fun k => ?_).trans (Cert.KernelIdeal.Value.dw_val h o p).symm
  rw [a.a3]
  unfold Cert.KernelIdeal.Value.actE
  rw [dif_pos k.isLt]

end Cert.Result

end

end
-- ==== Proof.XTile.lean ====
/- One 256 × 256 tile of the activations' kernel, as a function of the rotation matrix and the tile of the activations: the
   stages of the first tile, by which the other nineteen of a block are read too. -/
module

public import proofs.«01_k».proof.Proof.Gen.KernelXIdeal.Skeleton
public import Idealize.ShloMosaic.PureOps.Ideal

@[expose] public section

set_option maxRecDepth 16384

noncomputable section

namespace Cert.KernelXIdeal.Value

open Cert.KernelXIdeal Cert.KernelXIdeal.Gen Idealize.ShloMosaic Idealize.ShloMosaic.TcCoe

variable (x0 : Vec Ideal S256x256 .bf16) (d : Vec Ideal S256x256 .bf16)

/-- the exponent field of a group's largest size -/
def tField : IVec S8x256 32 := k0_pay9 (k0_pay5 x0 d) (k0_pay7 x0 d) (k0_pay8 x0 d) 23#32

/-- whether it is zero -/
def tSub : IVec S8x256 1 := k0_pay10 (k0_pay5 x0 d) (k0_pay7 x0 d) (k0_pay8 x0 d) 23#32

/-- the exponent of a group's scale -/
def tExp : IVec S8x256 32 := k0_pay11 (k0_pay6 x0 d) (tField x0 d) (tSub x0 d) 126#32

/-- the scaled values, clipped -/
def tClip : FVec Ideal S256x256 .f32 := k0_pay12 (k0_pay4 x0 d) (k0_pay6 x0 d) (tField x0 d) (tSub x0 d) 126#32

/-- their sizes, rounded to the four-bit grid -/
def tMag : FVec Ideal S256x256 .f32 := k0_pay13 (k0_pay4 x0 d) (k0_pay6 x0 d) (tField x0 d) (tSub x0 d) 126#32

/-- which of those sizes are below two -/
def tMagLow : IVec S256x256 1 := k0_pay14 (k0_pay4 x0 d) (k0_pay6 x0 d) (tField x0 d) (tSub x0 d) 126#32

/-- twice those sizes -/
def tMagTwo : FVec Ideal S256x256 .f32 := k0_pay15 (k0_pay4 x0 d) (k0_pay6 x0 d) (tField x0 d) (tSub x0 d) 126#32

/-- which of those sizes are below four -/
def tMagMid : IVec S256x256 1 := k0_pay16 (k0_pay4 x0 d) (k0_pay6 x0 d) (tField x0 d) (tSub x0 d) 126#32

/-- the tile's codes -/
def tCode : IVec S32x8x256 32 :=
  k0_pay18 (tClip x0 d) (tMag x0 d) (tMagLow x0 d) (tMagTwo x0 d) (tMagMid x0 d) (Scalar.ofBits .f32 0x40000000#32)

/-- the words of the first six codes of eight -/
def tWords6 : IVec S32x256 32 :=
  k0_pay19 (tClip x0 d) (tMag x0 d) (tMagLow x0 d) (tMagTwo x0 d) (tMagMid x0 d) (Scalar.ofBits .f32 0x40000000#32)

/-- the seventh code of eight -/
def tCode6 : IVec S32x256 32 :=
  k0_pay20 (tClip x0 d) (tMag x0 d) (tMagLow x0 d) (tMagTwo x0 d) (tMagMid x0 d) (Scalar.ofBits .f32 0x40000000#32)

/-- the tile's bytes of codes -/
def tCodes : Vec Ideal S128x256 .i8 := k0_pay21 (tCode x0 d) (tWords6 x0 d) (tCode6 x0 d)

/-- the tile's bytes of scales -/
def tScales : Vec Ideal S8x256 .i8 := k0_pay22 (tExp x0 d)

/-- the tile's values read back from codes and scales, transposed -/
def tXt : Vec Ideal S256x256 .bf16 := k0_pay23 (tExp x0 d) (k0_pay17 (tClip x0 d) (tMag x0 d))

end Cert.KernelXIdeal.Value

end

end
-- ==== Proof.XRound.lean ====
/- Rounding of one scaled value to the nearest point of the four-bit grid, ties to the even step, its code and the code's value:
   the kernel's way (clip the value, round its size on the step of its range, clear a code of negative zero afterwards) and the
   reference's (cap the size at six, round it on the step of its range) give the same grid point and code. -/
module

public import proofs.«01_k».proof.Proof.RRound
public import proofs.«01_k».proof.Proof.Nibble

@[expose] public section

noncomputable section

namespace Cert.Mx

open Idealize.ShloMosaic

/-! ## The grid point, on real numbers -/

/-- a size rounded to even on the step of its range -/
def nearR (t : ℝ) : ℝ := (Ideal.roundHalfEven (t / stepR t) : ℝ) * stepR t

/-- the grid point's size -/
def xgrid (y : ℝ) : ℝ := nearR (min |y| 6)

theorem rhe_le (r : ℝ) (k : ℤ) (h : r ≤ k) : Ideal.roundHalfEven r ≤ k := by
  rcases lt_or_eq_of_le h with h | h
  · have : ⌊r⌋ < k := Int.floor_lt.mpr h
    unfold Ideal.roundHalfEven
    dsimp only
    split_ifs <;> omega
  · rw [h, rhe_int]

theorem le_rhe (r : ℝ) (k : ℤ) (h : (k : ℝ) ≤ r) : k ≤ Ideal.roundHalfEven r := by
  have : k ≤ ⌊r⌋ := Int.le_floor.mpr h
  unfold Ideal.roundHalfEven
  dsimp only
  split_ifs <;> omega

/-- every grid point is one of the eight -/
theorem nearR_mem (t : ℝ) (h0 : 0 ≤ t) (h6 : t ≤ 6) : ∃ i : Fin 8, nearR t = mag i.val := by
  unfold nearR
  by_cases h2 : t < 2
  · have hs : stepR t = 1 / 2 := by unfold stepR; rw [if_pos h2]
    rw [hs]
    have f0 := le_rhe (t / (1 / 2)) 0 (by push_cast; linarith)
    have f1 := rhe_le (t / (1 / 2)) 4 (by push_cast; linarith)
    generalize Ideal.roundHalfEven (t / (1 / 2)) = k at *
    have hk : k = 0 ∨ k = 1 ∨ k = 2 ∨ k = 3 ∨ k = 4 := by omega
    rcases hk with rfl | rfl | rfl | rfl | rfl
    · exact ⟨0, by norm_num [mag]⟩
    · exact ⟨1, by norm_num [mag]⟩
    · exact ⟨2, by norm_num [mag]⟩
    · exact ⟨3, by norm_num [mag]⟩
    · exact ⟨4, by norm_num [mag]⟩
  · by_cases h4 : t < 4
    · have hs : stepR t = 1 := by unfold stepR; rw [if_neg h2, if_pos h4]
      rw [hs]
      have f0 := le_rhe (t / 1) 2 (by push_cast; linarith)
      have f1 := rhe_le (t / 1) 4 (by push_cast; linarith)
      generalize Ideal.roundHalfEven (t / 1) = k at *
      have hk : k = 2 ∨ k = 3 ∨ k = 4 := by omega
      rcases hk with rfl | rfl | rfl
      · exact ⟨4, by norm_num [mag]⟩
      · exact ⟨5, by norm_num [mag]⟩
      · exact ⟨6, by norm_num [mag]⟩
    · have hs : stepR t = 2 := by unfold stepR; rw [if_neg h2, if_neg h4]
      rw [hs]
      have f0 := le_rhe (t / 2) 2 (by push_cast; linarith)
      have f1 := rhe_le (t / 2) 3 (by push_cast; linarith)
      generalize Ideal.roundHalfEven (t / 2) = k at *
      have hk : k = 2 ∨ k = 3 := by omega
      rcases hk with rfl | rfl
      · exact ⟨6, by norm_num [mag]⟩
      · exact ⟨7, by norm_num [mag]⟩

theorem xgrid_mem (y : ℝ) : ∃ i : Fin 8, xgrid y = mag i.val :=
  nearR_mem _ (le_min (abs_nonneg y) (by norm_num)) (min_le_right _ _)

/-- which of the eight -/
def xidx (y : ℝ) : ℕ := (Classical.choose (xgrid_mem y)).val

theorem xidx_lt (y : ℝ) : xidx y < 8 := (Classical.choose (xgrid_mem y)).isLt
theorem xgrid_eq (y : ℝ) : xgrid y = mag (xidx y) := Classical.choose_spec (xgrid_mem y)

/-- the code: the grid index, with eight added for a negative value that does not round to zero -/
def xcode (y : ℝ) : ℕ := if y < 0 ∧ xidx y ≠ 0 then xidx y + 8 else xidx y

theorem xcode_lt (y : ℝ) : xcode y < 16 := by
  have := xidx_lt y
  unfold xcode; split_ifs <;> omega

/-- the kernel's code before the mask: eight is added for every negative value -/
def xpre (y : ℝ) : ℕ := if y < 0 then xidx y + 8 else xidx y

theorem xpre_lt (y : ℝ) : xpre y < 16 := by
  have := xidx_lt y
  unfold xpre; split_ifs <;> omega

/-- the mask clears the code of negative zero -/
theorem xpre_clear (y : ℝ) : (if xpre y = 8 then 0 else xpre y) = xcode y := by
  have := xidx_lt y
  unfold xpre xcode
  by_cases hy : y < 0
  · by_cases h0 : xidx y = 0
    · simp [hy, h0]
    · simp [hy, h0]
  · rw [if_neg hy, if_neg (by omega), if_neg (fun h => hy h.1)]

/-- a code's value is the signed grid point -/
theorem cval_xcode (y : ℝ) : cval (xcode y) = if y < 0 then 0 - xgrid y else xgrid y := by
  have hi := xidx_lt y
  rw [xgrid_eq]
  by_cases hy : y < 0
  · by_cases h0 : xidx y = 0
    · have e : xcode y = 0 := by unfold xcode; rw [if_neg (fun h => h.2 h0), h0]
      simp [e, h0, cval, mag]
    · have e : xcode y = xidx y + 8 := by unfold xcode; rw [if_pos ⟨hy, h0⟩]
      unfold cval
      rw [e, if_pos (by omega), if_pos hy, Nat.add_sub_cancel, zero_sub]
  · have e : xcode y = xidx y := by unfold xcode; rw [if_neg (fun h => hy h.1)]
    unfold cval
    rw [e, if_neg (by omega), if_neg hy]

/-! ## The kernel's way -/

/-- the clipped value -/
def xClip (y : EReal) : EReal := min (Ideal.ofBits FTy.f32 1086324736#32) (max (Ideal.ofBits FTy.f32 3233808384#32) y)

/-- the clipped value, on real numbers -/
def clipR (y : ℝ) : ℝ := min 6 (max (-6) y)

theorem xClip_coe (y : ℝ) : xClip (y : EReal) = ((clipR y : ℝ) : EReal) := by
  unfold xClip clipR
  rw [c_six, c_neg_six, ← EReal.coe_strictMono.monotone.map_max, ← EReal.coe_strictMono.monotone.map_min]

theorem clipR_abs (y : ℝ) : |clipR y| = min |y| 6 := by
  unfold clipR
  rcases le_total y 0 with h | h
  · rw [abs_of_nonpos h]
    by_cases h6 : -6 ≤ y
    · rw [max_eq_right h6, min_eq_right (by linarith), abs_of_nonpos h, min_eq_left (by linarith)]
    · rw [max_eq_left (by linarith), min_eq_right (by norm_num), min_eq_right (by linarith)]; norm_num
  · rw [abs_of_nonneg h, max_eq_right (by linarith), min_comm]
    exact abs_of_nonneg (le_min h (by norm_num))

theorem clipR_neg (y : ℝ) : clipR y < 0 ↔ y < 0 := by
  unfold clipR
  constructor
  · intro h
    by_contra hy
    rw [not_lt] at hy
    rw [max_eq_right (by linarith)] at h
    rcases min_lt_iff.mp h with h | h <;> linarith
  · intro h
    exact lt_of_le_of_lt (min_le_right _ _) (max_lt (by norm_num) h)

theorem xMag_coe (y : ℝ) : kMag (xClip (y : EReal)) = ((xgrid y : ℝ) : EReal) := by
  rw [xClip_coe]
  unfold kMag
  have e : ∀ t : ℝ, (if t < 2 then (1 / 2 : ℝ) else if t < 4 then 1 else 2) = stepR t := fun _ => rfl
  simp only [absf_coe', clipR_abs, c_two, c_four, c_half, ← EReal.coe_one, EReal.coe_lt_coe_iff, coe_ite, e]
  rw [Ideal.div_coe (stepR_pos _).ne', ← EReal.coe_mul, Ideal.liftRound_coe, ← EReal.coe_mul, mul_one_div]
  rfl

theorem xIdx_coe (y : ℝ) : kIdx ((xgrid y : ℝ) : EReal) = (((xidx y : ℕ) : ℝ) : EReal) := by
  unfold kIdx
  simp only [select_ofBool, c_two, c_four, c_half, EReal.coe_lt_coe_iff, ← EReal.coe_mul, ← EReal.coe_add, coe_ite]
  congr 1
  have hi := xidx_lt y
  rw [xgrid_eq]
  generalize xidx y = i at *
  interval_cases i <;> norm_num [mag]

/-- the kernel's code, before the mask -/
theorem xCode_eq (y : ℝ) : kCode (xClip (y : EReal)) (kMag (xClip (y : EReal))) = BitVec.ofNat 32 (xpre y) := by
  have hi := xidx_lt y
  rw [xMag_coe, xClip_coe]
  unfold kCode
  rw [xIdx_coe, fptosi_nat _ (by omega), ← EReal.coe_zero]
  simp only [EReal.coe_lt_coe_iff, clipR_neg]
  unfold xpre
  split_ifs
  · show BitVec.ofNat 32 _ + BitVec.ofNat 32 8 = _
    rw [BitVec.ofNat_add]
  · rfl

/-- the kernel's value of it -/
theorem xVal_eq (y : ℝ) : kVal (xClip (y : EReal)) (kMag (xClip (y : EReal))) = ((cval (xcode y) : ℝ) : EReal) := by
  rw [xMag_coe, xClip_coe, cval_xcode]
  unfold kVal
  rw [← EReal.coe_zero]
  simp only [EReal.coe_lt_coe_iff, clipR_neg, ← EReal.coe_sub, coe_ite]

/-! ## The mask -/

theorem clear_digit (k : ℕ) (h : k < 16) : k &&& (((k &&& 7) + 7) ||| 7) = if k = 8 then 0 else k := by
  interval_cases k <;> rfl

/-- the mask clears every code of eight and keeps the others -/
theorem clearW_eq (n : ℕ → ℕ) (h : ∀ i, n i < 16) :
    keepW (BitVec.ofNat 32 (pack n)) = BitVec.ofNat 32 (pack fun i => if n i = 8 then 0 else n i) := by
  have a7 : ∀ i, n i &&& 7 ≤ 7 := fun i => Nat.and_le_right
  have e7 : (2004318071#32 : BitVec 32) = BitVec.ofNat 32 (pack fun _ => 7) := by rw [pack_seven]
  show BitVec.ofNat 32 (pack n) &&& (((BitVec.ofNat 32 (pack n) &&& 2004318071#32) + 2004318071#32) ||| 2004318071#32) = _
  apply BitVec.eq_of_toNat_eq
  have p7 : pack (fun _ => 7) < 2 ^ 32 := pack_lt _ (fun _ => by norm_num)
  have pn := pack_lt n h
  have pz : pack (fun i => if n i = 8 then 0 else n i) < 2 ^ 32 := pack_lt _ (fun i => by have := h i; split_ifs <;> omega)
  rw [e7, BitVec.toNat_and, BitVec.toNat_or, BitVec.toNat_add, BitVec.toNat_and, BitVec.toNat_ofNat, BitVec.toNat_ofNat,
    BitVec.toNat_ofNat, Nat.mod_eq_of_lt p7, Nat.mod_eq_of_lt pn, Nat.mod_eq_of_lt pz, pack_and n _ h (fun _ => by norm_num), pack_add,
    Nat.mod_eq_of_lt (pack_lt _ fun i => by have := a7 i; omega), pack_or _ _ (fun i => by have := a7 i; omega) (fun _ => by norm_num),
    pack_and n _ h (fun i => by
      have := a7 i
      exact Nat.or_lt_two_pow (n := 4) (by omega) (by norm_num))]
  unfold pack
  simp only [clear_digit _ (h _)]

/-! ## The reference's way -/

/-- the capped size -/
def nCap (y : EReal) : EReal := min (FloatOps.absf (F := Ideal) (φ := .f32) y) (Ideal.ofBits FTy.f32 1086324736#32)

/-- the step of a size -/
def nStep (t : EReal) : EReal :=
  if t < Ideal.ofBits FTy.f32 1073741824#32 then Ideal.ofBits FTy.f32 1056964608#32
  else if t < Ideal.ofBits FTy.f32 1082130432#32 then 1 else Ideal.ofBits FTy.f32 1073741824#32

/-- the grid point -/
def nGrid (y : EReal) : EReal := Ideal.liftRound Ideal.roundHalfEven (Ideal.div (nCap y) (nStep (nCap y))) * nStep (nCap y)

theorem nCap_coe (y : ℝ) : nCap (y : EReal) = ((min |y| 6 : ℝ) : EReal) := by
  unfold nCap
  rw [absf_coe', c_six, ← EReal.coe_strictMono.monotone.map_min]

theorem nStep_coe (t : ℝ) : nStep (t : EReal) = ((stepR t : ℝ) : EReal) := by
  unfold nStep stepR
  simp only [c_two, c_four, c_half, ← EReal.coe_one, EReal.coe_lt_coe_iff, coe_ite]

theorem nGrid_coe (y : ℝ) : nGrid (y : EReal) = ((xgrid y : ℝ) : EReal) := by
  unfold nGrid
  rw [nCap_coe, nStep_coe, Ideal.div_coe (stepR_pos _).ne', ← EReal.coe_mul, Ideal.liftRound_coe, ← EReal.coe_mul, mul_one_div]
  rfl

theorem nCode_eq (y : ℝ) : rCode (y : EReal) ((xgrid y : ℝ) : EReal) = BitVec.ofNat 32 (xcode y) := by
  have hi := xidx_lt y
  have hk : (if ((xgrid y : ℝ) : EReal) < Ideal.ofBits FTy.f32 1073741824#32 then Ideal.ofBits FTy.f32 1073741824#32 * ((xgrid y : ℝ) : EReal)
        else if ((xgrid y : ℝ) : EReal) < Ideal.ofBits FTy.f32 1082130432#32 then ((xgrid y : ℝ) : EReal) + Ideal.ofBits FTy.f32 1073741824#32
          else Ideal.ofBits FTy.f32 1056964608#32 * ((xgrid y : ℝ) : EReal) + Ideal.ofBits FTy.f32 1082130432#32)
      = (((xidx y : ℕ) : ℝ) : EReal) := by
    rw [← xIdx_coe]; unfold kIdx; rw [select_ofBool]
  unfold rCode
  rw [hk, fptosi_nat _ (by omega), andi_bits, shl3_bit, ← EReal.coe_zero]
  simp only [EReal.coe_lt_coe_iff]
  rw [xgrid_eq]
  simp only [mag_pos _ hi]
  unfold xcode
  generalize xidx y = i at *
  by_cases h : y < 0 ∧ i ≠ 0
  · rw [if_pos h, if_pos h]
    clear h hk
    interval_cases i <;> decide
  · rw [if_neg h, if_neg h]
    clear h hk
    interval_cases i <;> decide

/-! ## Powers at the exponents of this quantisation -/

theorem npow_neg (e : ℤ) (h0 : -126 ≤ e) (h1 : e ≤ 126) :
    Ideal.pow (Ideal.ofBits FTy.f32 1073741824#32) (FloatOps.sitofp (F := Ideal) FTy.f32 (-(BitVec.ofInt 32 e))) = (((2 : ℝ) ^ (-e) : ℝ) : EReal) := by
  rw [← BitVec.ofInt_neg, sitofp_int _ (by omega) (by omega), rpow_int]

theorem nscale_back (e : ℤ) (h0 : -126 ≤ e) (h1 : e ≤ 126) :
    IntOp.subi (BitVec.setWidth 32 (BitVec.setWidth 8 (IntOp.addi (BitVec.ofInt 32 e) 127#32))) 127#32 = BitVec.ofInt 32 e := by
  have : ∀ k : Fin 253, IntOp.subi (BitVec.setWidth 32 (BitVec.setWidth 8 (IntOp.addi (BitVec.ofInt 32 ((k.val : ℤ) - 126)) 127#32))) 127#32
      = BitVec.ofInt 32 ((k.val : ℤ) - 126) := by decide +kernel
  have h := this ⟨(e + 126).toNat, by omega⟩
  have e2 : (((e + 126).toNat : ℕ) : ℤ) - 126 = e := by omega
  simp only [e2] at h
  exact h

theorem npow_scale (e : ℤ) (h0 : -126 ≤ e) (h1 : e ≤ 126) :
    Ideal.pow (Ideal.ofBits FTy.f32 1073741824#32) (FloatOps.sitofp (F := Ideal) FTy.f32
      (IntOp.subi (BitVec.setWidth 32 (BitVec.setWidth 8 (IntOp.addi (BitVec.ofInt 32 e) 127#32))) 127#32)) = (((2 : ℝ) ^ e : ℝ) : EReal) := by
  rw [nscale_back e h0 h1, sitofp_int _ (by omega) (by omega), rpow_int]

end Cert.Mx

end

end
-- ==== Proof.XSpec.lean ====
/- The quantised activations, from the rotated values: when a group's largest size is zero or lies between the bounds of the
   precondition, the group's exponent, an element's code, its value and the bytes. The kernel's tiles and the reference's arrays
   are both read as these. Rows and columns are counted by natural numbers. -/
module

public import proofs.«01_k».proof.Proof.XRound
public import proofs.«01_k».proof.Proof.Spec

@[expose] public section

noncomputable section

namespace Cert.Mx

open Idealize.ShloMosaic

/-- a group's largest size is zero or of moderate size -/
def Fair (M : EReal) : Prop :=
  M = 0 ∨ ((((2 : ℝ) ^ (-124 : ℤ) : ℝ) : EReal) ≤ M ∧ M ≤ (((2 : ℝ) ^ (125 : ℤ) : ℝ) : EReal))

/-- the exponent, the kernel's way -/
def xKExp (z : BitVec 1) (v : EReal) : BitVec 32 := Scalar.select z 0#32 (IntOp.subi (kexp 0#1 v) 3#32)

/-- the exponent, the reference's way -/
def xRExp (a : EReal) : BitVec 32 :=
  Scalar.select (FloatOps.cmpf (F := Ideal) (φ := .f32) .oeq a (Ideal.ofBits .f32 0#32)) 0#32
   (IntOp.subi (FloatOps.fptosi (F := Ideal) (φ := .f32) 32 (Scalar.select (FloatOps.cmpf (F := Ideal) (φ := .f32) .olt a (Ideal.ofBits .f32 8388608#32)) (Ideal.ofBits .f32 0#32)
     ((Ideal.liftRound Int.floor (Ideal.div (Ideal.log a) (Ideal.log (Ideal.ofBits FTy.f32 1073741824#32))) +
            Ideal.ofBits .f32 1065353216#32 : EReal)))) 3#32)

theorem xRExp_rexp (a : EReal) :
    xRExp a = Scalar.select (BitVec.ofBool (decide (a = 0))) 0#32 (IntOp.subi (rexp 0#1 a) 3#32) := by
  unfold xRExp rexp
  rw [c_zero, c_one, c_tiny, c_two]
  have hl : Ideal.log ((2 : ℝ) : EReal) = ((Real.log 2 : ℝ) : EReal) := by
    rw [Ideal.log_coe, if_neg (by norm_num)]
  rw [hl]
  have h2 : ∀ x y : EReal, FloatOps.cmpf (F := Ideal) (φ := .f32) .olt x y = BitVec.ofBool (decide (x < y)) := fun _ _ => rfl
  have h3 : ∀ x y : EReal, FloatOps.cmpf (F := Ideal) (φ := .f32) .oeq x y = BitVec.ofBool (decide (x = y)) := fun _ _ => rfl
  rw [h2, h3, select_ofBool (a < _)]
  rfl

theorem gexp_low (v : ℝ) (h0 : (2 : ℝ) ^ (-124 : ℤ) ≤ v) (hv : v < (2 : ℝ) ^ (126 : ℤ)) : -123 ≤ gexp v := by
  obtain ⟨n, -, hn, l, u⟩ := field_spec v (le_trans (by positivity) h0) hv
  rw [gexp_of_field v n l u]
  have h3 : 3 ≤ n := by
    by_contra hc
    have h := fieldVal_mono (show n + 1 ≤ 3 by omega)
    have : fieldVal 3 = (2 : ℝ) ^ (-124 : ℤ) := by unfold fieldVal; norm_num
    linarith
  rw [if_neg (by omega)]
  omega

theorem sub_three (k : ℤ) : IntOp.subi (BitVec.ofInt 32 k) 3#32 = BitVec.ofInt 32 (k - 3) := by
  show BitVec.ofInt 32 k - 3#32 = _
  rw [sub_eq_add_neg k 3, BitVec.ofInt_add, BitVec.sub_eq_add_neg]
  rfl

/-- a group's exponent exists: one integer the kernel's search and the reference's logarithm both find -/
theorem xgroup (M : EReal) : ∃ e : ℤ, Fair M → -126 ≤ e ∧ e ≤ 123
    ∧ xKExp (BitVec.ofBool (decide (M = 0))) M = BitVec.ofInt 32 e ∧ xRExp M = BitVec.ofInt 32 e := by
  by_cases hF : Fair M
  · rcases hF with hz | ⟨h0, h1⟩
    · refine ⟨0, fun _ => ⟨by norm_num, by norm_num, ?_, ?_⟩⟩
      · unfold xKExp; rw [hz]; simp [Scalar.select]
      · rw [xRExp_rexp, hz]; simp [Scalar.select]
    · have n1 : M ≠ ⊤ := fun h => by rw [h] at h1; exact absurd h1 (not_le.mpr (EReal.coe_lt_top _))
      have n2 : M ≠ ⊥ := fun h => by rw [h] at h0; exact absurd h0 (not_le.mpr (EReal.bot_lt_coe _))
      lift M to ℝ using ⟨n1, n2⟩
      have h0' := EReal.coe_le_coe_iff.mp h0
      have h1' : M < (2 : ℝ) ^ (126 : ℤ) :=
        lt_of_le_of_lt (EReal.coe_le_coe_iff.mp h1) (zpow_lt_zpow_right₀ (by norm_num) (by norm_num))
      have hp : 0 < M := lt_of_lt_of_le (by positivity) h0'
      have hz : BitVec.ofBool (decide (((M : ℝ) : EReal) = 0)) = 0#1 := by
        rw [decide_eq_false (by rw [← EReal.coe_zero, EReal.coe_eq_coe_iff]; exact hp.ne')]; rfl
      have lo := gexp_low M h0' h1'
      have hi := (gexp_range M hp.le h1').2
      have s0 : ∀ x y : BitVec 32, Scalar.select 0#1 x y = y := fun _ _ => rfl
      refine ⟨gexp M - 3, fun _ => ⟨by omega, by omega, ?_, ?_⟩⟩
      · unfold xKExp
        rw [hz, s0, kexp_eq _ _ hp.le h1', if_neg (by decide), sub_three]
      · rw [xRExp_rexp, hz, s0, rexp_eq _ _ hp.le h1', if_neg (by decide), sub_three]
  · exact ⟨0, fun h => absurd h hF⟩

/-- the largest size of group `g` of column `o` -/
def xmax (R : ℕ → ℕ → EReal) (g o : ℕ) : EReal := gmax fun l => R (g * 32 + l.val) o

/-- the exponent of group `g` of column `o` -/
def xexpo (R : ℕ → ℕ → EReal) (g o : ℕ) : ℤ := Classical.choose (xgroup (xmax R g o))

theorem xexpo_spec (R : ℕ → ℕ → EReal) (g o : ℕ) (h : Fair (xmax R g o)) : -126 ≤ xexpo R g o ∧ xexpo R g o ≤ 123
    ∧ xKExp (BitVec.ofBool (decide (xmax R g o = 0))) (xmax R g o) = BitVec.ofInt 32 (xexpo R g o)
    ∧ xRExp (xmax R g o) = BitVec.ofInt 32 (xexpo R g o) :=
  Classical.choose_spec (xgroup (xmax R g o)) h

/-- a value no larger than a moderate bound is a real number -/
theorem real_of_fair (f : Fin 32 → EReal) (h : Fair (gmax f)) (l : Fin 32) : f l = (((f l).toReal : ℝ) : EReal) := by
  have hle : FloatOps.absf (F := Ideal) (φ := .f32) (f l) ≤ gmax f := by
    unfold gmax
    rw [Finset.le_fold_max]
    exact Or.inr ⟨l, Finset.mem_univ _, le_rfl⟩
  have hlt : gmax f < ⊤ := by
    rcases h with h | h
    · rw [h]; exact EReal.zero_lt_top
    · exact lt_of_le_of_lt h.2 (EReal.coe_lt_top _)
  have ha : max (f l) (-(f l)) < ⊤ := lt_of_le_of_lt hle hlt
  rw [max_lt_iff] at ha
  refine (EReal.coe_toReal ha.1.ne ?_).symm
  intro hb
  rw [hb] at ha
  simp at ha

/-- every group is fair -/
def AllFair (R : ℕ → ℕ → EReal) : Prop := ∀ g o, Fair (xmax R g o)

/-- a rotated value as a real number -/
def xr (R : ℕ → ℕ → EReal) (k o : ℕ) : ℝ := (R k o).toReal

theorem xr_spec (R : ℕ → ℕ → EReal) (h : AllFair R) (k o : ℕ) : R k o = ((xr R k o : ℝ) : EReal) := by
  have := real_of_fair (fun l => R (k / 32 * 32 + l.val) o) (h (k / 32) o) ⟨k % 32, Nat.mod_lt _ (by norm_num)⟩
  have e : k / 32 * 32 + k % 32 = k := by omega
  simp only [e] at this
  exact this

/-- an element scaled by its group's exponent -/
def xscaled (R : ℕ → ℕ → EReal) (k o : ℕ) : ℝ := xr R k o * (2 : ℝ) ^ (-xexpo R (k / 32) o)

/-- the value its code and scale stand for -/
def xdqv (R : ℕ → ℕ → EReal) (k o : ℕ) : ℝ := cval (xcode (xscaled R k o)) * (2 : ℝ) ^ xexpo R (k / 32) o

/-- the byte of codes `2k` and `2k+1` -/
def xcodeByte (R : ℕ → ℕ → EReal) (k o : ℕ) : BitVec 8 :=
  BitVec.ofNat 8 (xcode (xscaled R (2 * k) o) + 16 * xcode (xscaled R (2 * k + 1) o))

/-- the byte of a scale -/
def xscaleByte (R : ℕ → ℕ → EReal) (g o : ℕ) : BitVec 8 := BitVec.setWidth 8 (IntOp.addi (BitVec.ofInt 32 (xexpo R g o)) 127#32)

end Cert.Mx

end

end
-- ==== Proof.XTileRead.lean ====
/- The tile's exponents, clipped values, grid points, codes and values read back, at one place: the search of `Expo` on the
   group's largest size, and the rounding of `XRound` on the value times the power of two of the negated exponent. -/
module

public import proofs.«01_k».proof.Proof.XTile
public import proofs.«01_k».proof.Proof.XSpec
public import Idealize.ShloMosaic.Lib.Pipeline.ValueKit

@[expose] public section

set_option maxRecDepth 16384

noncomputable section

open Idealize.ShloMosaic Idealize.ShloMosaic.TcCoe Idealize.SL.Sem

namespace Cert.KernelXIdeal.Value

open Cert.KernelXIdeal Cert.KernelXIdeal.Gen Cert.Mx

variable (x0 d : Vec Ideal S256x256 .bf16)

/-- a group's largest size -/
def tV (g : Fin 8) (b : Fin 256) : EReal := k0_pay5 x0 d (ix2 g b)

/-- whether the group is zero -/
def tZero (g : Fin 8) (b : Fin 256) : BitVec 1 := BitVec.ofBool (decide (tV x0 d g b = 0))

theorem pay6_at (g : Fin 8) (b : Fin 256) : k0_pay6 (F := Ideal) x0 d (ix2 g b) = tZero x0 d g b := by
  unfold tZero tV
  pointwise [k0_pay6]

theorem pay7_at (g : Fin 8) (b : Fin 256) : k0_pay7 (F := Ideal) x0 d (ix2 g b)
    = fstep (tV x0 d g b) (fstep (tV x0 d g b) (fstep (tV x0 d g b) 0#32 128#32) 64#32) 32#32 := by
  unfold tV
  pointwise [k0_pay7]
  rfl

theorem tField_at (g : Fin 8) (b : Fin 256) : tField x0 d (ix2 g b) = field (tV x0 d g b) := by
  unfold field
  rw [← pay7_at]
  unfold tV
  pointwise [tField, k0_pay9, k0_pay8]
  rfl

theorem tExp_at (g : Fin 8) (b : Fin 256) : tExp x0 d (ix2 g b) = xKExp (tZero x0 d g b) (tV x0 d g b) := by
  unfold xKExp kexp
  rw [← tField_at, ← pay6_at]
  unfold tField
  pointwise [tExp, k0_pay11, tSub, k0_pay10, tField]

/-- a value times the power of two of the negated exponent -/
def yOf (x : EReal) (e : BitVec 32) : EReal :=
  x * Ideal.ofBits FTy.f32 (IntOp.shli .vector (IntOp.addi (IntOp.subi 0#32 e) 127#32) 23#32)

theorem tClip_at (a b : Fin 256) : (tClip x0 d (ix2 a b) : EReal)
    = xClip (yOf (k0_pay4 x0 d (ix3 ⟨a.val / 32, by omega⟩ ⟨a.val % 32, by omega⟩ b)) (tExp x0 d (ix2 ⟨a.val / 32, by omega⟩ b))) := by
  unfold xClip yOf tExp
  pointwise [tClip, k0_pay12]

theorem tMag_at (a b : Fin 256) : (tMag x0 d (ix2 a b) : EReal) = kMag (tClip x0 d (ix2 a b)) := by
  unfold tClip
  pointwise [tMag, k0_pay13]
  rfl

theorem tMagLow_at (a b : Fin 256) : tMagLow x0 d (ix2 a b)
    = BitVec.ofBool (decide ((tMag x0 d (ix2 a b) : EReal) < Ideal.ofBits FTy.f32 1073741824#32)) := by
  unfold tMag
  pointwise [tMagLow, k0_pay14]

theorem tMagTwo_at (a b : Fin 256) : (tMagTwo x0 d (ix2 a b) : EReal)
    = Ideal.ofBits FTy.f32 1073741824#32 * (tMag x0 d (ix2 a b) : EReal) := by
  unfold tMag
  pointwise [tMagTwo, k0_pay15]

theorem tMagMid_at (a b : Fin 256) : tMagMid x0 d (ix2 a b)
    = BitVec.ofBool (decide ((tMag x0 d (ix2 a b) : EReal) < Ideal.ofBits FTy.f32 1082130432#32)) := by
  unfold tMag
  pointwise [tMagMid, k0_pay16]

theorem tXt_at (a b : Fin 256) : (tXt x0 d (ix2 b a) : EReal)
    = kVal (tClip x0 d (ix2 a b)) (tMag x0 d (ix2 a b))
      * Ideal.ofBits FTy.f32 (IntOp.shli .vector (IntOp.addi (tExp x0 d (ix2 ⟨a.val / 32, by omega⟩ b)) 127#32) 23#32) := by
  pointwise [tXt, k0_pay23, k0_pay17]
  rfl

theorem tScales_at (a : Fin 8) (b : Fin 256) : (tScales x0 d (ix2 a b) : BitVec 8)
    = BitVec.setWidth 8 (IntOp.addi (tExp x0 d (ix2 a b)) 127#32) := by
  pointwise [tScales, k0_pay22]

theorem code_at (f : Fin 32) (a : Fin 8) (b : Fin 256) :
    tCode x0 d (ix3 f a b)
      = kCode (tClip x0 d (ix2 ⟨f.val * 8 + a.val, by omega⟩ b)) (tMag x0 d (ix2 ⟨f.val * 8 + a.val, by omega⟩ b)) := by
  have hs : ∀ (p : Prop) [Decidable p] (x y : EReal), (if p then x else y) = Scalar.select (BitVec.ofBool (decide p)) x y :=
    fun p _ x y => (select_ofBool p x y).symm
  unfold kCode kIdx
  rw [hs (_ < Ideal.ofBits FTy.f32 1082130432#32), ← tMagLow_at, ← tMagTwo_at, ← tMagMid_at]
  pointwise [tCode, k0_pay18]

end Cert.KernelXIdeal.Value

end

end
-- ==== Proof.XTileVal.lean ====
/- A tile of the activations' kernel from its rotated values: exponents, scaled elements, codes, the values read back, and the
   bytes of scales and of codes. `R` is the whole array of rotated values; the tile starts at row `256 T` and column `C`. -/
module

public import proofs.«01_k».proof.Proof.XTileRead

@[expose] public section

set_option maxRecDepth 16384

noncomputable section

namespace Cert.KernelXIdeal.Value

open Cert.KernelXIdeal Cert.KernelXIdeal.Gen Idealize.ShloMosaic Idealize.ShloMosaic.TcCoe Idealize.SL.Sem Cert.Mx

variable (x0 d : Vec Ideal S256x256 .bf16) (R : ℕ → ℕ → EReal) (T C : ℕ)

/-- the tile's rotated values are `R`'s, and every group of `R` is fair -/
def IsTile : Prop :=
  AllFair R ∧
  (∀ (g : Fin 8) (l : Fin 32) (b : Fin 256),
    (k0_pay4 (F := Ideal) x0 d (ix3 g l b) : EReal) = R ((T * 8 + g.val) * 32 + l.val) (C + b.val))

variable {x0 d R T C}

theorem k5_fold (x0 d : Vec Ideal S256x256 .bf16) (g : Fin 8) (b : Fin 256) :
    (k0_pay5 (F := Ideal) x0 d (ix2 g b) : EReal) = gmax (fun l => (k0_pay4 (F := Ideal) x0 d (ix3 g l b) : EReal)) := by
  unfold gmax
  pointwise [k0_pay5]

theorem tV_val (h : IsTile x0 d R T C) (g : Fin 8) (b : Fin 256) :
    tV x0 d g b = xmax R (T * 8 + g.val) (C + b.val) := by
  unfold tV xmax
  rw [k5_fold]
  congr 1
  funext l
  exact h.2 g l b

theorem tExp_val (h : IsTile x0 d R T C) (g : Fin 8) (b : Fin 256) :
    tExp x0 d (ix2 g b) = BitVec.ofInt 32 (xexpo R (T * 8 + g.val) (C + b.val)) := by
  rw [tExp_at]
  unfold tZero
  rw [tV_val h]
  exact (xexpo_spec R _ _ (h.1 _ _)).2.2.1

/-- multiplying by the power of two of minus the exponent -/
theorem yOf_val (x : ℝ) (e : ℤ) (h0 : -126 ≤ e) (h1 : e ≤ 123) :
    yOf (x : EReal) (BitVec.ofInt 32 e) = ((x * (2 : ℝ) ^ (-e) : ℝ) : EReal) := by
  unfold yOf
  rw [neg_bits, pow2_bits _ (by omega) (by omega), ← EReal.coe_mul]

theorem tClip_val (h : IsTile x0 d R T C) (a b : Fin 256) :
    (tClip x0 d (ix2 a b) : EReal) = xClip ((xscaled R (T * 256 + a.val) (C + b.val) : ℝ) : EReal) := by
  rw [tClip_at, tExp_val h, h.2, xr_spec R h.1]
  have hs := xexpo_spec R (T * 8 + a.val / 32) (C + b.val) (h.1 _ _)
  rw [yOf_val _ _ hs.1 hs.2.1]
  unfold xscaled
  have e1 : (T * 8 + a.val / 32) * 32 + a.val % 32 = T * 256 + a.val := by omega
  have e2 : (T * 256 + a.val) / 32 = T * 8 + a.val / 32 := by omega
  simp only [e1, e2]

theorem tXt_val (h : IsTile x0 d R T C) (a b : Fin 256) :
    (tXt x0 d (ix2 b a) : EReal) = ((xdqv R (T * 256 + a.val) (C + b.val) : ℝ) : EReal) := by
  have hs := xexpo_spec R (T * 8 + a.val / 32) (C + b.val) (h.1 _ _)
  rw [tXt_at, tMag_at, tClip_val h, tExp_val h, xVal_eq]
  rw [pow2_bits _ (by have := hs.1; simp only; omega) (by have := hs.2.1; simp only; omega), ← EReal.coe_mul]
  unfold xdqv
  have e2 : (T * 256 + a.val) / 32 = T * 8 + a.val / 32 := by omega
  simp only [e2]

theorem tScales_val (h : IsTile x0 d R T C) (g : Fin 8) (b : Fin 256) :
    (tScales x0 d (ix2 g b) : BitVec 8) = xscaleByte R (T * 8 + g.val) (C + b.val) := by
  rw [tScales_at, tExp_val h]
  rfl

theorem code_val (h : IsTile x0 d R T C) (f : Fin 32) (a : Fin 8) (b : Fin 256) :
    (tCode x0 d (ix3 f a b) : BitVec 32)
      = BitVec.ofNat 32 (xpre (xscaled R (T * 256 + f.val * 8 + a.val) (C + b.val))) := by
  have e3 : T * 256 + (f.val * 8 + a.val) = T * 256 + f.val * 8 + a.val := by omega
  rw [code_at, tMag_at, tClip_val h, xCode_eq]
  simp only [e3]

/-! ## The bytes of codes: eight codes in a word, the codes of eight cleared, four bytes out of it -/

/-- the words of eight codes -/
def words (N : IVec S32x8x256 32) (A : IVec S32x256 32) (B : IVec S32x256 32) : IVec S32x256 32 :=
  ori (ori A (shli B (broadcast S32x256 24#32)))
    (shli (shapeCast S32x256 (extractStridedSlice S32x1x256 ![0, 7, 0] N slices_S32x8x256_o0_7_0_S32x1x256) shapeCasts_S32x1x256_S32x256)
      (broadcast S32x256 28#32))

/-- the words with the codes of eight cleared -/
def kept (W : IVec S32x256 32) : IVec S32x256 32 := fun i => keepW (W i)

theorem tCodes_words (x0 d : Vec Ideal S256x256 .bf16) :
    tCodes x0 d = bitcast S128x256 8 (kept (words (tCode x0 d) (tWords6 x0 d) (tCode6 x0 d))) bitcasts_S32x256_w32_S128x256_w8 := rfl

theorem words_at (x0 d : Vec Ideal S256x256 .bf16) (w : Fin 32) (b : Fin 256) :
    words (tCode x0 d) (tWords6 x0 d) (tCode6 x0 d) (ix2 w b)
      = wordOf (fun i => if h : i < 8 then (tCode x0 d (ix3 w ⟨i, h⟩ b) : BitVec 32) else 0#32) := by
  unfold wordOf
  simp only [Nat.reduceLT, dite_true]
  unfold tCode
  pointwise [words, tWords6, tCode6, k0_pay19, k0_pay20]

theorem tCodes_val (h : IsTile x0 d R T C) (p : Fin 128) (b : Fin 256) :
    (tCodes x0 d (ix2 p b) : BitVec 8) = xcodeByte R (T * 128 + p.val) (C + b.val) := by
  rw [tCodes_words]
  refine (bitcast_32_8 (R := 32) (r := 128) (n := 256) _ bitcasts_S32x256_w32_S128x256_w8 p b ⟨p.val / 4, by omega⟩ rfl).trans ?_
  have e := words_at x0 d ⟨p.val / 4, by omega⟩ b
  have e2 : wordOf (fun i => if h : i < 8 then (tCode x0 d (ix3 (⟨p.val / 4, by omega⟩ : Fin 32) (⟨i, h⟩ : Fin 8) b) : BitVec 32) else 0#32)
      = wordOf (fun i => BitVec.ofNat 32 (xpre (xscaled R (T * 256 + p.val / 4 * 8 + i) (C + b.val)))) := by
    unfold wordOf
    simp only [Nat.reduceLT, dite_true, code_val h]
  have hk : keepW (words (tCode x0 d) (tWords6 x0 d) (tCode6 x0 d) (ix2 ⟨p.val / 4, by omega⟩ b))
      = BitVec.ofNat 32 (pack fun i => xcode (xscaled R (T * 256 + p.val / 4 * 8 + i) (C + b.val))) := by
    rw [e, e2, wordOf_eq _ (fun i => xpre_lt _), clearW_eq _ (fun i => xpre_lt _)]
    simp only [xpre_clear]
  refine (congrArg (fun w : BitVec 32 => w.extractLsb' (8 * (p.val % 4)) 8) hk).trans ?_
  rw [pack_byte _ (fun i => xcode_lt _) _ (Nat.mod_lt _ (by decide))]
  unfold xcodeByte
  have a1 : T * 256 + p.val / 4 * 8 + 2 * (p.val % 4) = 2 * (T * 128 + p.val) := by omega
  have a2 : T * 256 + p.val / 4 * 8 + (2 * (p.val % 4) + 1) = 2 * (T * 128 + p.val) + 1 := by omega
  simp only [a1, a2]

end Cert.KernelXIdeal.Value

end

end
-- ==== Proof.XBlock.lean ====
/- What one grid point of the activations' kernel leaves in its buffers, from its blocks, tile by tile: the codes, the scales,
   and the transpose of the values read back from them. -/
module

public import proofs.«01_k».proof.Proof.Gen.KernelXIdeal.Value
public import proofs.«01_k».proof.Proof.XTile
public import Idealize.ShloMosaic.Lib.Pipeline.ValueKit
public import Idealize.ShloMosaic.Lib.Pipeline.ReadBack

@[expose] public section

set_option maxRecDepth 16384

noncomputable section

namespace Cert.KernelXIdeal.Value

open Cert.KernelXIdeal Cert.KernelXIdeal.Gen Idealize.ShloMosaic Idealize.ShloMosaic.TcCoe Idealize.SL.Sem

/-- tile `(t, c)` of a block of 512 tokens by 2560 channels -/
def bTile {φ : EltTy} (x : Vec Ideal S512x2560 φ) (t : Fin 2) (c : Fin 10) : Vec Ideal S256x256 φ :=
  fun j => x (ix2 (n0 := 512) (n1 := 2560) ⟨256 * t.val + (j 0).val, by have := (j 0).isLt; change (j 0).val < 256 at this; omega⟩
    ⟨256 * c.val + (j 1).val, by have := (j 1).isLt; change (j 1).val < 256 at this; omega⟩)

/-- a load of a tile's rectangle -/
theorem ld_tile {φ : EltTy} (x : Vec Ideal S512x2560 φ) (t : Fin 2) (c : Fin 10) (o1 o2 : ℕ) (h1 : o1 = 256 * t.val)
    (h2 : o2 = 256 * c.val) (inb) :
    View.ld x (Rect.unit (s := S512x2560) ![o1, o2] ![256, 256] inb) = bTile x t c := by
  subst h1 h2
  funext j
  show x ((Rect.unit (s := S512x2560) _ _ _).emb j) = x _
  blk_ext

/-- a load of the whole rotation matrix -/
theorem ld_mat (x : Vec Ideal S256x256 .bf16) : View.ld x r0_0 = x := by
  funext j
  show x (r0_0.emb j) = x j
  blk_ext

/-- the codes of a block, tile by tile -/
def codesBlk (x0 : Vec Ideal S256x256 .bf16) (x1 : Vec Ideal S512x2560 .bf16) : Vec Ideal S256x2560 .i8 :=
  fun j => tCodes x0 (bTile x1 ⟨(j 0).val / 128, by have := (j 0).isLt; change (j 0).val < 256 at this; omega⟩ ⟨(j 1).val / 256, by have := (j 1).isLt; change (j 1).val < 2560 at this; omega⟩)
    (ix2 (n0 := 128) (n1 := 256) ⟨(j 0).val % 128, by omega⟩ ⟨(j 1).val % 256, by omega⟩)

theorem codes_piece (x0 : Vec Ideal S256x256 .bf16) (x1 : Vec Ideal S512x2560 .bf16)
    (t : Fin 2) (c : Fin 10) (o0 o1 o2 : ℕ) (h0 : o0 = 128 * t.val) (h1 : o1 = 256 * t.val) (h2 : o2 = 256 * c.val) (inbO inb) (x : S128x256.Idx) :
    tCodes x0 (View.ld x1 (Rect.unit (s := S512x2560) ![o1, o2] ![256, 256] inb)) x
      = codesBlk x0 x1 ((Rect.unit (s := S256x2560) ![o0, o2] ![128, 256] inbO).emb x) := by
  rw [ld_tile x1 t c o1 o2 h1 h2]
  subst h0 h1 h2
  have b0 : (x 0).val < 128 := (x 0).isLt
  have b1 : (x 1).val < 256 := (x 1).isLt
  have v0 : (((Rect.unit (s := S256x2560) ![128 * t.val, 256 * c.val] ![128, 256] inbO).emb x) 0).val = 128 * t.val + (x 0).val := by blk_simp
  have v1 : (((Rect.unit (s := S256x2560) ![128 * t.val, 256 * c.val] ![128, 256] inbO).emb x) 1).val = 256 * c.val + (x 1).val := by blk_simp
  generalize (Rect.unit (s := S256x2560) ![128 * t.val, 256 * c.val] ![128, 256] inbO).emb x = y at v0 v1
  unfold codesBlk
  have e0 : ∀ h, (⟨(y 0).val / 128, h⟩ : Fin 2) = t := fun h => Fin.ext (by show (y 0).val / 128 = t.val; omega)
  have e1 : ∀ h, (⟨(y 1).val / 256, h⟩ : Fin 10) = c := fun h => Fin.ext (by show (y 1).val / 256 = c.val; omega)
  rw [e0, e1]
  congr 1
  funext a
  fin_cases a
  · exact Fin.ext (by show (x 0).val = (y 0).val % 128; omega)
  · exact Fin.ext (by show (x 1).val = (y 1).val % 256; omega)

/-- the scales of a block, tile by tile -/
def scalesBlk (x0 : Vec Ideal S256x256 .bf16) (x1 : Vec Ideal S512x2560 .bf16) : Vec Ideal S16x2560 .i8 :=
  fun j => tScales x0 (bTile x1 ⟨(j 0).val / 8, by have := (j 0).isLt; change (j 0).val < 16 at this; omega⟩ ⟨(j 1).val / 256, by have := (j 1).isLt; change (j 1).val < 2560 at this; omega⟩)
    (ix2 (n0 := 8) (n1 := 256) ⟨(j 0).val % 8, by omega⟩ ⟨(j 1).val % 256, by omega⟩)

theorem scales_piece (x0 : Vec Ideal S256x256 .bf16) (x1 : Vec Ideal S512x2560 .bf16)
    (t : Fin 2) (c : Fin 10) (o0 o1 o2 : ℕ) (h0 : o0 = 8 * t.val) (h1 : o1 = 256 * t.val) (h2 : o2 = 256 * c.val) (inbO inb) (x : S8x256.Idx) :
    tScales x0 (View.ld x1 (Rect.unit (s := S512x2560) ![o1, o2] ![256, 256] inb)) x
      = scalesBlk x0 x1 ((Rect.unit (s := S16x2560) ![o0, o2] ![8, 256] inbO).emb x) := by
  rw [ld_tile x1 t c o1 o2 h1 h2]
  subst h0 h1 h2
  have b0 : (x 0).val < 8 := (x 0).isLt
  have b1 : (x 1).val < 256 := (x 1).isLt
  have v0 : (((Rect.unit (s := S16x2560) ![8 * t.val, 256 * c.val] ![8, 256] inbO).emb x) 0).val = 8 * t.val + (x 0).val := by blk_simp
  have v1 : (((Rect.unit (s := S16x2560) ![8 * t.val, 256 * c.val] ![8, 256] inbO).emb x) 1).val = 256 * c.val + (x 1).val := by blk_simp
  generalize (Rect.unit (s := S16x2560) ![8 * t.val, 256 * c.val] ![8, 256] inbO).emb x = y at v0 v1
  unfold scalesBlk
  have e0 : ∀ h, (⟨(y 0).val / 8, h⟩ : Fin 2) = t := fun h => Fin.ext (by show (y 0).val / 8 = t.val; omega)
  have e1 : ∀ h, (⟨(y 1).val / 256, h⟩ : Fin 10) = c := fun h => Fin.ext (by show (y 1).val / 256 = c.val; omega)
  rw [e0, e1]
  congr 1
  funext a
  fin_cases a
  · exact Fin.ext (by show (x 0).val = (y 0).val % 8; omega)
  · exact Fin.ext (by show (x 1).val = (y 1).val % 256; omega)

/-- the values read back, transposed, of a block, tile by tile -/
def xtBlk (x0 : Vec Ideal S256x256 .bf16) (x1 : Vec Ideal S512x2560 .bf16) : Vec Ideal S2560x512 .bf16 :=
  fun j => tXt x0 (bTile x1 ⟨(j 1).val / 256, by have := (j 1).isLt; change (j 1).val < 512 at this; omega⟩ ⟨(j 0).val / 256, by have := (j 0).isLt; change (j 0).val < 2560 at this; omega⟩)
    (ix2 (n0 := 256) (n1 := 256) ⟨(j 0).val % 256, by omega⟩ ⟨(j 1).val % 256, by omega⟩)

theorem xt_piece (x0 : Vec Ideal S256x256 .bf16) (x1 : Vec Ideal S512x2560 .bf16)
    (t : Fin 2) (c : Fin 10) (o1 o2 : ℕ) (h1 : o1 = 256 * t.val) (h2 : o2 = 256 * c.val) (inbO inb) (x : S256x256.Idx) :
    tXt x0 (View.ld x1 (Rect.unit (s := S512x2560) ![o1, o2] ![256, 256] inb)) x
      = xtBlk x0 x1 ((Rect.unit (s := S2560x512) ![o2, o1] ![256, 256] inbO).emb x) := by
  rw [ld_tile x1 t c o1 o2 h1 h2]
  subst h1 h2
  have b0 : (x 0).val < 256 := (x 0).isLt
  have b1 : (x 1).val < 256 := (x 1).isLt
  have v0 : (((Rect.unit (s := S2560x512) ![256 * c.val, 256 * t.val] ![256, 256] inbO).emb x) 0).val = 256 * c.val + (x 0).val := by blk_simp
  have v1 : (((Rect.unit (s := S2560x512) ![256 * c.val, 256 * t.val] ![256, 256] inbO).emb x) 1).val = 256 * t.val + (x 1).val := by blk_simp
  generalize (Rect.unit (s := S2560x512) ![256 * c.val, 256 * t.val] ![256, 256] inbO).emb x = y at v0 v1
  unfold xtBlk
  have e0 : ∀ h, (⟨(y 1).val / 256, h⟩ : Fin 2) = t := fun h => Fin.ext (by show (y 1).val / 256 = t.val; omega)
  have e1 : ∀ h, (⟨(y 0).val / 256, h⟩ : Fin 10) = c := fun h => Fin.ext (by show (y 0).val / 256 = c.val; omega)
  rw [e0, e1]
  congr 1
  funext a
  fin_cases a
  · exact Fin.ext (by show (x 0).val = (y 0).val % 256; omega)
  · exact Fin.ext (by show (x 1).val = (y 1).val % 256; omega)

end Cert.KernelXIdeal.Value

end

end
-- ==== Proof.XCodes.lean ====
/- What a grid point of the activations' kernel stores in its first buffer: the codes of its block. -/
module

public import proofs.«01_k».proof.Proof.XBlock

@[expose] public section

set_option maxRecDepth 16384
set_option maxHeartbeats 4000000

noncomputable section

namespace Cert.KernelXIdeal.Value

open Cert.KernelXIdeal Cert.KernelXIdeal.Gen Idealize.ShloMosaic Idealize.ShloMosaic.TcCoe Idealize.SL.Sem

theorem codes_eq (x0 : Vec Ideal S256x256 .bf16) (x1 : Vec Ideal S512x2560 .bf16) : out0_2 x0 x1 = codesBlk x0 x1 := by
  unfold out0_2
  funext y
  refine (View.canon_apply_of_pieces (codesBlk (View.ld x0 r0_0) x1) _ (View.PiecesOf.mem ?_) y ?_).trans (by rw [ld_mat])
  · exact ⟨fun x => codes_piece (View.ld x0 r0_0) x1 1 9 128 256 2304 rfl rfl rfl inb_S256x2560_S128x256_128_2304 inb_S512x2560_S256x256_256_2304 x,
      fun x => codes_piece (View.ld x0 r0_0) x1 1 8 128 256 2048 rfl rfl rfl inb_S256x2560_S128x256_128_2048 inb_S512x2560_S256x256_256_2048 x,
      fun x => codes_piece (View.ld x0 r0_0) x1 1 7 128 256 1792 rfl rfl rfl inb_S256x2560_S128x256_128_1792 inb_S512x2560_S256x256_256_1792 x,
      fun x => codes_piece (View.ld x0 r0_0) x1 1 6 128 256 1536 rfl rfl rfl inb_S256x2560_S128x256_128_1536 inb_S512x2560_S256x256_256_1536 x,
      fun x => codes_piece (View.ld x0 r0_0) x1 1 5 128 256 1280 rfl rfl rfl inb_S256x2560_S128x256_128_1280 inb_S512x2560_S256x256_256_1280 x,
      fun x => codes_piece (View.ld x0 r0_0) x1 1 4 128 256 1024 rfl rfl rfl inb_S256x2560_S128x256_128_1024 inb_S512x2560_S256x256_256_1024 x,
      fun x => codes_piece (View.ld x0 r0_0) x1 1 3 128 256 768 rfl rfl rfl inb_S256x2560_S128x256_128_768 inb_S512x2560_S256x256_256_768 x,
      fun x => codes_piece (View.ld x0 r0_0) x1 1 2 128 256 512 rfl rfl rfl inb_S256x2560_S128x256_128_512 inb_S512x2560_S256x256_256_512 x,
      fun x => codes_piece (View.ld x0 r0_0) x1 1 1 128 256 256 rfl rfl rfl inb_S256x2560_S128x256_128_256 inb_S512x2560_S256x256_256_256 x,
      fun x => codes_piece (View.ld x0 r0_0) x1 1 0 128 256 0 rfl rfl rfl inb_S256x2560_S128x256_128_0 inb_S512x2560_S256x256_256_0 x,
      fun x => codes_piece (View.ld x0 r0_0) x1 0 9 0 0 2304 rfl rfl rfl inb_S256x2560_S128x256_0_2304 inb_S512x2560_S256x256_0_2304 x,
      fun x => codes_piece (View.ld x0 r0_0) x1 0 8 0 0 2048 rfl rfl rfl inb_S256x2560_S128x256_0_2048 inb_S512x2560_S256x256_0_2048 x,
      fun x => codes_piece (View.ld x0 r0_0) x1 0 7 0 0 1792 rfl rfl rfl inb_S256x2560_S128x256_0_1792 inb_S512x2560_S256x256_0_1792 x,
      fun x => codes_piece (View.ld x0 r0_0) x1 0 6 0 0 1536 rfl rfl rfl inb_S256x2560_S128x256_0_1536 inb_S512x2560_S256x256_0_1536 x,
      fun x => codes_piece (View.ld x0 r0_0) x1 0 5 0 0 1280 rfl rfl rfl inb_S256x2560_S128x256_0_1280 inb_S512x2560_S256x256_0_1280 x,
      fun x => codes_piece (View.ld x0 r0_0) x1 0 4 0 0 1024 rfl rfl rfl inb_S256x2560_S128x256_0_1024 inb_S512x2560_S256x256_0_1024 x,
      fun x => codes_piece (View.ld x0 r0_0) x1 0 3 0 0 768 rfl rfl rfl inb_S256x2560_S128x256_0_768 inb_S512x2560_S256x256_0_768 x,
      fun x => codes_piece (View.ld x0 r0_0) x1 0 2 0 0 512 rfl rfl rfl inb_S256x2560_S128x256_0_512 inb_S512x2560_S256x256_0_512 x,
      fun x => codes_piece (View.ld x0 r0_0) x1 0 1 0 0 256 rfl rfl rfl inb_S256x2560_S128x256_0_256 inb_S512x2560_S256x256_0_256 x,
      fun x => codes_piece (View.ld x0 r0_0) x1 0 0 0 0 0 rfl rfl rfl inb_S256x2560_S128x256_0_0 inb_S512x2560_S256x256_0_0 x, trivial⟩
  · exact View.cover_of_tiledL (s := S256x2560) _ ![128, 256] (by sl_kernel_rfl) y

end Cert.KernelXIdeal.Value

end

end
-- ==== Proof.XScales.lean ====
/- What a grid point of the activations' kernel stores in its second buffer: the scales of its block. -/
module

public import proofs.«01_k».proof.Proof.XBlock

@[expose] public section

set_option maxRecDepth 16384
set_option maxHeartbeats 4000000

noncomputable section

namespace Cert.KernelXIdeal.Value

open Cert.KernelXIdeal Cert.KernelXIdeal.Gen Idealize.ShloMosaic Idealize.ShloMosaic.TcCoe Idealize.SL.Sem

theorem scales_eq (x0 : Vec Ideal S256x256 .bf16) (x1 : Vec Ideal S512x2560 .bf16) : out0_3 x0 x1 = scalesBlk x0 x1 := by
  unfold out0_3
  funext y
  refine (View.canon_apply_of_pieces (scalesBlk (View.ld x0 r0_0) x1) _ (View.PiecesOf.mem ?_) y ?_).trans (by rw [ld_mat])
  · exact ⟨fun x => scales_piece (View.ld x0 r0_0) x1 1 9 8 256 2304 rfl rfl rfl inb_S16x2560_S8x256_8_2304 inb_S512x2560_S256x256_256_2304 x,
      fun x => scales_piece (View.ld x0 r0_0) x1 1 8 8 256 2048 rfl rfl rfl inb_S16x2560_S8x256_8_2048 inb_S512x2560_S256x256_256_2048 x,
      fun x => scales_piece (View.ld x0 r0_0) x1 1 7 8 256 1792 rfl rfl rfl inb_S16x2560_S8x256_8_1792 inb_S512x2560_S256x256_256_1792 x,
      fun x => scales_piece (View.ld x0 r0_0) x1 1 6 8 256 1536 rfl rfl rfl inb_S16x2560_S8x256_8_1536 inb_S512x2560_S256x256_256_1536 x,
      fun x => scales_piece (View.ld x0 r0_0) x1 1 5 8 256 1280 rfl rfl rfl inb_S16x2560_S8x256_8_1280 inb_S512x2560_S256x256_256_1280 x,
      fun x => scales_piece (View.ld x0 r0_0) x1 1 4 8 256 1024 rfl rfl rfl inb_S16x2560_S8x256_8_1024 inb_S512x2560_S256x256_256_1024 x,
      fun x => scales_piece (View.ld x0 r0_0) x1 1 3 8 256 768 rfl rfl rfl inb_S16x2560_S8x256_8_768 inb_S512x2560_S256x256_256_768 x,
      fun x => scales_piece (View.ld x0 r0_0) x1 1 2 8 256 512 rfl rfl rfl inb_S16x2560_S8x256_8_512 inb_S512x2560_S256x256_256_512 x,
      fun x => scales_piece (View.ld x0 r0_0) x1 1 1 8 256 256 rfl rfl rfl inb_S16x2560_S8x256_8_256 inb_S512x2560_S256x256_256_256 x,
      fun x => scales_piece (View.ld x0 r0_0) x1 1 0 8 256 0 rfl rfl rfl inb_S16x2560_S8x256_8_0 inb_S512x2560_S256x256_256_0 x,
      fun x => scales_piece (View.ld x0 r0_0) x1 0 9 0 0 2304 rfl rfl rfl inb_S16x2560_S8x256_0_2304 inb_S512x2560_S256x256_0_2304 x,
      fun x => scales_piece (View.ld x0 r0_0) x1 0 8 0 0 2048 rfl rfl rfl inb_S16x2560_S8x256_0_2048 inb_S512x2560_S256x256_0_2048 x,
      fun x => scales_piece (View.ld x0 r0_0) x1 0 7 0 0 1792 rfl rfl rfl inb_S16x2560_S8x256_0_1792 inb_S512x2560_S256x256_0_1792 x,
      fun x => scales_piece (View.ld x0 r0_0) x1 0 6 0 0 1536 rfl rfl rfl inb_S16x2560_S8x256_0_1536 inb_S512x2560_S256x256_0_1536 x,
      fun x => scales_piece (View.ld x0 r0_0) x1 0 5 0 0 1280 rfl rfl rfl inb_S16x2560_S8x256_0_1280 inb_S512x2560_S256x256_0_1280 x,
      fun x => scales_piece (View.ld x0 r0_0) x1 0 4 0 0 1024 rfl rfl rfl inb_S16x2560_S8x256_0_1024 inb_S512x2560_S256x256_0_1024 x,
      fun x => scales_piece (View.ld x0 r0_0) x1 0 3 0 0 768 rfl rfl rfl inb_S16x2560_S8x256_0_768 inb_S512x2560_S256x256_0_768 x,
      fun x => scales_piece (View.ld x0 r0_0) x1 0 2 0 0 512 rfl rfl rfl inb_S16x2560_S8x256_0_512 inb_S512x2560_S256x256_0_512 x,
      fun x => scales_piece (View.ld x0 r0_0) x1 0 1 0 0 256 rfl rfl rfl inb_S16x2560_S8x256_0_256 inb_S512x2560_S256x256_0_256 x,
      fun x => scales_piece (View.ld x0 r0_0) x1 0 0 0 0 0 rfl rfl rfl inb_S16x2560_S8x256_0_0 inb_S512x2560_S256x256_0_0 x, trivial⟩
  · exact View.cover_of_tiledL (s := S16x2560) _ ![8, 256] (by sl_kernel_rfl) y

end Cert.KernelXIdeal.Value

end

end
-- ==== Proof.XXt.lean ====
/- What a grid point of the activations' kernel stores in its third buffer: the transposed values of its block. -/
module

public import proofs.«01_k».proof.Proof.XBlock

@[expose] public section

set_option maxRecDepth 16384
set_option maxHeartbeats 4000000

noncomputable section

namespace Cert.KernelXIdeal.Value

open Cert.KernelXIdeal Cert.KernelXIdeal.Gen Idealize.ShloMosaic Idealize.ShloMosaic.TcCoe Idealize.SL.Sem

theorem xt_eq (x0 : Vec Ideal S256x256 .bf16) (x1 : Vec Ideal S512x2560 .bf16) : out0_4 x0 x1 = xtBlk x0 x1 := by
  unfold out0_4
  funext y
  refine (View.canon_apply_of_pieces (xtBlk (View.ld x0 r0_0) x1) _ (View.PiecesOf.mem ?_) y ?_).trans (by rw [ld_mat])
  · exact ⟨fun x => xt_piece (View.ld x0 r0_0) x1 1 9 256 2304 rfl rfl inb_S2560x512_S256x256_2304_256 inb_S512x2560_S256x256_256_2304 x,
      fun x => xt_piece (View.ld x0 r0_0) x1 1 8 256 2048 rfl rfl inb_S2560x512_S256x256_2048_256 inb_S512x2560_S256x256_256_2048 x,
      fun x => xt_piece (View.ld x0 r0_0) x1 1 7 256 1792 rfl rfl inb_S2560x512_S256x256_1792_256 inb_S512x2560_S256x256_256_1792 x,
      fun x => xt_piece (View.ld x0 r0_0) x1 1 6 256 1536 rfl rfl inb_S2560x512_S256x256_1536_256 inb_S512x2560_S256x256_256_1536 x,
      fun x => xt_piece (View.ld x0 r0_0) x1 1 5 256 1280 rfl rfl inb_S2560x512_S256x256_1280_256 inb_S512x2560_S256x256_256_1280 x,
      fun x => xt_piece (View.ld x0 r0_0) x1 1 4 256 1024 rfl rfl inb_S2560x512_S256x256_1024_256 inb_S512x2560_S256x256_256_1024 x,
      fun x => xt_piece (View.ld x0 r0_0) x1 1 3 256 768 rfl rfl inb_S2560x512_S256x256_768_256 inb_S512x2560_S256x256_256_768 x,
      fun x => xt_piece (View.ld x0 r0_0) x1 1 2 256 512 rfl rfl inb_S2560x512_S256x256_512_256 inb_S512x2560_S256x256_256_512 x,
      fun x => xt_piece (View.ld x0 r0_0) x1 1 1 256 256 rfl rfl inb_S2560x512_S256x256_256_256 inb_S512x2560_S256x256_256_256 x,
      fun x => xt_piece (View.ld x0 r0_0) x1 1 0 256 0 rfl rfl inb_S2560x512_S256x256_0_256 inb_S512x2560_S256x256_256_0 x,
      fun x => xt_piece (View.ld x0 r0_0) x1 0 9 0 2304 rfl rfl inb_S2560x512_S256x256_2304_0 inb_S512x2560_S256x256_0_2304 x,
      fun x => xt_piece (View.ld x0 r0_0) x1 0 8 0 2048 rfl rfl inb_S2560x512_S256x256_2048_0 inb_S512x2560_S256x256_0_2048 x,
      fun x => xt_piece (View.ld x0 r0_0) x1 0 7 0 1792 rfl rfl inb_S2560x512_S256x256_1792_0 inb_S512x2560_S256x256_0_1792 x,
      fun x => xt_piece (View.ld x0 r0_0) x1 0 6 0 1536 rfl rfl inb_S2560x512_S256x256_1536_0 inb_S512x2560_S256x256_0_1536 x,
      fun x => xt_piece (View.ld x0 r0_0) x1 0 5 0 1280 rfl rfl inb_S2560x512_S256x256_1280_0 inb_S512x2560_S256x256_0_1280 x,
      fun x => xt_piece (View.ld x0 r0_0) x1 0 4 0 1024 rfl rfl inb_S2560x512_S256x256_1024_0 inb_S512x2560_S256x256_0_1024 x,
      fun x => xt_piece (View.ld x0 r0_0) x1 0 3 0 768 rfl rfl inb_S2560x512_S256x256_768_0 inb_S512x2560_S256x256_0_768 x,
      fun x => xt_piece (View.ld x0 r0_0) x1 0 2 0 512 rfl rfl inb_S2560x512_S256x256_512_0 inb_S512x2560_S256x256_0_512 x,
      fun x => xt_piece (View.ld x0 r0_0) x1 0 1 0 256 rfl rfl inb_S2560x512_S256x256_256_0 inb_S512x2560_S256x256_0_256 x,
      fun x => xt_piece (View.ld x0 r0_0) x1 0 0 0 0 rfl rfl inb_S2560x512_S256x256_0_0 inb_S512x2560_S256x256_0_0 x, trivial⟩
  · exact View.cover_of_tiledL (s := S2560x512) _ ![256, 256] (by sl_kernel_rfl) y

end Cert.KernelXIdeal.Value

end

end
-- ==== Proof.XArrays.lean ====
/- The three results of the activations' kernel as functions of its two operands' whole arrays: the bytes of codes and of scales
   and the transposed values read back, tile by tile. -/
module

public import proofs.«01_k».proof.Proof.XCodes
public import proofs.«01_k».proof.Proof.XScales
public import proofs.«01_k».proof.Proof.XXt

@[expose] public section

set_option maxRecDepth 16384

noncomputable section

namespace Cert.KernelXIdeal.Value

open Cert.KernelXIdeal Cert.KernelXIdeal.Gen Idealize.ShloMosaic Idealize.ShloMosaic.TcCoe Idealize.SL.Sem

/-- tile `(τ, χ)` of an array of 30720 tokens by 2560 channels -/
def aTile {φ : EltTy} (X : Vec Ideal S30720x2560 φ) (τ : Fin 120) (χ : Fin 10) : Vec Ideal S256x256 φ :=
  fun j => X (ix2 (n0 := 30720) (n1 := 2560) ⟨256 * τ.val + (j 0).val, by have := (j 0).isLt; change (j 0).val < 256 at this; omega⟩
    ⟨256 * χ.val + (j 1).val, by have := (j 1).isLt; change (j 1).val < 256 at this; omega⟩)

variable (m : (ℓ : Loc nD τ sig) → Buf (Elt Ideal) ℓ)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)

theorem N60 (t : Fin cfg0.N) : t.val < 60 := lt_of_lt_of_eq t.isLt (show cfg0.N = 60 from N_0)

theorem blk0 (c : Dev nD) (t : Fin cfg0.N) : (iblk m c 0 t : Vec Ideal S256x256 .bf16) = V m c main_v26 := by
  obtain ⟨i0, i1⟩ := idx0 t
  funext j
  unfold iblk
  rw [View.read_apply]
  show V m c main_v26 _ = V m c main_v26 _
  congr 1
  funext a
  apply Fin.ext
  match a with
  | ⟨0, _⟩ => show win0_0.index t 0 * 256 + 1 * (j 0).val = (j 0).val; rw [i0]; omega
  | ⟨1, _⟩ => show win0_0.index t 1 * 256 + 1 * (j 1).val = (j 1).val; rw [i1]; omega

theorem blk1 (c : Dev nD) (t : Fin cfg0.N) (x : Fin 512) (y : Fin 2560) (h0) :
    (iblk m c 1 t : Vec Ideal S512x2560 .bf16) (ix2 x y)
      = (V m c main_v27 : Vec Ideal S30720x2560 .bf16) (ix2 (n0 := 30720) (n1 := 2560) ⟨512 * t.val + x.val, h0⟩ y) := by
  obtain ⟨i0, i1⟩ := idx1 t
  unfold iblk
  rw [View.read_apply]
  show V m c main_v27 _ = V m c main_v27 _
  congr 1
  funext a
  apply Fin.ext
  match a with
  | ⟨0, _⟩ => show win0_1.index t 0 * 512 + 1 * x.val = 512 * t.val + x.val; rw [i0]; omega
  | ⟨1, _⟩ => show win0_1.index t 1 * 2560 + 1 * y.val = y.val; rw [i1]; omega

/-- a tile of a grid point's block is a tile of the array -/
theorem tile1 (c : Dev nD) (t : Fin cfg0.N) (a : Fin 2) (b : Fin 10) (τ : Fin 120) (h0 : τ.val = 2 * t.val + a.val) :
    bTile (iblk m c 1 t : Vec Ideal S512x2560 .bf16) a b = aTile (V m c main_v27 : Vec Ideal S30720x2560 .bf16) τ b := by
  have := N60 t
  funext j
  have b0 : (j 0).val < 256 := (j 0).isLt
  have b1 : (j 1).val < 256 := (j 1).isLt
  unfold bTile aTile
  rw [blk1 m c t _ _ (by show 512 * t.val + (256 * a.val + (j 0).val) < 30720; omega)]
  congr 1
  refine congrArg₂ _ (Fin.ext ?_) rfl
  show 512 * t.val + (256 * a.val + (j 0).val) = 256 * τ.val + (j 0).val; omega

/-- the grid point of a token's block -/
def pt (n : ℕ) (h : n < 60) : Fin cfg0.N := ⟨n, by rw [show cfg0.N = 60 from N_0]; exact h⟩

/-- the bytes of codes -/
theorem codes_at (c : Dev nD) (k : Fin 15360) (o : Fin 2560) :
    (dats m 0 c).arrAt 2 cfg0.N (ix2 (n0 := 15360) (n1 := 2560) k o)
      = tCodes (V m c main_v26) (aTile (V m c main_v27) ⟨k.val / 128, by omega⟩ ⟨o.val / 256, by omega⟩)
        (ix2 (n0 := 128) (n1 := 256) ⟨k.val % 128, by omega⟩ ⟨o.val % 256, by omega⟩) := by
  have hk := k.isLt
  have hp : k.val / 256 < 60 := by omega
  obtain ⟨i0, i1⟩ := idx2 (pt (k.val / 256) hp)
  have hb := congrFun (blocks2 m c (pt (k.val / 256) hp) (flush0_2 _))
    (ix2 (n0 := 256) (n1 := 2560) ⟨k.val % 256, by omega⟩ o)
  rw [flushed2, codes_eq] at hb
  have he : @Eq (S15360x2560.Idx) (((cfg0.win 2).blk (pt (k.val / 256) hp)).view.emb (ix2 (n0 := 256) (n1 := 2560) ⟨k.val % 256, by omega⟩ o))
      (ix2 (n0 := 15360) (n1 := 2560) k o) := by
    funext a
    apply Fin.ext
    match a with
    | ⟨0, _⟩ => show win0_2.index _ 0 * 256 + 1 * (k.val % 256) = k.val; rw [i0]; show k.val / 256 * 256 + _ = _; omega
    | ⟨1, _⟩ => show win0_2.index _ 1 * 2560 + 1 * o.val = o.val; rw [i1]; omega
  rw [← he]
  refine hb.trans ?_
  show codesBlk _ _ (ix2 (n0 := 256) (n1 := 2560) ⟨k.val % 256, _⟩ o) = _
  unfold codesBlk
  rw [blk0, tile1 m c (pt (k.val / 256) hp) _ _ ⟨k.val / 128, by omega⟩ (by show k.val / 128 = 2 * (k.val / 256) + k.val % 256 / 128; omega)]
  congr 1
  refine congrArg₂ _ (Fin.ext ?_) (Fin.ext ?_)
  · show k.val % 256 % 128 = k.val % 128; omega
  · rfl

/-- the bytes of scales -/
theorem scales_at (c : Dev nD) (k : Fin 960) (o : Fin 2560) :
    (dats m 0 c).arrAt 3 cfg0.N (ix2 (n0 := 960) (n1 := 2560) k o)
      = tScales (V m c main_v26) (aTile (V m c main_v27) ⟨k.val / 8, by omega⟩ ⟨o.val / 256, by omega⟩)
        (ix2 (n0 := 8) (n1 := 256) ⟨k.val % 8, by omega⟩ ⟨o.val % 256, by omega⟩) := by
  have hk := k.isLt
  have hp : k.val / 16 < 60 := by omega
  obtain ⟨i0, i1⟩ := idx3 (pt (k.val / 16) hp)
  have hb := congrFun (blocks3 m c (pt (k.val / 16) hp) (flush0_3 _))
    (ix2 (n0 := 16) (n1 := 2560) ⟨k.val % 16, by omega⟩ o)
  rw [flushed3, scales_eq] at hb
  have he : @Eq (S960x2560.Idx) (((cfg0.win 3).blk (pt (k.val / 16) hp)).view.emb (ix2 (n0 := 16) (n1 := 2560) ⟨k.val % 16, by omega⟩ o))
      (ix2 (n0 := 960) (n1 := 2560) k o) := by
    funext a
    apply Fin.ext
    match a with
    | ⟨0, _⟩ => show win0_3.index _ 0 * 16 + 1 * (k.val % 16) = k.val; rw [i0]; show k.val / 16 * 16 + _ = _; omega
    | ⟨1, _⟩ => show win0_3.index _ 1 * 2560 + 1 * o.val = o.val; rw [i1]; omega
  rw [← he]
  refine hb.trans ?_
  show scalesBlk _ _ (ix2 (n0 := 16) (n1 := 2560) ⟨k.val % 16, _⟩ o) = _
  unfold scalesBlk
  rw [blk0, tile1 m c (pt (k.val / 16) hp) _ _ ⟨k.val / 8, by omega⟩ (by show k.val / 8 = 2 * (k.val / 16) + k.val % 16 / 8; omega)]
  congr 1
  refine congrArg₂ _ (Fin.ext ?_) (Fin.ext ?_)
  · show k.val % 16 % 8 = k.val % 8; omega
  · rfl

/-- the values read back, transposed -/
theorem xt_at (c : Dev nD) (o : Fin 2560) (k : Fin 30720) :
    (dats m 0 c).arrAt 4 cfg0.N (ix2 (n0 := 2560) (n1 := 30720) o k)
      = tXt (V m c main_v26) (aTile (V m c main_v27) ⟨k.val / 256, by omega⟩ ⟨o.val / 256, by omega⟩)
        (ix2 (n0 := 256) (n1 := 256) ⟨o.val % 256, by omega⟩ ⟨k.val % 256, by omega⟩) := by
  have hk := k.isLt
  have hp : k.val / 512 < 60 := by omega
  obtain ⟨i0, i1⟩ := idx4 (pt (k.val / 512) hp)
  have hb := congrFun (blocks4 m c (pt (k.val / 512) hp) (flush0_4 _))
    (ix2 (n0 := 2560) (n1 := 512) o ⟨k.val % 512, by omega⟩)
  rw [flushed4, xt_eq] at hb
  have he : @Eq (S2560x30720.Idx) (((cfg0.win 4).blk (pt (k.val / 512) hp)).view.emb (ix2 (n0 := 2560) (n1 := 512) o ⟨k.val % 512, by omega⟩))
      (ix2 (n0 := 2560) (n1 := 30720) o k) := by
    funext a
    apply Fin.ext
    match a with
    | ⟨0, _⟩ => show win0_4.index _ 0 * 2560 + 1 * o.val = o.val; rw [i0]; omega
    | ⟨1, _⟩ => show win0_4.index _ 1 * 512 + 1 * (k.val % 512) = k.val; rw [i1]; show k.val / 512 * 512 + _ = _; omega
  rw [← he]
  refine hb.trans ?_
  show xtBlk _ _ (ix2 (n0 := 2560) (n1 := 512) o ⟨k.val % 512, _⟩) = _
  unfold xtBlk
  rw [blk0, tile1 m c (pt (k.val / 512) hp) _ _ ⟨k.val / 256, by omega⟩ (by show k.val / 256 = 2 * (k.val / 512) + k.val % 512 / 256; omega)]
  congr 1
  refine congrArg₂ _ (Fin.ext ?_) (Fin.ext ?_)
  · rfl
  · show k.val % 512 % 256 = k.val % 256; omega

end Cert.KernelXIdeal.Value

end

end
-- ==== Proof.XKRead.lean ====
/- The operands of the activations' kernel as its tiles find them: the rotation matrix the host builds and the activations with
   the experts' tokens in one line; and a tile's rotated values. -/
module

public import proofs.«01_k».proof.Proof.XTileVal
public import proofs.«01_k».proof.Proof.XArrays
public import proofs.«01_k».proof.Proof.Inputs

@[expose] public section

set_option maxRecDepth 16384

noncomputable section

namespace Cert.Mx

open Idealize.ShloMosaic

/-- the activations: token `k` of all the experts' tokens, channel `o` -/
def rowX (X : (⟨⟨3, ![5, 6144, 2560]⟩, .bf16⟩ : BufTy).Contents (Elt Ideal)) (k o : ℕ) : EReal :=
  if h : k < 30720 ∧ o < 2560 then X (ValueIdx.ix3 ⟨k / 6144, by omega⟩ ⟨k % 6144, by omega⟩ ⟨o, h.2⟩) else (0 : EReal)

end Cert.Mx

namespace Cert.KernelXIdeal.Value

open Cert.KernelXIdeal Cert.KernelXIdeal.Gen Idealize.ShloMosaic Idealize.ShloMosaic.TcCoe Idealize.SL.Sem Cert.Mx

variable (m : (ℓ : Loc nD τ sig) → Buf (Elt Ideal) ℓ) (c : Dev nD)

theorem v27_at (k : Fin 30720) (o : Fin 2560) :
    (V m c main_v27 : (⟨S30720x2560, .bf16⟩ : BufTy).Contents (Elt Ideal)) (ix2 k o)
      = rowX (m (c, Proc.tc.devRef main_arg0)) k.val o.val := by
  simp only [V, hostOps0, hostOps0_1, hostOps0_2, List.flatten_cons, List.flatten_nil, List.append_nil, List.cons_append, List.nil_append]
  entry_read
  unfold rowX
  rw [dif_pos ⟨k.isLt, o.isLt⟩]
  pointwise
  rfl

/-- whether two numbers agree, as a factor -/
def same (a l : ℕ) : EReal :=
  (FloatOps.uitofp (F := Ideal) FTy.f32
    (IntOp.cmpi CmpIPredicate.eq (IntOp.addi (BitVec.ofNat 32 a) 0#32) (BitVec.ofNat 32 l)) : EReal)

theorem v26_at (a l : Fin 256) :
    ((V m c main_v26 : (⟨S256x256, .bf16⟩ : BufTy).Contents (Elt Ideal)) (ix2 a l) : EReal)
      = same (a.val / 64) (l.val / 64) * rotE (BitVec.ofNat 32 (a.val % 64)) (BitVec.ofNat 32 (l.val % 64))
          (signE (m (c, Proc.tc.devRef main_arg1)) (l.val % 64)) := by
  unfold signE
  rw [dif_pos (Nat.mod_lt _ (by decide))]
  simp only [V, hostOps0, hostOps0_1, hostOps0_2, List.flatten_cons, List.flatten_nil, List.append_nil, List.cons_append, List.nil_append]
  entry_read
  simp only [StableHlo.TRef.ofBuf, StableHlo.TRef.toBuf, StableHlo.TRef.of, eq_mpr_eq_cast, cast_eq]
  pointwise
  rfl

theorem same_eq (a : ℕ) : ∀ i, i = a → same a i = 1 := by
  rintro i rfl
  unfold same
  have : IntOp.cmpi CmpIPredicate.eq (IntOp.addi (BitVec.ofNat 32 i) 0#32) (BitVec.ofNat 32 i) = 1#1 := by
    simp [IntOp.cmpi, IntOp.addi]
  rw [this]
  show (((1 : ℕ) : ℝ) : EReal) = 1
  norm_num

theorem same_ne (a : ℕ) (ha : a < 4) : ∀ i, i < 4 → i ≠ a → same a i = 0 := by
  intro i hi h
  unfold same
  have : IntOp.cmpi CmpIPredicate.eq (IntOp.addi (BitVec.ofNat 32 a) 0#32) (BitVec.ofNat 32 i) = 0#1 := by
    interval_cases a <;> interval_cases i <;> first | rfl | exact absurd rfl h
  rw [this]
  show (((0 : ℕ) : ℝ) : EReal) = 0
  norm_num

theorem k4_sum (x0 d : Vec Ideal S256x256 .bf16) (g : Fin 8) (l : Fin 32) (b : Fin 256) :
    (k0_pay4 (F := Ideal) x0 d (ix3 g l b) : EReal)
      = ∑ x : Fin 256, (x0 (ix2 ⟨g.val * 32 + l.val, by omega⟩ x) : EReal) * (d (ix2 x b) : EReal) := by
  pointwise [k0_pay4, k0_pay3]

/-- a tile's rotated values are those of its rows and columns -/
theorem k4_at (τ : Fin 120) (χ : Fin 10) (g : Fin 8) (l : Fin 32) (b : Fin 256) :
    (k0_pay4 (F := Ideal) (V m c main_v26) (aTile (V m c main_v27) τ χ) (ix3 g l b) : EReal)
      = rotated (rowX (m (c, Proc.tc.devRef main_arg0))) (signE (m (c, Proc.tc.devRef main_arg1)))
          ((τ.val * 8 + g.val) * 32 + l.val) (χ.val * 256 + b.val) := by
  rw [k4_sum]
  have hq : (g.val * 32 + l.val) / 64 < 4 := by omega
  have e2 := sum_block ((g.val * 32 + l.val) / 64) hq
    (fun x => rotE (BitVec.ofNat 32 ((g.val * 32 + l.val) % 64)) (BitVec.ofNat 32 (x % 64)) (signE (m (c, Proc.tc.devRef main_arg1)) (x % 64))
      * rowX (m (c, Proc.tc.devRef main_arg0)) (256 * τ.val + x) (256 * χ.val + b.val))
    (same ((g.val * 32 + l.val) / 64)) (same_eq _) (same_ne _ hq)
  refine ((Finset.sum_congr rfl fun x _ => ?_).trans e2).trans ?_
  · have h27 : (aTile (V m c main_v27) τ χ (ix2 x b) : EReal) = rowX (m (c, Proc.tc.devRef main_arg0)) (256 * τ.val + x.val) (256 * χ.val + b.val) :=
      v27_at m c ⟨256 * τ.val + x.val, by omega⟩ ⟨256 * χ.val + b.val, by omega⟩
    rw [h27, v26_at m c ⟨g.val * 32 + l.val, by omega⟩ x, mul_assoc]
  · unfold rotated
    refine Finset.sum_congr rfl fun x _ => ?_
    have h1 : ((g.val * 32 + l.val) / 64 * 64 + x.val) % 64 = x.val := by omega
    have h2 : ((τ.val * 8 + g.val) * 32 + l.val) % 64 = (g.val * 32 + l.val) % 64 := by omega
    have h3 : ((τ.val * 8 + g.val) * 32 + l.val) / 64 * 64 + x.val = 256 * τ.val + ((g.val * 32 + l.val) / 64 * 64 + x.val) := by omega
    have h4 : χ.val * 256 + b.val = 256 * χ.val + b.val := by omega
    rw [h2, h3, h4]
    show rotE _ (BitVec.ofNat 32 (((g.val * 32 + l.val) / 64 * 64 + x.val) % 64)) (signE _ (((g.val * 32 + l.val) / 64 * 64 + x.val) % 64)) * _ = _
    rw [h1, mul_comm]

end Cert.KernelXIdeal.Value

end

end
-- ==== Proof.XKVal.lean ====
/- The activations' kernel's three results from the rotated values. -/
module

public import proofs.«01_k».proof.Proof.XKRead

@[expose] public section

set_option maxRecDepth 16384

noncomputable section

namespace Cert.KernelXIdeal.Value

open Cert.KernelXIdeal Cert.KernelXIdeal.Gen Idealize.ShloMosaic Idealize.ShloMosaic.TcCoe Idealize.SL.Sem Cert.Mx

variable (m : (ℓ : Loc nD τ sig) → Buf (Elt Ideal) ℓ) (c : Dev nD)

/-- the rotated activations -/
def rotX : ℕ → ℕ → EReal := rotated (rowX (m (c, Proc.tc.devRef main_arg0))) (signE (m (c, Proc.tc.devRef main_arg1)))

variable {m c}

theorem isTile (h : AllFair (rotX m c)) (τ : Fin 120) (χ : Fin 10) :
    IsTile (V m c main_v26) (aTile (V m c main_v27) τ χ) (rotX m c) τ.val (χ.val * 256) :=
  ⟨h, fun g l b => k4_at m c τ χ g l b⟩

theorem codes_val (h : AllFair (rotX m c)) (k : Fin 15360) (o : Fin 2560) :
    (dats m 0 c).arrAt 2 cfg0.N (ix2 (n0 := 15360) (n1 := 2560) k o) = xcodeByte (rotX m c) k.val o.val := by
  refine (codes_at m c k o).trans ?_
  refine (tCodes_val (isTile h ⟨k.val / 128, by omega⟩ ⟨o.val / 256, by omega⟩)
    ⟨k.val % 128, by omega⟩ ⟨o.val % 256, by omega⟩).trans ?_
  have e1 : k.val / 128 * 128 + k.val % 128 = k.val := by omega
  have e2 : o.val / 256 * 256 + o.val % 256 = o.val := by omega
  simp only [e1, e2]

theorem scales_val (h : AllFair (rotX m c)) (k : Fin 960) (o : Fin 2560) :
    (dats m 0 c).arrAt 3 cfg0.N (ix2 (n0 := 960) (n1 := 2560) k o) = xscaleByte (rotX m c) k.val o.val := by
  refine (scales_at m c k o).trans ?_
  refine (tScales_val (isTile h ⟨k.val / 8, by omega⟩ ⟨o.val / 256, by omega⟩)
    ⟨k.val % 8, by omega⟩ ⟨o.val % 256, by omega⟩).trans ?_
  have e1 : k.val / 8 * 8 + k.val % 8 = k.val := by omega
  have e2 : o.val / 256 * 256 + o.val % 256 = o.val := by omega
  simp only [e1, e2]

theorem xt_val (h : AllFair (rotX m c)) (o : Fin 2560) (k : Fin 30720) :
    @Eq EReal ((dats m 0 c).arrAt 4 cfg0.N (ix2 (n0 := 2560) (n1 := 30720) o k)) ((xdqv (rotX m c) k.val o.val : ℝ) : EReal) := by
  refine (xt_at m c o k).trans ?_
  refine (tXt_val (isTile h ⟨k.val / 256, by omega⟩ ⟨o.val / 256, by omega⟩)
    ⟨k.val % 256, by omega⟩ ⟨o.val % 256, by omega⟩).trans ?_
  have e1 : k.val / 256 * 256 + k.val % 256 = k.val := by omega
  have e2 : o.val / 256 * 256 + o.val % 256 = o.val := by omega
  simp only [e1, e2]

end Cert.KernelXIdeal.Value

end

end
-- ==== Proof.XRefRead.lean ====
/- The activations' reference's intermediate arrays at an index, each from the arrays before it. -/
module

public import proofs.«01_k».proof.Proof.Gen.ReferenceXIdeal.Run
public import proofs.«01_k».proof.Proof.XKRead
public import Idealize.ShloMosaic.Lib.Pipeline.ValueKit

@[expose] public section

set_option maxRecDepth 16384

noncomputable section

namespace Cert.ReferenceXIdeal.Value

open Cert.ReferenceXIdeal Cert.ReferenceXIdeal.Gen Idealize.ShloMosaic Idealize.ShloMosaic.TcCoe Idealize.SL.Sem Cert.Mx

variable (V : Valuation τ sig (Elt Ideal))

/-- the activations, read as a number -/
abbrev actAt (b : Fin 5) (k : Fin 6144) (o : Fin 2560) : EReal := V (Proc.tc.devRef main_arg0) (ix3 b k o)
/-- the rotated activations, read as a number -/
abbrev rotAt (b : Fin 5) (g : Fin 192) (l : Fin 32) (o : Fin 2560) : EReal := res_main_v24 V (ix4 b g l o)
/-- a group's largest size, read as a number -/
abbrev maxAt (i : S5x192x2560.Idx) : EReal := res_main_v26 V i
/-- a group's exponent, read as an integer -/
abbrev expAt (b : Fin 5) (g : Fin 192) (o : Fin 2560) : BitVec 32 := res_main_v42 V (ix3 b g o)

theorem v24_sum (b : Fin 5) (g : Fin 192) (l : Fin 32) (o : Fin 2560) :
    rotAt V b g l o
      = ∑ x : Fin 64, actAt V b ⟨g.val / 2 * 64 + x.val, by omega⟩ o
          * rotE (BitVec.ofNat 32 (g.val % 2 * 32 + l.val)) (BitVec.ofNat 32 x.val) (V (Proc.tc.devRef main_arg1) (ix1 x) : EReal) := by
  unfold rotAt
  pointwise [res_main_v24]
  rfl

theorem v24_at (b : Fin 5) (g : Fin 192) (l : Fin 32) (o : Fin 2560) :
    (res_main_v24 V (ix4 b g l o) : EReal)
      = rotated (rowX (V (Proc.tc.devRef main_arg0))) (signE (V (Proc.tc.devRef main_arg1)))
          ((b.val * 192 + g.val) * 32 + l.val) o.val := by
  refine (v24_sum V b g l o).trans ?_
  unfold rotated
  refine Finset.sum_congr rfl fun x _ => ?_
  have h1 : ((b.val * 192 + g.val) * 32 + l.val) % 64 = g.val % 2 * 32 + l.val := by omega
  have h2 : ((b.val * 192 + g.val) * 32 + l.val) / 64 * 64 + x.val = b.val * 6144 + (g.val / 2 * 64 + x.val) := by omega
  rw [h1, h2]
  unfold rowX signE
  rw [dif_pos x.isLt, dif_pos ⟨by omega, o.isLt⟩]
  have e1 : (⟨(b.val * 6144 + (g.val / 2 * 64 + x.val)) / 6144, by omega⟩ : Fin 5) = b :=
    Fin.ext (by show (b.val * 6144 + (g.val / 2 * 64 + x.val)) / 6144 = b.val; omega)
  have e2 : (⟨(b.val * 6144 + (g.val / 2 * 64 + x.val)) % 6144, by omega⟩ : Fin 6144) = ⟨g.val / 2 * 64 + x.val, by omega⟩ :=
    Fin.ext (by show (b.val * 6144 + (g.val / 2 * 64 + x.val)) % 6144 = g.val / 2 * 64 + x.val; omega)
  rw [e1, e2]
  rfl

theorem v26_at (b : Fin 5) (g : Fin 192) (o : Fin 2560) :
    (res_main_v26 V (ix3 b g o) : EReal) = gmax (fun l => (res_main_v24 V (ix4 b g l o) : EReal)) := by
  unfold gmax
  pointwise [res_main_v26]
  exact (Shape.ReducesTo.fold_fiber_r4_a2 (n0 := 5) (n1 := 192) (n2 := 32) (n3 := 2560) reducesTo_S5x192x32x2560_S5x192x2560_d2
    (ix3 b g o) max (Ideal.ofBits .f32 4286578688#32) (fun x => (FloatOps.absf (F := Ideal) (φ := .f32) (res_main_v24 V x) : EReal)))

/-- the exponent, at any shape -/
theorem rexp_at (s : Shape) (h : S_.BroadcastsInDim s (![] : Fin 0 → Fin s.rank)) (A : FVec Ideal s .f32) (i : s.Idx) :
    select (cmpf .oeq A (broadcastInDim s ![] h (constant S_ .f32 0x00000000#32)))
      (broadcastInDim s ![] h (id (constantI S_ 32 0#32)))
      (subi (fptosi 32 (select (cmpf .olt A (broadcastInDim s ![] h (constant S_ .f32 0x00800000#32)))
        (broadcastInDim s ![] h (id (constant S_ .f32 0x00000000#32)))
        (addf (Host.floor (Host.divf (Host.log A) (broadcastInDim s ![] h (Host.log (constant S_ .f32 0x40000000#32)))))
          (broadcastInDim s ![] h (constant S_ .f32 0x3F800000#32))))) (broadcastInDim s ![] h (constantI S_ 32 3#32))) i
      = xRExp (A i) := by
  rfl

theorem v42_at (i : S5x192x2560.Idx) : res_main_v42 V i = xRExp (res_main_v26 V i) :=
  rexp_at S5x192x2560 bcast_S_S5x192x2560 (res_main_v26 V) i

theorem v49_at (b : Fin 5) (g : Fin 192) (l : Fin 32) (o : Fin 2560) :
    (res_main_v49 V (ix4 b g l o) : EReal) = rotAt V b g l o
      * Ideal.pow (Ideal.ofBits .f32 1073741824#32)
          (FloatOps.sitofp (F := Ideal) .f32 (-expAt V b g o) : EReal) := by
  unfold rotAt expAt
  pointwise [res_main_v49]

theorem v52_at (b : Fin 5) (g : Fin 192) (l : Fin 32) (o : Fin 2560) :
    (res_main_v52 V (ix4 b g l o) : EReal) = nCap (res_main_v49 V (ix4 b g l o)) := by
  unfold nCap
  pointwise [res_main_v52]

theorem v58_at (b : Fin 5) (g : Fin 192) (l : Fin 32) (o : Fin 2560) :
    (res_main_v58 V (ix4 b g l o) : EReal) = nStep (res_main_v52 V (ix4 b g l o)) := by
  unfold nStep
  pointwise [res_main_v58]

theorem v61_at (b : Fin 5) (g : Fin 192) (l : Fin 32) (o : Fin 2560) :
    (res_main_v61 V (ix4 b g l o) : EReal) = nGrid (res_main_v49 V (ix4 b g l o)) := by
  unfold nGrid
  simp only [← v52_at, ← v58_at]
  pointwise [res_main_v61]

theorem v86_at (b : Fin 5) (k : Fin 3072) (l : Fin 2) (o : Fin 2560) :
    (res_main_v86 V (ix4 b k l o) : BitVec 32)
      = rCode (res_main_v49 V (ix4 b ⟨k.val / 16, by omega⟩ ⟨k.val % 16 * 2 + l.val, by omega⟩ o))
          (res_main_v61 V (ix4 b ⟨k.val / 16, by omega⟩ ⟨k.val % 16 * 2 + l.val, by omega⟩ o)) := by
  unfold rCode
  pointwise [res_main_v86]

theorem v94_at (b : Fin 5) (k : Fin 3072) (o : Fin 2560) :
    (res_main_v94 V (ix3 b k o) : BitVec 8)
      = BitVec.setWidth 8 (IntOp.ori (res_main_v86 V (ix4 b k 0 o) : BitVec 32) (IntOp.shli .host (res_main_v86 V (ix4 b k 1 o)) 4#32)) := by
  pointwise [res_main_v94]

theorem v97_at (b : Fin 5) (g : Fin 192) (o : Fin 2560) :
    (res_main_v97 V (ix3 b g o) : BitVec 8) = BitVec.setWidth 8 (IntOp.addi (res_main_v42 V (ix3 b g o)) 127#32) := by
  pointwise [res_main_v97]

theorem v104_at (b : Fin 5) (g : Fin 192) (o : Fin 2560) :
    (res_main_v104 V (ix3 b g o) : EReal) = Ideal.pow (Ideal.ofBits .f32 1073741824#32)
      (FloatOps.sitofp (F := Ideal) .f32 (IntOp.subi (BitVec.setWidth 32 (res_main_v97 V (ix3 b g o) : BitVec 8)) 127#32) : EReal) := by
  pointwise [res_main_v104]

/-- the code of the first of two tokens, from their byte -/
theorem v107_at (b : Fin 5) (k : Fin 3072) (o : Fin 2560) : (res_main_v107 V (ix3 b k o) : BitVec 32)
    = IntOp.andi (BitVec.setWidth 32 (res_main_v94 V (ix3 b k o) : BitVec 8)) 15#32 := by
  pointwise [res_main_v107, res_main_v105]

/-- the code of the second -/
theorem v140_at (b : Fin 5) (k : Fin 3072) (o : Fin 2560) : (res_main_v140 V (ix3 b k o) : BitVec 32)
    = IntOp.shrsi .host (BitVec.setWidth 32 (res_main_v94 V (ix3 b k o) : BitVec 8)) 4#32 := by
  pointwise [res_main_v140, res_main_v105]

theorem v130_at (b : Fin 5) (k : Fin 3072) (o : Fin 2560) : (res_main_v130 V (ix3 b k o) : EReal)
    = rMag (res_main_v107 V (ix3 b k o)) := by
  unfold rMag
  pointwise [res_main_v130, res_main_v111, res_main_v115]

theorem v163_at (b : Fin 5) (k : Fin 3072) (o : Fin 2560) : (res_main_v163 V (ix3 b k o) : EReal)
    = rMag (res_main_v140 V (ix3 b k o)) := by
  unfold rMag
  pointwise [res_main_v163, res_main_v144, res_main_v148]

end Cert.ReferenceXIdeal.Value

end

end
-- ==== Proof.XRefVal.lean ====
/- The activations' reference's results from the rotated values. `R` is the rotated values, all the experts' tokens in one line. -/
module

public import proofs.«01_k».proof.Proof.XRefRead

@[expose] public section

set_option maxRecDepth 16384

noncomputable section

namespace Cert.ReferenceXIdeal.Value

open Cert.ReferenceXIdeal Cert.ReferenceXIdeal.Gen Idealize.ShloMosaic Idealize.ShloMosaic.TcCoe Idealize.SL.Sem Cert.Mx

variable (V : Valuation τ sig (Elt Ideal)) (R : ℕ → ℕ → EReal)

/-- the rotated values are `R`'s, and every group of `R` is fair -/
def IsRot : Prop :=
  AllFair R ∧
  (∀ (b : Fin 5) (g : Fin 192) (l : Fin 32) (o : Fin 2560),
    rotAt V b g l o = R ((b.val * 192 + g.val) * 32 + l.val) o.val)

variable {V R}

theorem v26_val (h : IsRot V R) (b : Fin 5) (g : Fin 192) (o : Fin 2560) :
    maxAt V (ix3 b g o) = xmax R (b.val * 192 + g.val) o.val := by
  refine (v26_at V b g o).trans ?_
  unfold xmax
  congr 1
  funext l
  exact h.2 b g l o

theorem v42_val (h : IsRot V R) (b : Fin 5) (g : Fin 192) (o : Fin 2560) :
    expAt V b g o = BitVec.ofInt 32 (xexpo R (b.val * 192 + g.val) o.val) := by
  refine (v42_at V (ix3 b g o)).trans ?_
  exact (congrArg xRExp (v26_val h b g o)).trans (xexpo_spec R _ _ (h.1 _ _)).2.2.2

theorem v49_val (h : IsRot V R) (b : Fin 5) (g : Fin 192) (l : Fin 32) (o : Fin 2560) :
    (res_main_v49 V (ix4 b g l o) : EReal) = ((xscaled R ((b.val * 192 + g.val) * 32 + l.val) o.val : ℝ) : EReal) := by
  refine (v49_at V b g l o).trans ?_
  have hs := xexpo_spec R (b.val * 192 + g.val) o.val (h.1 _ _)
  rw [h.2, v42_val h, npow_neg _ hs.1 (by have := hs.2.1; omega), xr_spec R h.1, ← EReal.coe_mul]
  unfold xscaled
  have e2 : ((b.val * 192 + g.val) * 32 + l.val) / 32 = b.val * 192 + g.val := by omega
  rw [e2]

theorem v61_val (h : IsRot V R) (b : Fin 5) (g : Fin 192) (l : Fin 32) (o : Fin 2560) :
    (res_main_v61 V (ix4 b g l o) : EReal) = ((xgrid (xscaled R ((b.val * 192 + g.val) * 32 + l.val) o.val) : ℝ) : EReal) := by
  refine (v61_at V b g l o).trans ?_
  exact (congrArg (fun y : EReal => nGrid y) (v49_val h b g l o)).trans (nGrid_coe _)

theorem v86_val (h : IsRot V R) (b : Fin 5) (k : Fin 3072) (l : Fin 2) (o : Fin 2560) :
    (res_main_v86 V (ix4 b k l o) : BitVec 32) = BitVec.ofNat 32 (xcode (xscaled R (2 * (b.val * 3072 + k.val) + l.val) o.val)) := by
  refine (v86_at V b k l o).trans ?_
  have e3 : (b.val * 192 + k.val / 16) * 32 + (k.val % 16 * 2 + l.val) = 2 * (b.val * 3072 + k.val) + l.val := by omega
  have e : rCode (res_main_v49 V (ix4 b ⟨k.val / 16, by omega⟩ ⟨k.val % 16 * 2 + l.val, by omega⟩ o))
          (res_main_v61 V (ix4 b ⟨k.val / 16, by omega⟩ ⟨k.val % 16 * 2 + l.val, by omega⟩ o))
      = rCode ((xscaled R ((b.val * 192 + k.val / 16) * 32 + (k.val % 16 * 2 + l.val)) o.val : ℝ) : EReal)
          ((xgrid (xscaled R ((b.val * 192 + k.val / 16) * 32 + (k.val % 16 * 2 + l.val)) o.val) : ℝ) : EReal) :=
    congrArg₂ (fun y q : EReal => rCode y q) (v49_val h b ⟨k.val / 16, by omega⟩ ⟨k.val % 16 * 2 + l.val, by omega⟩ o)
      (v61_val h b ⟨k.val / 16, by omega⟩ ⟨k.val % 16 * 2 + l.val, by omega⟩ o)
  rw [e, nCode_eq, e3]

theorem v94_val (h : IsRot V R) (b : Fin 5) (k : Fin 3072) (o : Fin 2560) :
    (res_main_v94 V (ix3 b k o) : BitVec 8) = xcodeByte R (b.val * 3072 + k.val) o.val := by
  refine (v94_at V b k o).trans ?_
  rw [v86_val h b k 0 o, v86_val h b k 1 o]
  exact rByte_eq ⟨_, xcode_lt (xscaled R (2 * (b.val * 3072 + k.val)) o.val)⟩ ⟨_, xcode_lt (xscaled R (2 * (b.val * 3072 + k.val) + 1) o.val)⟩

theorem v97_val (h : IsRot V R) (b : Fin 5) (g : Fin 192) (o : Fin 2560) :
    (res_main_v97 V (ix3 b g o) : BitVec 8) = xscaleByte R (b.val * 192 + g.val) o.val := by
  refine (v97_at V b g o).trans ?_
  exact congrArg (fun e : BitVec 32 => BitVec.setWidth 8 (IntOp.addi e 127#32)) (v42_val h b g o)

theorem v104_val (h : IsRot V R) (b : Fin 5) (g : Fin 192) (o : Fin 2560) :
    (res_main_v104 V (ix3 b g o) : EReal) = (((2 : ℝ) ^ xexpo R (b.val * 192 + g.val) o.val : ℝ) : EReal) := by
  refine (v104_at V b g o).trans ?_
  have hs := xexpo_spec R (b.val * 192 + g.val) o.val (h.1 _ _)
  rw [v97_val h]
  exact npow_scale _ hs.1 (by have := hs.2.1; omega)

theorem v107_val (h : IsRot V R) (b : Fin 5) (k : Fin 3072) (o : Fin 2560) :
    (res_main_v107 V (ix3 b k o) : BitVec 32) = BitVec.ofNat 32 (xcode (xscaled R (2 * (b.val * 3072 + k.val)) o.val)) := by
  refine (v107_at V b k o).trans ?_
  rw [v94_val h]
  exact rLo_eq ⟨_, xcode_lt (xscaled R (2 * (b.val * 3072 + k.val)) o.val)⟩ ⟨_, xcode_lt (xscaled R (2 * (b.val * 3072 + k.val) + 1) o.val)⟩

theorem v140_val (h : IsRot V R) (b : Fin 5) (k : Fin 3072) (o : Fin 2560) :
    (res_main_v140 V (ix3 b k o) : BitVec 32) = BitVec.ofNat 32 (xcode (xscaled R (2 * (b.val * 3072 + k.val) + 1) o.val)) := by
  refine (v140_at V b k o).trans ?_
  rw [v94_val h]
  exact rHi_eq ⟨_, xcode_lt (xscaled R (2 * (b.val * 3072 + k.val)) o.val)⟩ ⟨_, xcode_lt (xscaled R (2 * (b.val * 3072 + k.val) + 1) o.val)⟩

/-! ## The values read back -/

/-- the values of one of each two tokens, from the codes, their magnitudes and the scales -/
def half (N : IVec S5x3072x2560 32) (M : FVec Ideal S5x3072x2560 .f32) (Sc : FVec Ideal S5x192x2560 .bf16) :
    FVec Ideal S5x3072x2560 .bf16 :=
  shapeCast _ (mulf (shapeCast _ (truncf .bf16 (select (cmpi .ne (andi N (broadcastInDim S5x3072x2560 ![] bcast_S_S5x3072x2560 (constantI S_ 32 8#32)))
      (broadcastInDim S5x3072x2560 ![] bcast_S_S5x3072x2560 (constantI S_ 32 0#32))) (Host.negf M) M) bitsLt_bf16_f32) shapeCasts_S5x3072x2560_S5x192x16x2560)
    (broadcastInDim S5x192x16x2560 ![0, 1, 2, 3] bcast_S5x192x1x2560_S5x192x16x2560_0_1_2_3
      (broadcastInDim S5x192x1x2560 ![0, 1, 3] bcast_S5x192x2560_S5x192x1x2560_0_1_3 Sc))) shapeCasts_S5x192x16x2560_S5x3072x2560

theorem half_at (N : IVec S5x3072x2560 32) (M : FVec Ideal S5x3072x2560 .f32) (Sc : FVec Ideal S5x192x2560 .bf16)
    (b : Fin 5) (k : Fin 3072) (o : Fin 2560) :
    (half N M Sc (ix3 b k o) : EReal)
      = Scalar.select (IntOp.cmpi CmpIPredicate.ne (IntOp.andi (N (ix3 b k o)) 8#32) 0#32) (-(M (ix3 b k o) : EReal)) (M (ix3 b k o) : EReal)
          * (Sc (ix3 b ⟨k.val / 16, by omega⟩ o) : EReal) := by
  pointwise [half]

/-- an element whose code is `n` -/
theorem half_val (N : IVec S5x3072x2560 32) (M : FVec Ideal S5x3072x2560 .f32) (Sc : FVec Ideal S5x192x2560 .bf16)
    (b : Fin 5) (k : Fin 3072) (o : Fin 2560) (n : ℕ) (hn : n < 16) (s : ℝ)
    (hN : N (ix3 b k o) = BitVec.ofNat 32 n) (hM : (M (ix3 b k o) : EReal) = rMag (N (ix3 b k o)))
    (hS : (Sc (ix3 b ⟨k.val / 16, by omega⟩ o) : EReal) = ((s : ℝ) : EReal)) :
    (half N M Sc (ix3 b k o) : EReal) = ((cval n * s : ℝ) : EReal) := by
  rw [half_at, hM, hS, hN, EReal.coe_mul, ← rDec_eq n hn]
  rfl

/-- one of each two tokens and the other, interleaved, and transposed -/
def stackT (A B : FVec Ideal S5x3072x2560 .bf16) : FVec Ideal S2560x30720 .bf16 :=
  transpose S2560x30720 [1, 0] (shapeCast S30720x2560 (concatenate S5x3072x2x2560 2
    [⟨S5x3072x1x2560, (broadcastInDim S5x3072x1x2560 ![0, 1, 3] bcast_S5x3072x2560_S5x3072x1x2560_0_1_3 A)⟩,
     ⟨S5x3072x1x2560, (broadcastInDim S5x3072x1x2560 ![0, 1, 3] bcast_S5x3072x2560_S5x3072x1x2560_0_1_3 B)⟩]
    concatenates_S5x3072x1x2560_S5x3072x1x2560_S5x3072x2x2560_d2) shapeCasts_S5x3072x2x2560_S30720x2560) transposes_S30720x2560_S2560x30720_1_0

theorem stack0 (A B : FVec Ideal S5x3072x2560 .bf16) (o : Fin 2560) (k : Fin 30720) (hk : k.val % 2 = 0) :
    stackT A B (ix2 o k) = A (ix3 ⟨k.val / 6144, by omega⟩ ⟨k.val % 6144 / 2, by omega⟩ o) := by
  pointwise [stackT]
  rw [dif_pos (by omega)]
  congr 2
  exact Fin.ext (by show k.val / 2 % 3072 = k.val % 6144 / 2; omega)

theorem stack1 (A B : FVec Ideal S5x3072x2560 .bf16) (o : Fin 2560) (k : Fin 30720) (hk : k.val % 2 = 1) :
    stackT A B (ix2 o k) = B (ix3 ⟨k.val / 6144, by omega⟩ ⟨k.val % 6144 / 2, by omega⟩ o) := by
  pointwise [stackT]
  rw [dif_neg (by omega)]
  congr 2
  exact Fin.ext (by show k.val / 2 % 3072 = k.val % 6144 / 2; omega)

variable (V)

/-- the values read back, transposed -/
def refXt : FVec Ideal S2560x30720 .bf16 :=
  stackT (half (res_main_v107 V) (res_main_v130 V) (res_main_v104 V)) (half (res_main_v140 V) (res_main_v163 V) (res_main_v104 V))

variable {V}

theorem refXt_val (h : IsRot V R) (o : Fin 2560) (k : Fin 30720) :
    (refXt V (ix2 o k) : EReal) = ((xdqv R k.val o.val : ℝ) : EReal) := by
  have i2 : k.val / 32 = k.val / 6144 * 192 + k.val % 6144 / 2 / 16 := by omega
  unfold refXt xdqv
  rcases Nat.mod_two_eq_zero_or_one k.val with hk | hk
  · have i1 : 2 * (k.val / 6144 * 3072 + k.val % 6144 / 2) = k.val := by omega
    have e := half_val (res_main_v107 V) (res_main_v130 V) (res_main_v104 V) ⟨k.val / 6144, by omega⟩ ⟨k.val % 6144 / 2, by omega⟩ o _
      (xcode_lt _) _ (v107_val h _ _ o) (v130_at V _ _ o) (v104_val h _ _ o)
    simp only [i1, ← i2] at e
    exact (stack0 _ _ o k hk).trans e
  · have i1 : 2 * (k.val / 6144 * 3072 + k.val % 6144 / 2) + 1 = k.val := by omega
    have e := half_val (res_main_v140 V) (res_main_v163 V) (res_main_v104 V) ⟨k.val / 6144, by omega⟩ ⟨k.val % 6144 / 2, by omega⟩ o _
      (xcode_lt _) _ (v140_val h _ _ o) (v163_at V _ _ o) (v104_val h _ _ o)
    simp only [i1, ← i2] at e
    exact (stack1 _ _ o k hk).trans e

end Cert.ReferenceXIdeal.Value

end

end
-- ==== Proof.XTame.lean ====
/- The activations' precondition: its shape relations, and what it says of every group of rotated activations. -/
module

public import proofs.«01_k».proof.Pre_tame_x
public import proofs.«01_k».proof.Proof.XRefRead
public import proofs.«01_k».proof.Proof.Tame

@[expose] public section

set_option maxRecDepth 16384

noncomputable section

namespace Cert.Pre_tame_x

open Idealize.ShloMosaic Cert.Mx

instance facts : Cert.Pre_tame_x.Facts where
  bcast_S64_S64x1_0 := by decide
  bcast_S64_S1x64_1 := by decide
  bcast_S64x1_S64x64_0_1 := by decide
  bcast_S1x64_S64x64_0_1 := by decide
  bcast_S_S64x64 := by decide
  bitsLt_bf16_f32 := by decide
  shapeCasts_S5x6144x2560_S5x96x64x2560 := by decide
  transposes_S5x96x2560x64_S5x96x64x2560_0_1_3_2 := by decide
  shapeCasts_S5x96x64x2560_S5x6144x2560 := by decide
  shapeCasts_S5x6144x2560_S5x192x32x2560 := by decide
  reducesTo_S5x192x32x2560_S5x192x2560_d2 := by decide
  h_S_ := by decide
  bcast_S_S5x192x2560 := by decide
  reducesTo_S5x192x2560_S_d0_1_2 := by decide
  dot_S5x96x64x2560_S64x64_S5x96x2560x64_2_1_013_0_n_n_wf := by decide

/-- what is required of an array of groups' largest sizes, at any shape -/
def within (s : Shape) (h : S_.BroadcastsInDim s (![] : Fin 0 → Fin s.rank)) (A : FVec Ideal s .f32) : IVec s 1 :=
  ori (cmpf .oeq A (broadcastInDim s ![] h (constant S_ .f32 0x00000000#32)))
    (andi (cmpf .oge A (broadcastInDim s ![] h (constant S_ .f32 0x01800000#32)))
      (cmpf .ole A (broadcastInDim s ![] h (constant S_ .f32 0x7E000000#32))))

theorem c_low : Ideal.ofBits FTy.f32 0x01800000#32 = (((2 : ℝ) ^ (-124 : ℤ) : ℝ) : EReal) := by
  simp [Ideal.ofBits, Ideal.ieee, -EReal.coe_mul]; norm_num

theorem within_at (s : Shape) (h : S_.BroadcastsInDim s (![] : Fin 0 → Fin s.rank)) (A : FVec Ideal s .f32) (i : s.Idx)
    (hw : within s h A i = 1#1) : Fair (A i) := by
  have e : within s h A i = IntOp.ori (BitVec.ofBool (decide ((A i : EReal) = Ideal.ofBits .f32 0#32)))
      (IntOp.andi (BitVec.ofBool (decide (Ideal.ofBits .f32 0x01800000#32 ≤ (A i : EReal))))
        (BitVec.ofBool (decide ((A i : EReal) ≤ Ideal.ofBits .f32 0x7E000000#32)))) := rfl
  rw [e, c_zero, c_low, Cert.Pre_tame.c_big] at hw
  have or1 : ∀ x y : BitVec 1, IntOp.ori x y = 1#1 → x = 1#1 ∨ y = 1#1 := by decide
  have ob : ∀ p : Bool, BitVec.ofBool p = 1#1 → p = true := by decide
  rcases or1 _ _ hw with h0 | h0
  · have := of_decide_eq_true (ob _ h0)
    exact Or.inl (by simpa using this)
  · obtain ⟨h1, h2⟩ := Cert.Pre_tame.two _ _ h0
    exact Or.inr ⟨of_decide_eq_true (ob _ h1), of_decide_eq_true (ob _ h2)⟩

/-- the precondition speaks of the reference's largest sizes -/
theorem fn_eq (V : Valuation Cert.ReferenceXIdeal.τ Cert.ReferenceXIdeal.sig (Elt Ideal)) :
    fn (F := Ideal) (V (Proc.tc.devRef Cert.ReferenceXIdeal.main_arg0)) (V (Proc.tc.devRef Cert.ReferenceXIdeal.main_arg1))
      = Host.reduce IntOp.andi (within S5x192x2560 Facts.bcast_S_S5x192x2560 (Cert.ReferenceXIdeal.Value.res_main_v26 V))
          (constantI S_ 1 1#1) Facts.reducesTo_S5x192x2560_S_d0_1_2 Facts.h_S_ := by
  unfold Cert.ReferenceXIdeal.Value.res_main_v26 Cert.ReferenceXIdeal.Value.res_main_v24 Cert.ReferenceXIdeal.Value.res_main_v0
  unfold fn fn_part1 within
  rfl

theorem fair (V : Valuation Cert.ReferenceXIdeal.τ Cert.ReferenceXIdeal.sig (Elt Ideal))
    (h : fn (F := Ideal) (V (Proc.tc.devRef Cert.ReferenceXIdeal.main_arg0)) (V (Proc.tc.devRef Cert.ReferenceXIdeal.main_arg1))
      = fun _ => 1#1) (i : S5x192x2560.Idx) : Fair (Cert.ReferenceXIdeal.Value.res_main_v26 V i) := by
  rw [fn_eq] at h
  have h1 := Cert.Pre_tame.reduce_all _ _ _ _ _ _ _ (congrFun h (fun a => a.elim0)) i
  exact within_at S5x192x2560 _ _ i h1

end Cert.Pre_tame_x

end

end
-- ==== Proof.XResult.lean ====
/- The activations' kernel's results are its reference's: both are the same functions of the rotated values. -/
module

public import proofs.«01_k».proof.Proof.XKVal
public import proofs.«01_k».proof.Proof.XRefVal
public import proofs.«01_k».proof.Proof.XTame

@[expose] public section

set_option maxRecDepth 16384

noncomputable section

namespace Cert.Mx

open Idealize.ShloMosaic

/-- the rotated values outside the arrays are zero -/
theorem rotated_out (X : (⟨⟨3, ![5, 6144, 2560]⟩, .bf16⟩ : BufTy).Contents (Elt Ideal)) (D : ℕ → EReal) (k o : ℕ)
    (h : ¬(k < 30720 ∧ o < 2560)) : rotated (rowX X) D k o = 0 := by
  unfold rotated
  refine Finset.sum_eq_zero fun x _ => ?_
  unfold rowX
  rw [dif_neg (by omega), zero_mul]

/-- and so is the largest size of a group of zeros -/
theorem gmax_zero (f : Fin 32 → EReal) (h : ∀ l, f l = 0) : gmax f = 0 := by
  have e : f = fun _ => ((0 : ℝ) : EReal) := by funext l; rw [h l, EReal.coe_zero]
  subst e
  unfold gmax
  refine le_antisymm ?_ ?_
  · rw [Finset.fold_max_le]
    refine ⟨?_, fun l _ => ?_⟩
    · have : Ideal.ofBits FTy.f32 4286578688#32 = ⊥ := by simp [Ideal.ofBits, Ideal.ieee]
      rw [this]; exact bot_le
    · rw [absf_coe', abs_zero, EReal.coe_zero]
  · rw [Finset.le_fold_max]
    refine Or.inr ⟨0, Finset.mem_univ _, ?_⟩
    rw [absf_coe', abs_zero, EReal.coe_zero]

end Cert.Mx

namespace Cert.ResultX

open Cert.KernelXIdeal Idealize.ShloMosaic Idealize.ShloMosaic.TcCoe Idealize.SL.Sem Cert.Mx
open Cert.KernelXIdeal.Value (rotX)

variable {m : (ℓ : Loc nD τ sig) → Buf (Elt Ideal) ℓ} {c : Dev nD}
variable {V : Valuation Cert.ReferenceXIdeal.τ Cert.ReferenceXIdeal.sig (Elt Ideal)}

/-- the reference's arguments are the kernel's -/
structure Agree (V : Valuation Cert.ReferenceXIdeal.τ Cert.ReferenceXIdeal.sig (Elt Ideal))
    (m : (ℓ : Loc nD τ sig) → Buf (Elt Ideal) ℓ) (c : Dev nD) : Prop where
  a0 : V (Proc.tc.devRef Cert.ReferenceXIdeal.main_arg0) = m (c, Proc.tc.devRef main_arg0)
  a1 : V (Proc.tc.devRef Cert.ReferenceXIdeal.main_arg1) = m (c, Proc.tc.devRef main_arg1)

/-- The reference's rotated values are the kernel's. -/
theorem rot_at (a : Agree V m c) (b : Fin 5) (g : Fin 192) (l : Fin 32) (o : Fin 2560) :
    Cert.ReferenceXIdeal.Value.rotAt V b g l o = rotX m c ((b.val * 192 + g.val) * 32 + l.val) o.val := by
  refine (Cert.ReferenceXIdeal.Value.v24_at V b g l o).trans ?_
  rw [a.a0, a.a1]
  rfl

/-- Under the precondition every group of rotated values is fair. -/
theorem fair (a : Agree V m c)
    (h : Cert.Pre_tame_x.fn (F := Ideal) (m (c, Proc.tc.devRef main_arg0)) (m (c, Proc.tc.devRef main_arg1)) = fun _ => 1#1) :
    AllFair (rotX m c) := by
  intro g o
  by_cases hi : g < 960 ∧ o < 2560
  · obtain ⟨hg, ho⟩ := hi
    have h' : Cert.Pre_tame_x.fn (F := Ideal) (V (Proc.tc.devRef Cert.ReferenceXIdeal.main_arg0))
        (V (Proc.tc.devRef Cert.ReferenceXIdeal.main_arg1)) = fun _ => 1#1 := by
      rw [a.a0, a.a1]; exact h
    have hf := Cert.Pre_tame_x.fair V h' (ix3 (n0 := 5) (n1 := 192) (n2 := 2560) ⟨g / 192, by omega⟩ ⟨g % 192, by omega⟩ ⟨o, ho⟩)
    have e : Cert.ReferenceXIdeal.Value.maxAt V (ix3 (n0 := 5) (n1 := 192) (n2 := 2560) ⟨g / 192, by omega⟩ ⟨g % 192, by omega⟩ ⟨o, ho⟩)
        = xmax (rotX m c) g o := by
      refine (Cert.ReferenceXIdeal.Value.v26_at V _ _ _).trans ?_
      unfold xmax
      congr 1
      funext l
      refine (rot_at a _ _ l _).trans ?_
      have eg : g / 192 * 192 + g % 192 = g := by omega
      simp only [eg]
    rw [← e]
    exact hf
  · refine Or.inl (gmax_zero _ fun l => ?_)
    exact rotated_out _ _ _ _ (by have := l.isLt; omega)

theorem reference_rot (a : Agree V m c) (h : AllFair (rotX m c)) : Cert.ReferenceXIdeal.Value.IsRot V (rotX m c) :=
  ⟨h, rot_at a⟩

/-- The packed codes agree. -/
theorem codes (a : Agree V m c) (h : AllFair (rotX m c)) :
    (shapeCast Cert.ReferenceXIdeal.S15360x2560 (Cert.ReferenceXIdeal.Value.res_main_v94 V)
      Cert.ReferenceXIdeal.Gen.shapeCasts_S5x3072x2560_S15360x2560 : IVec S15360x2560 8)
      = (Cert.KernelXIdeal.Gen.dats m 0 c).arrAt 2 Cert.KernelXIdeal.cfg0.N := by
  funext i
  obtain ⟨k, o, rfl⟩ : ∃ (k : Fin 15360) (o : Fin 2560), i = ix2 k o := ⟨i 0, i 1, by funext x; fin_cases x <;> rfl⟩
  have e : (shapeCast Cert.ReferenceXIdeal.S15360x2560 (Cert.ReferenceXIdeal.Value.res_main_v94 V)
      Cert.ReferenceXIdeal.Gen.shapeCasts_S5x3072x2560_S15360x2560 : IVec S15360x2560 8) (ix2 k o)
      = Cert.ReferenceXIdeal.Value.res_main_v94 V (ix3 ⟨k.val / 3072, by omega⟩ ⟨k.val % 3072, by omega⟩ o) := by
    pointwise
  refine e.trans ((Cert.ReferenceXIdeal.Value.v94_val (reference_rot a h) _ _ _).trans ?_)
  have ek : k.val / 3072 * 3072 + k.val % 3072 = k.val := by omega
  show xcodeByte _ (k.val / 3072 * 3072 + k.val % 3072) o.val = _
  rw [ek]
  exact (Cert.KernelXIdeal.Value.codes_val h k o).symm

/-- The groups' scales agree. -/
theorem scales (a : Agree V m c) (h : AllFair (rotX m c)) :
    (shapeCast Cert.ReferenceXIdeal.S960x2560 (Cert.ReferenceXIdeal.Value.res_main_v97 V)
      Cert.ReferenceXIdeal.Gen.shapeCasts_S5x192x2560_S960x2560 : IVec S960x2560 8)
      = (Cert.KernelXIdeal.Gen.dats m 0 c).arrAt 3 Cert.KernelXIdeal.cfg0.N := by
  funext i
  obtain ⟨k, o, rfl⟩ : ∃ (k : Fin 960) (o : Fin 2560), i = ix2 k o := ⟨i 0, i 1, by funext x; fin_cases x <;> rfl⟩
  have e : (shapeCast Cert.ReferenceXIdeal.S960x2560 (Cert.ReferenceXIdeal.Value.res_main_v97 V)
      Cert.ReferenceXIdeal.Gen.shapeCasts_S5x192x2560_S960x2560 : IVec S960x2560 8) (ix2 k o)
      = Cert.ReferenceXIdeal.Value.res_main_v97 V (ix3 ⟨k.val / 192, by omega⟩ ⟨k.val % 192, by omega⟩ o) := by
    pointwise
  refine e.trans ((Cert.ReferenceXIdeal.Value.v97_val (reference_rot a h) _ _ _).trans ?_)
  have ek : k.val / 192 * 192 + k.val % 192 = k.val := by omega
  show xscaleByte _ (k.val / 192 * 192 + k.val % 192) o.val = _
  rw [ek]
  exact (Cert.KernelXIdeal.Value.scales_val h k o).symm

/-- The values read back agree. -/
theorem values (a : Agree V m c) (h : AllFair (rotX m c)) :
    Cert.ReferenceXIdeal.Value.refXt V = (Cert.KernelXIdeal.Gen.dats m 0 c).arrAt 4 Cert.KernelXIdeal.cfg0.N := by
  funext i
  obtain ⟨o, k, rfl⟩ : ∃ (o : Fin 2560) (k : Fin 30720), i = ix2 o k := ⟨i 0, i 1, by funext x; fin_cases x <;> rfl⟩
  exact (Cert.ReferenceXIdeal.Value.refXt_val (reference_rot a h) o k).trans (Cert.KernelXIdeal.Value.xt_val h o k).symm

end Cert.ResultX

end

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import proofs.«01_k».proof.Proof.XResult
public import proofs.«01_k».proof.Proof.Gen.KernelX
public import proofs.«01_k».proof.Proof.Gen.KernelX.Frame
public import proofs.«01_k».proof.Proof.Gen.KernelXIdeal
public import proofs.«01_k».proof.Proof.Gen.KernelXIdeal.Frame
public import proofs.«01_k».proof.Proof.Gen.KernelXIdeal.Value
public import proofs.«01_k».proof.Proof.Gen.ReferenceXIdeal
public import proofs.«01_k».proof.Proof.Gen.ReferenceXIdeal.Run
public import Idealize.ShloMosaic.Adequacy
public import Idealize.ShloMosaic.Init

@[expose] public section

set_option maxRecDepth 16384

noncomputable section

namespace Cert.Proof

open Idealize.ShloMosaic Idealize.SL.Sem

/-- The kernel runs, its arguments unchanged and every counter at zero at the end. -/
theorem frame_k : Cert.quiescent_Kernel := fun m ρ _ => Cert.Kernel.Gen.frame m ρ

/-- So does its idealization, -/
theorem frame_ki : Cert.quiescent_KernelIdeal := fun m ρ _ => Cert.KernelIdeal.Gen.frame m ρ

/-- under the precondition too. -/
theorem frame_ki_tame : Cert.quiescent_KernelIdeal_pre_tame := fun m ρ _ => Cert.KernelIdeal.Gen.frame m ρ

/-- The reference's run, read at its arguments; it has no semaphore. -/
theorem frame_r : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- the same under the precondition -/
theorem frame_r_tame : Cert.quiescent_ReferenceIdeal_pre_tame := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The idealization is the kernel itself: nothing was rewritten. -/
theorem preserves : Cert.preserves_Kernel_KernelIdeal := trivial

/-- The weight gradient, the codes and the scales of the kernel are the reference's. -/
theorem algebraic : Cert.algebraic_KernelIdeal_ReferenceIdeal_pre_tame := by
  intro m ρ m' ρ' hpre hagree
  refine ⟨fun c => Cert.KernelIdeal.Value.G6 m c, fun c => Cert.KernelIdeal.Value.G4 m c,
    fun c => Cert.KernelIdeal.Value.G5 m c, ?_, ?_⟩
  · exact (θ_run Cert.KernelIdeal.defs _ _).mono
      (fun _ h c => ⟨(h c).2.2.1, (h c).1, (h c).2.1, (h c).2.2.2⟩)
      (Cert.KernelIdeal.Value.run (F := Ideal) m ρ)
  · refine (θ_run Cert.ReferenceIdeal.defs _ _).mono (fun _ h c => ?_) (Cert.ReferenceIdeal.Value.run (F := Ideal) m' ρ')
    have hk : Cert.KernelIdeal.Value.IsRot m c (Cert.Result.rho m c) := Cert.Result.kernel_rot (hpre c)
    have ha : Cert.Result.Agree (StableHlo.launchContents m' c) m c :=
      ⟨(hagree c).1, (hagree c).2.1, (hagree c).2.2.1, (hagree c).2.2.2⟩
    exact ⟨(h c).1.trans (Cert.Result.grads ha hk), (h c).2.1.trans (Cert.Result.codes ha hk),
      (h c).2.2.1.trans (Cert.Result.scales ha hk), (h c).2.2.2⟩

/-! The same of the activations' kernel -/

/-- The activations' kernel runs, its arguments unchanged and every counter at zero at the end. -/
theorem frame_kx : Cert.quiescent_KernelX := fun m ρ _ => Cert.KernelX.Gen.frame m ρ

/-- So does its idealization, -/
theorem frame_kxi : Cert.quiescent_KernelXIdeal := fun m ρ _ => Cert.KernelXIdeal.Gen.frame m ρ

/-- under the precondition too. -/
theorem frame_kxi_tame : Cert.quiescent_KernelXIdeal_pre_tame_x := fun m ρ _ => Cert.KernelXIdeal.Gen.frame m ρ

/-- The reference's run, read at its arguments; it has no semaphore. -/
theorem frame_rx : Cert.quiescent_ReferenceXIdeal := fun m ρ _ =>
  (θ_run Cert.ReferenceXIdeal.defs _ _).mono
    (fun r h => ⟨fun c => (h c).2.2.2, Idealize.ShloMosaic.sem_eq_zero_of_no_sems (by decide) r.2⟩)
    (Cert.ReferenceXIdeal.Value.run (F := Ideal) m ρ)

/-- the same under the precondition -/
theorem frame_rx_tame : Cert.quiescent_ReferenceXIdeal_pre_tame_x := fun m ρ _ =>
  (θ_run Cert.ReferenceXIdeal.defs _ _).mono
    (fun r h => ⟨fun c => (h c).2.2.2, Idealize.ShloMosaic.sem_eq_zero_of_no_sems (by decide) r.2⟩)
    (Cert.ReferenceXIdeal.Value.run (F := Ideal) m ρ)

/-- The idealization is the kernel itself: nothing was rewritten. -/
theorem preserves_x : Cert.preserves_KernelX_KernelXIdeal := trivial

/-- The values read back, the codes and the scales of the kernel are the reference's. -/
theorem algebraic_x : Cert.algebraic_KernelXIdeal_ReferenceXIdeal_pre_tame_x := by
  intro m ρ m' ρ' hpre hagree
  refine ⟨fun c => (Cert.KernelXIdeal.Gen.dats m 0 c).arrAt 4 Cert.KernelXIdeal.cfg0.N,
    fun c => (Cert.KernelXIdeal.Gen.dats m 0 c).arrAt 2 Cert.KernelXIdeal.cfg0.N,
    fun c => (Cert.KernelXIdeal.Gen.dats m 0 c).arrAt 3 Cert.KernelXIdeal.cfg0.N, ?_, ?_⟩
  · exact (θ_run Cert.KernelXIdeal.defs _ _).mono
      (fun _ h c => ⟨(h c).2.2.1, (h c).1, (h c).2.1, (h c).2.2.2⟩)
      (Cert.KernelXIdeal.Value.run_blocks (F := Ideal) m ρ)
  · refine (θ_run Cert.ReferenceXIdeal.defs _ _).mono (fun _ h c => ?_) (Cert.ReferenceXIdeal.Value.run (F := Ideal) m' ρ')
    have ha : Cert.ResultX.Agree (StableHlo.launchContents m' c) m c := ⟨(hagree c).1, (hagree c).2⟩
    have hk : Cert.Mx.AllFair (Cert.KernelXIdeal.Value.rotX m c) := Cert.ResultX.fair ha (hpre c)
    exact ⟨(h c).1.trans (Cert.ResultX.values ha hk), (h c).2.1.trans (Cert.ResultX.codes ha hk),
      (h c).2.2.1.trans (Cert.ResultX.scales ha hk), (h c).2.2.2⟩

theorem claim : Cert.Claim :=
  ⟨Cert.Kernel.Gen.facts, Cert.KernelIdeal.Gen.facts, Cert.ReferenceIdeal.Gen.facts,
    Cert.KernelX.Gen.facts, Cert.KernelXIdeal.Gen.facts, Cert.ReferenceXIdeal.Gen.facts, Cert.Pre_tame.facts, Cert.Pre_tame_x.facts,
    frame_k, frame_ki, frame_ki_tame, frame_r, frame_r_tame, frame_kx, frame_kxi, frame_kxi_tame, frame_rx, frame_rx_tame,
    preserves, algebraic, preserves_x, algebraic_x⟩

end Cert.Proof

end
